-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7)
      ∧ r.2.mem ((c.tc : Thread Cert.Attention.nD Cert.Attention.τ).loc Cert.Attention.main_arg8) = m ((c.tc : Thread Cert.Attention.nD Cert.Attention.τ).loc Cert.Attention.main_arg8)
      ∧ r.2.mem ((c.tc : Thread Cert.Attention.nD Cert.Attention.τ).loc Cert.Attention.main_arg9) = m ((c.tc : Thread Cert.Attention.nD Cert.Attention.τ).loc Cert.Attention.main_arg9)
      ∧ r.2.mem ((c.tc : Thread Cert.Attention.nD Cert.Attention.τ).loc Cert.Attention.main_arg10) = m ((c.tc : Thread Cert.Attention.nD Cert.Attention.τ).loc Cert.Attention.main_arg10))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_v4_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Attention_AttentionIdeal : Prop :=
  True

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts),
    quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ preserves_Kernel_KernelIdeal
    ∧ algebraic_KernelIdeal_ReferenceIdeal (hKernelIdeal := hKernelIdeal) (hReferenceIdeal := hReferenceIdeal)
    ∧ preserves_Attention_AttentionIdeal
-- ==== Kernel.lean ====
abbrev S1024x1536 : Shape := ⟨2, ![1024, 1536]⟩
abbrev S2x1536x512 : Shape := ⟨3, ![2, 1536, 512]⟩
abbrev S2x512 : Shape := ⟨2, ![2, 512]⟩
abbrev S2x1536 : Shape := ⟨2, ![2, 1536]⟩
abbrev S1536 : Shape := ⟨1, ![1536]⟩
abbrev S24x64x1536 : Shape := ⟨3, ![24, 64, 1536]⟩
abbrev S1536x8192 : Shape := ⟨2, ![1536, 8192]⟩
abbrev S8192 : Shape := ⟨1, ![8192]⟩
abbrev S4096x1536 : Shape := ⟨2, ![4096, 1536]⟩
abbrev S2x2048x1536 : Shape := ⟨3, ![2, 2048, 1536]⟩
abbrev S2x2048x12 : Shape := ⟨3, ![2, 2048, 12]⟩
abbrev S1x1536 : Shape := ⟨2, ![1, 1536]⟩
abbrev S1536x1536 : Shape := ⟨2, ![1536, 1536]⟩
abbrev S1x8192 : Shape := ⟨2, ![1, 8192]⟩
abbrev S12x2x2048 : Shape := ⟨3, ![12, 2, 2048]⟩
abbrev S1024x4096 : Shape := ⟨2, ![1024, 4096]⟩
abbrev S12x2x512 : Shape := ⟨3, ![12, 2, 512]⟩
abbrev S256x1536 : Shape := ⟨2, ![256, 1536]⟩
abbrev S1x1536x256 : Shape := ⟨3, ![1, 1536, 256]⟩
abbrev S12x2x1024 : Shape := ⟨3, ![12, 2, 1024]⟩
abbrev S256x4096 : Shape := ⟨2, ![256, 4096]⟩
abbrev S1x256 : Shape := ⟨2, ![1, 256]⟩
abbrev S128x256 : Shape := ⟨2, ![128, 256]⟩
abbrev S256x128 : Shape := ⟨2, ![256, 128]⟩
abbrev S256x1 : Shape := ⟨2, ![256, 1]⟩
abbrev S1536x256 : Shape := ⟨2, ![1536, 256]⟩
abbrev S256 : Shape := ⟨1, ![256]⟩
abbrev S1536x512 : Shape := ⟨2, ![1536, 512]⟩
abbrev S256x512 : Shape := ⟨2, ![256, 512]⟩
abbrev S1x512 : Shape := ⟨2, ![1, 512]⟩
abbrev S512x1536 : Shape := ⟨2, ![512, 1536]⟩
abbrev S1x1x256 : Shape := ⟨3, ![1, 1, 256]⟩
abbrev S1x1x1024 : Shape := ⟨3, ![1, 1, 1024]⟩
abbrev S1x1024 : Shape := ⟨2, ![1, 1024]⟩
abbrev S128x1024 : Shape := ⟨2, ![128, 1024]⟩
abbrev S1024x128 : Shape := ⟨2, ![1024, 128]⟩

abbrev nBuf : Space → Nat
  | .hbm => 32
  | .vmem => 35
  | .smem => 0
  | _ => 0

abbrev bufTy : (tb : Table) → Fin (tcTables nBuf tb) → BufTy
  | .hbm, ⟨0, _⟩ => ⟨S1024x1536, .bf16⟩
  | .hbm, ⟨1, _⟩ => ⟨S2x1536x512, .fp8e4m3⟩
  | .hbm, ⟨2, _⟩ => ⟨S2x512, .f32⟩
  | .hbm, ⟨3, _⟩ => ⟨S2x1536, .f32⟩
  | .hbm, ⟨4, _⟩ => ⟨S2x1536, .f32⟩
  | .hbm, ⟨5, _⟩ => ⟨S2x1536, .f32⟩
  | .hbm, ⟨6, _⟩ => ⟨S1536, .f32⟩
  | .hbm, ⟨7, _⟩ => ⟨S24x64x1536, .fp8e4m3⟩
  | .hbm, ⟨8, _⟩ => ⟨S1536, .f32⟩
  | .hbm, ⟨9, _⟩ => ⟨S1536x8192, .fp8e4m3⟩
  | .hbm, ⟨10, _⟩ => ⟨S8192, .f32⟩
  | .hbm, ⟨11, _⟩ => ⟨S4096x1536, .fp8e4m3⟩
  | .hbm, ⟨12, _⟩ => ⟨S1536, .f32⟩
  | .hbm, ⟨13, _⟩ => ⟨S2x2048x1536, .bf16⟩
  | .hbm, ⟨14, _⟩ => ⟨S2x2048x1536, .fp8e4m3⟩
  | .hbm, ⟨15, _⟩ => ⟨S2x2048x12, .f32⟩
  | .hbm, ⟨16, _⟩ => ⟨S4096x1536, .bf16⟩
  | .hbm, ⟨17, _⟩ => ⟨S1x1536, .f32⟩
  | .hbm, ⟨18, _⟩ => ⟨S1536x1536, .fp8e4m3⟩
  | .hbm, ⟨19, _⟩ => ⟨S1x1536, .f32⟩
  | .hbm, ⟨20, _⟩ => ⟨S1x8192, .f32⟩
  | .hbm, ⟨21, _⟩ => ⟨S1x1536, .f32⟩
  | .hbm, ⟨22, _⟩ => ⟨S4096x1536, .fp8e4m3⟩
  | .hbm, ⟨23, _⟩ => ⟨S12x2x2048, .f32⟩
  | .hbm, ⟨24, _⟩ => ⟨S1024x1536, .bf16⟩
  | .hbm, ⟨25, _⟩ => ⟨S4096x1536, .bf16⟩
  | .hbm, ⟨26, _⟩ => ⟨S1024x1536, .fp8e4m3⟩
  | .hbm, ⟨27, _⟩ => ⟨S2x512, .f32⟩
  | .hbm, ⟨28, _⟩ => ⟨S1024x4096, .fp8e4m3⟩
  | .hbm, ⟨29, _⟩ => ⟨S2x512, .f32⟩
  | .hbm, ⟨30, _⟩ => ⟨S1024x1536, .fp8e4m3⟩
  | .hbm, ⟨31, _⟩ => ⟨S12x2x512, .f32⟩
  | .local _ .vmem, ⟨0, _⟩ => ⟨S256x1536, .bf16⟩
  | .local _ .vmem, ⟨1, _⟩ => ⟨S256x1536, .bf16⟩
  | .local _ .vmem, ⟨2, _⟩ => ⟨S1x1536x256, .fp8e4m3⟩
  | .local _ .vmem, ⟨3, _⟩ => ⟨S1x1536x256, .fp8e4m3⟩
  | .local _ .vmem, ⟨4, _⟩ => ⟨S2x512, .f32⟩
  | .local _ .vmem, ⟨5, _⟩ => ⟨S2x1536, .f32⟩
  | .local _ .vmem, ⟨6, _⟩ => ⟨S2x1536, .f32⟩
  | .local _ .vmem, ⟨7, _⟩ => ⟨S2x1536, .f32⟩
  | .local _ .vmem, ⟨8, _⟩ => ⟨S1x1536, .f32⟩
  | .local _ .vmem, ⟨9, _⟩ => ⟨S1536x1536, .fp8e4m3⟩
  | .local _ .vmem, ⟨10, _⟩ => ⟨S1x1536, .f32⟩
  | .local _ .vmem, ⟨11, _⟩ => ⟨S1536x8192, .fp8e4m3⟩
  | .local _ .vmem, ⟨12, _⟩ => ⟨S1x8192, .f32⟩
  | .local _ .vmem, ⟨13, _⟩ => ⟨S4096x1536, .fp8e4m3⟩
  | .local _ .vmem, ⟨14, _⟩ => ⟨S1x1536, .f32⟩
  | .local _ .vmem, ⟨15, _⟩ => ⟨S1024x1536, .bf16⟩
  | .local _ .vmem, ⟨16, _⟩ => ⟨S1024x1536, .bf16⟩
  | .local _ .vmem, ⟨17, _⟩ => ⟨S1024x1536, .fp8e4m3⟩
  | .local _ .vmem, ⟨18, _⟩ => ⟨S1024x1536, .fp8e4m3⟩
  | .local _ .vmem, ⟨19, _⟩ => ⟨S12x2x1024, .f32⟩
  | .local _ .vmem, ⟨20, _⟩ => ⟨S12x2x1024, .f32⟩
  | .local _ .vmem, ⟨21, _⟩ => ⟨S256x1536, .bf16⟩
  | .local _ .vmem, ⟨22, _⟩ => ⟨S256x1536, .bf16⟩
  | .local _ .vmem, ⟨23, _⟩ => ⟨S1024x1536, .bf16⟩
  | .local _ .vmem, ⟨24, _⟩ => ⟨S1024x1536, .bf16⟩
  | .local _ .vmem, ⟨25, _⟩ => ⟨S256x1536, .fp8e4m3⟩
  | .local _ .vmem, ⟨26, _⟩ => ⟨S256x1536, .fp8e4m3⟩
  | .local _ .vmem, ⟨27, _⟩ => ⟨S2x512, .f32⟩
  | .local _ .vmem, ⟨28, _⟩ => ⟨S256x4096, .fp8e4m3⟩
  | .local _ .vmem, ⟨29, _⟩ => ⟨S256x4096, .fp8e4m3⟩
  | .local _ .vmem, ⟨30, _⟩ => ⟨S2x512, .f32⟩
  | .local _ .vmem, ⟨31, _⟩ => ⟨S256x1536, .fp8e4m3⟩
  | .local _ .vmem, ⟨32, _⟩ => ⟨S256x1536, .fp8e4m3⟩
  | .local _ .vmem, ⟨33, _⟩ => ⟨S12x2x512, .f32⟩
  | .local _ .vmem, ⟨34, _⟩ => ⟨S256x4096, .f32⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_v8_6 : Ref sig .tc := ⟨.hbm, 30, rfl⟩
abbrev main_v8_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem22_0 : DmaSem sig := 31
abbrev cc0_sem22_1 : DmaSem sig := 32
abbrev cc0_sem23_0 : DmaSem sig := 33

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v30 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v31 : Index := Scalar.indexCast v27
  ![v30.toNat, v31.toNat]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v48 : Index := Scalar.indexCast v16
  let c0_18 : Index := 0#32
  ![v48.toNat, 0]
def k0_off3 (i : grid0.Coords) : Fin 3 → Nat :=
  let c0_224 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v517 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v518 : Index := Scalar.indexCast v27
  ![0, v517.toNat, v518.toNat]
def k0_off4 (i : grid0.Coords) : Fin 3 → Nat :=
  let c1 : Index := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v613 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v614 : Index := Scalar.indexCast v27
  ![1, v613.toNat, v614.toNat]
def k0_off5 (i : grid0.Coords) : Fin 3 → Nat :=
  let c2 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v709 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v710 : Index := Scalar.indexCast v27
  ![2, v709.toNat, v710.toNat]
def k0_off6 (i : grid0.Coords) : Fin 3 → Nat :=
  let c3 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v805 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v806 : Index := Scalar.indexCast v27
  ![3, v805.toNat, v806.toNat]
def k0_off7 (i : grid0.Coords) : Fin 3 → Nat :=
  let c4 : Index := 4#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v901 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v902 : Index := Scalar.indexCast v27
  ![4, v901.toNat, v902.toNat]
def k0_off8 (i : grid0.Coords) : Fin 3 → Nat :=
  let c5 : Index := 5#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v997 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v998 : Index := Scalar.indexCast v27
  ![5, v997.toNat, v998.toNat]
def k0_off9 (i : grid0.Coords) : Fin 3 → Nat :=
  let c6 : Index := 6#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1093 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v1094 : Index := Scalar.indexCast v27
  ![6, v1093.toNat, v1094.toNat]
def k0_off10 (i : grid0.Coords) : Fin 3 → Nat :=
  let c7 : Index := 7#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1189 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v1190 : Index := Scalar.indexCast v27
  ![7, v1189.toNat, v1190.toNat]
def k0_off11 (i : grid0.Coords) : Fin 3 → Nat :=
  let c8 : Index := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1285 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v1286 : Index := Scalar.indexCast v27
  ![8, v1285.toNat, v1286.toNat]
def k0_off12 (i : grid0.Coords) : Fin 3 → Nat :=
  let c9 : Index := 9#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1381 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v1382 : Index := Scalar.indexCast v27
  ![9, v1381.toNat, v1382.toNat]
def k0_off13 (i : grid0.Coords) : Fin 3 → Nat :=
  let c10 : Index := 10#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1477 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v1478 : Index := Scalar.indexCast v27
  ![10, v1477.toNat, v1478.toNat]
def k0_off14 (i : grid0.Coords) : Fin 3 → Nat :=
  let c11 : Index := 11#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1573 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c256_i32 : BitVec 32 := 256#32
  let v27 : BitVec 32 := Scalar.muli v26 c256_i32
  let v1574 : Index := Scalar.indexCast v27
  ![11, v1573.toNat, v1574.toNat]
def k0_off15 (i : grid0.Coords) : Fin 3 → Nat :=
  let c0_546 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1578 : Index := Scalar.indexCast v16
  let c0_547 : Index := 0#32
  ![0, v1578.toNat, 0]
def k0_off16 (i : grid0.Coords) : Fin 3 → Nat :=
  let c1_554 : Index := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1594 : Index := Scalar.indexCast v16
  let c0_555 : Index := 0#32
  ![1, v1594.toNat, 0]
def k0_off17 (i : grid0.Coords) : Fin 3 → Nat :=
  let c2_562 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1610 : Index := Scalar.indexCast v16
  let c0_563 : Index := 0#32
  ![2, v1610.toNat, 0]
def k0_off18 (i : grid0.Coords) : Fin 3 → Nat :=
  let c3_570 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1626 : Index := Scalar.indexCast v16
  let c0_571 : Index := 0#32
  ![3, v1626.toNat, 0]
def k0_off19 (i : grid0.Coords) : Fin 3 → Nat :=
  let c4_578 : Index := 4#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1642 : Index := Scalar.indexCast v16
  let c0_579 : Index := 0#32
  ![4, v1642.toNat, 0]
def k0_off20 (i : grid0.Coords) : Fin 3 → Nat :=
  let c5_586 : Index := 5#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1658 : Index := Scalar.indexCast v16
  let c0_587 : Index := 0#32
  ![5, v1658.toNat, 0]
def k0_off21 (i : grid0.Coords) : Fin 3 → Nat :=
  let c6_594 : Index := 6#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1674 : Index := Scalar.indexCast v16
  let c0_595 : Index := 0#32
  ![6, v1674.toNat, 0]
def k0_off22 (i : grid0.Coords) : Fin 3 → Nat :=
  let c7_602 : Index := 7#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1690 : Index := Scalar.indexCast v16
  let c0_603 : Index := 0#32
  ![7, v1690.toNat, 0]
def k0_off23 (i : grid0.Coords) : Fin 3 → Nat :=
  let c8_610 : Index := 8#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1706 : Index := Scalar.indexCast v16
  let c0_611 : Index := 0#32
  ![8, v1706.toNat, 0]
def k0_off24 (i : grid0.Coords) : Fin 3 → Nat :=
  let c9_618 : Index := 9#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1722 : Index := Scalar.indexCast v16
  let c0_619 : Index := 0#32
  ![9, v1722.toNat, 0]
def k0_off25 (i : grid0.Coords) : Fin 3 → Nat :=
  let c10_626 : Index := 10#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1738 : Index := Scalar.indexCast v16
  let c0_627 : Index := 0#32
  ![10, v1738.toNat, 0]
def k0_off26 (i : grid0.Coords) : Fin 3 → Nat :=
  let c11_634 : Index := 11#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v1754 : Index := Scalar.indexCast v16
  let c0_635 : Index := 0#32
  ![11, v1754.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, c0_i32_4.toNat, v9.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1536 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S12x2x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1536 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1536 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x4096 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S2x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1536 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S12x2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceIdeal.lean ====
abbrev S1024x1536 : Shape := ⟨2, ![1024, 1536]⟩
abbrev S2x1536x512 : Shape := ⟨3, ![2, 1536, 512]⟩
abbrev S2x512 : Shape := ⟨2, ![2, 512]⟩
abbrev S2x1536 : Shape := ⟨2, ![2, 1536]⟩
abbrev S1536 : Shape := ⟨1, ![1536]⟩
abbrev S24x64x1536 : Shape := ⟨3, ![24, 64, 1536]⟩
abbrev S1536x8192 : Shape := ⟨2, ![1536, 8192]⟩
abbrev S8192 : Shape := ⟨1, ![8192]⟩
abbrev S4096x1536 : Shape := ⟨2, ![4096, 1536]⟩
abbrev S2x2048x1536 : Shape := ⟨3, ![2, 2048, 1536]⟩
abbrev S2x2048x12 : Shape := ⟨3, ![2, 2048, 12]⟩
abbrev S2x512x1536 : Shape := ⟨3, ![2, 512, 1536]⟩
abbrev S1536x1536 : Shape := ⟨2, ![1536, 1536]⟩
abbrev S1024x4096 : Shape := ⟨2, ![1024, 4096]⟩
abbrev S12x2x512 : Shape := ⟨3, ![12, 2, 512]⟩
abbrev S2x512x1 : Shape := ⟨3, ![2, 512, 1]⟩
abbrev S1x1x1536 : Shape := ⟨3, ![1, 1, 1536]⟩
abbrev S2x1x1536 : Shape := ⟨3, ![2, 1, 1536]⟩
abbrev S1024x8192 : Shape := ⟨2, ![1024, 8192]⟩
abbrev S2x512x8192 : Shape := ⟨3, ![2, 512, 8192]⟩
abbrev S1x1x8192 : Shape := ⟨3, ![1, 1, 8192]⟩
abbrev S2x512x4096 : Shape := ⟨3, ![2, 512, 4096]⟩
abbrev S2x512x12x128 : Shape := ⟨4, ![2, 512, 12, 128]⟩
abbrev S2x512x12 : Shape := ⟨3, ![2, 512, 12]⟩
abbrev S2x512x12x255 : Shape := ⟨4, ![2, 512, 12, 255]⟩
abbrev S2x512x12x1 : Shape := ⟨4, ![2, 512, 12, 1]⟩
abbrev S4096x12x128 : Shape := ⟨3, ![4096, 12, 128]⟩
abbrev S4096x12 : Shape := ⟨2, ![4096, 12]⟩
abbrev S4096x12x1 : Shape := ⟨3, ![4096, 12, 1]⟩

abbrev nBuf : Space → Nat
  | .hbm => 28
  | .vmem => 24
  | .smem => 0
  | _ => 0

abbrev bufTy : (tb : Table) → Fin (tcTables nBuf tb) → BufTy
  | .hbm, ⟨0, _⟩ => ⟨S1024x1536, .bf16⟩
  | .hbm, ⟨1, _⟩ => ⟨S2x1536x512, .fp8e4m3⟩
  | .hbm, ⟨2, _⟩ => ⟨S2x512, .f32⟩
  | .hbm, ⟨3, _⟩ => ⟨S2x1536, .f32⟩
  | .hbm, ⟨4, _⟩ => ⟨S2x1536, .f32⟩
  | .hbm, ⟨5, _⟩ => ⟨S2x1536, .f32⟩
  | .hbm, ⟨6, _⟩ => ⟨S1536, .f32⟩
  | .hbm, ⟨7, _⟩ => ⟨S24x64x1536, .fp8e4m3⟩
  | .hbm, ⟨8, _⟩ => ⟨S1536, .f32⟩
  | .hbm, ⟨9, _⟩ => ⟨S1536x8192, .fp8e4m3⟩
  | .hbm, ⟨10, _⟩ => ⟨S8192, .f32⟩
  | .hbm, ⟨11, _⟩ => ⟨S4096x1536, .fp8e4m3⟩
  | .hbm, ⟨12, _⟩ => ⟨S1536, .f32⟩
  | .hbm, ⟨13, _⟩ => ⟨S2x2048x1536, .bf16⟩
  | .hbm, ⟨14, _⟩ => ⟨S2x2048x1536, .fp8e4m3⟩
  | .hbm, ⟨15, _⟩ => ⟨S2x2048x12, .f32⟩
  | .hbm, ⟨16, _⟩ => ⟨S2x512x1536, .fp8e4m3⟩
  | .hbm, ⟨17, _⟩ => ⟨S1536x1536, .fp8e4m3⟩
  | .hbm, ⟨18, _⟩ => ⟨S4096x1536, .bf16⟩
  | .hbm, ⟨19, _⟩ => ⟨S4096x1536, .fp8e4m3⟩
  | .hbm, ⟨20, _⟩ => ⟨S1024x1536, .bf16⟩
  | .hbm, ⟨21, _⟩ => ⟨S4096x1536, .bf16⟩
  | .hbm, ⟨22, _⟩ => ⟨S1024x1536, .fp8e4m3⟩
  | .hbm, ⟨23, _⟩ => ⟨S2x512, .f32⟩
  | .hbm, ⟨24, _⟩ => ⟨S1024x4096, .fp8e4m3⟩
  | .hbm, ⟨25, _⟩ => ⟨S2x512, .f32⟩
  | .hbm, ⟨26, _⟩ => ⟨S1024x1536, .fp8e4m3⟩
  | .hbm, ⟨27, _⟩ => ⟨S12x2x512, .f32⟩
  | .local _ .vmem, ⟨0, _⟩ => ⟨S1024x1536, .bf16⟩
  | .local _ .vmem, ⟨1, _⟩ => ⟨S2x512x1536, .fp8e4m3⟩
  | .local _ .vmem, ⟨2, _⟩ => ⟨S2x512, .f32⟩
  | .local _ .vmem, ⟨3, _⟩ => ⟨S2x1536, .f32⟩
  | .local _ .vmem, ⟨4, _⟩ => ⟨S2x1536, .f32⟩
  | .local _ .vmem, ⟨5, _⟩ => ⟨S2x1536, .f32⟩
  | .local _ .vmem, ⟨6, _⟩ => ⟨S1536, .f32⟩
  | .local _ .vmem, ⟨7, _⟩ => ⟨S1536x1536, .fp8e4m3⟩
  | .local _ .vmem, ⟨8, _⟩ => ⟨S1536, .f32⟩
  | .local _ .vmem, ⟨9, _⟩ => ⟨S1536x8192, .fp8e4m3⟩
  | .local _ .vmem, ⟨10, _⟩ => ⟨S8192, .f32⟩
  | .local _ .vmem, ⟨11, _⟩ => ⟨S4096x1536, .fp8e4m3⟩
  | .local _ .vmem, ⟨12, _⟩ => ⟨S1536, .f32⟩
  | .local _ .vmem, ⟨13, _⟩ => ⟨S4096x1536, .bf16⟩
  | .local _ .vmem, ⟨14, _⟩ => ⟨S4096x1536, .fp8e4m3⟩
  | .local _ .vmem, ⟨15, _⟩ => ⟨S2x2048x12, .f32⟩
  | .local _ .vmem, ⟨16, _⟩ => ⟨S1024x1536, .bf16⟩
  | .local _ .vmem, ⟨17, _⟩ => ⟨S4096x1536, .bf16⟩
  | .local _ .vmem, ⟨18, _⟩ => ⟨S1024x1536, .fp8e4m3⟩
  | .local _ .vmem, ⟨19, _⟩ => ⟨S2x512, .f32⟩
  | .local _ .vmem, ⟨20, _⟩ => ⟨S1024x4096, .fp8e4m3⟩
  | .local _ .vmem, ⟨21, _⟩ => ⟨S2x512, .f32⟩
  | .local _ .vmem, ⟨22, _⟩ => ⟨S1024x1536, .fp8e4m3⟩
  | .local _ .vmem, ⟨23, _⟩ => ⟨S12x2x512, .f32⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x2048x12 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4096x1536 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x1536 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x4096 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1024x1536 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S12x2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Attention.lean ====
abbrev S2x512 : Shape := ⟨2, ![2, 512]⟩
abbrev S2x2048 : Shape := ⟨2, ![2, 2048]⟩
abbrev S2x1536x512 : Shape := ⟨3, ![2, 1536, 512]⟩
abbrev S2x512x512 : Shape := ⟨3, ![2, 512, 512]⟩
abbrev S2x8x512 : Shape := ⟨3, ![2, 8, 512]⟩
abbrev S2x2048x8x64 : Shape := ⟨4, ![2, 2048, 8, 64]⟩
abbrev S2x2048x8 : Shape := ⟨3, ![2, 2048, 8]⟩
abbrev S2x8x64x2048 : Shape := ⟨4, ![2, 8, 64, 2048]⟩
abbrev S2x512x2048 : Shape := ⟨3, ![2, 512, 2048]⟩
abbrev S2x8x2048 : Shape := ⟨3, ![2, 8, 2048]⟩
abbrev S1x192x512 : Shape := ⟨3, ![1, 192, 512]⟩
abbrev S1x512x512 : Shape := ⟨3, ![1, 512, 512]⟩
abbrev S1x8x512 : Shape := ⟨3, ![1, 8, 512]⟩
abbrev S1x512x2048 : Shape := ⟨3, ![1, 512, 2048]⟩
abbrev S1x8x2048 : Shape := ⟨3, ![1, 8, 2048]⟩
abbrev S1x1536x512 : Shape := ⟨3, ![1, 1536, 512]⟩
abbrev S8x2048x64 : Shape := ⟨3, ![8, 2048, 64]⟩
abbrev S512x2048 : Shape := ⟨2, ![512, 2048]⟩
abbrev S16x2048 : Shape := ⟨2, ![16, 2048]⟩
abbrev S2048x128 : Shape := ⟨2, ![2048, 128]⟩
abbrev S2048x256 : Shape := ⟨2, ![2048, 256]⟩
abbrev S1536x512 : Shape := ⟨2, ![1536, 512]⟩
abbrev S1x512 : Shape := ⟨2, ![1, 512]⟩
abbrev S512x512 : Shape := ⟨2, ![512, 512]⟩
abbrev S8x512 : Shape := ⟨2, ![8, 512]⟩
abbrev S16x512 : Shape := ⟨2, ![16, 512]⟩
abbrev S48x512 : Shape := ⟨2, ![48, 512]⟩
abbrev S256x256 : Shape := ⟨2, ![256, 256]⟩
abbrev S256x512 : Shape := ⟨2, ![256, 512]⟩
abbrev S1x256 : Shape := ⟨2, ![1, 256]⟩
abbrev S1x512x256 : Shape := ⟨3, ![1, 512, 256]⟩
abbrev S512x256 : Shape := ⟨2, ![512, 256]⟩
abbrev S256x64 : Shape := ⟨2, ![256, 64]⟩
abbrev S1x256x64 : Shape := ⟨3, ![1, 256, 64]⟩
abbrev S48x256 : Shape := ⟨2, ![48, 256]⟩
abbrev S16x256 : Shape := ⟨2, ![16, 256]⟩
abbrev S1x8x256 : Shape := ⟨3, ![1, 8, 256]⟩
abbrev S8x256 : Shape := ⟨2, ![8, 256]⟩
abbrev S1x2048 : Shape := ⟨2, ![1, 2048]⟩
abbrev S128x2048 : Shape := ⟨2, ![128, 2048]⟩
abbrev S1x64x256 : Shape := ⟨3, ![1, 64, 256]⟩
abbrev S64x256 : Shape := ⟨2, ![64, 256]⟩
abbrev S256x128 : Shape := ⟨2, ![256, 128]⟩
abbrev S256 : Shape := ⟨1, ![256]⟩
abbrev S512 : Shape := ⟨1, ![512]⟩

abbrev nBuf : Space → Nat
  | .hbm => 19
  | .vmem => 30
  | .smem => 0
  | _ => 0

abbrev bufTy : (tb : Table) → Fin (tcTables nBuf tb) → BufTy
  | .hbm, ⟨0, _⟩ => ⟨S2x512, .i32⟩
  | .hbm, ⟨1, _⟩ => ⟨S2x2048, .i32⟩
  | .hbm, ⟨2, _⟩ => ⟨S2x1536x512, .bf16⟩
  | .hbm, ⟨3, _⟩ => ⟨S2x512x512, .fp8e4m3⟩
  | .hbm, ⟨4, _⟩ => ⟨S2x8x512, .f32⟩
  | .hbm, ⟨5, _⟩ => ⟨S2x512x512, .fp8e4m3⟩
  | .hbm, ⟨6, _⟩ => ⟨S2x8x512, .f32⟩
  | .hbm, ⟨7, _⟩ => ⟨S2x2048x8x64, .fp8e4m3⟩
  | .hbm, ⟨8, _⟩ => ⟨S2x2048x8x64, .fp8e4m3⟩
  | .hbm, ⟨9, _⟩ => ⟨S2x2048x8, .f32⟩
  | .hbm, ⟨10, _⟩ => ⟨S2x2048x8, .f32⟩
  | .hbm, ⟨11, _⟩ => ⟨S2x8x64x2048, .fp8e4m3⟩
  | .hbm, ⟨12, _⟩ => ⟨S2x512x2048, .fp8e4m3⟩
  | .hbm, ⟨13, _⟩ => ⟨S2x8x64x2048, .fp8e4m3⟩
  | .hbm, ⟨14, _⟩ => ⟨S2x512x2048, .fp8e4m3⟩
  | .hbm, ⟨15, _⟩ => ⟨S2x8x2048, .f32⟩
  | .hbm, ⟨16, _⟩ => ⟨S2x8x2048, .f32⟩
  | .hbm, ⟨17, _⟩ => ⟨S2x1536x512, .fp8e4m3⟩
  | .hbm, ⟨18, _⟩ => ⟨S2x512, .f32⟩
  | .local _ .vmem, ⟨0, _⟩ => ⟨S2x512, .i32⟩
  | .local _ .vmem, ⟨1, _⟩ => ⟨S2x2048, .i32⟩
  | .local _ .vmem, ⟨2, _⟩ => ⟨S1x192x512, .bf16⟩
  | .local _ .vmem, ⟨3, _⟩ => ⟨S1x192x512, .bf16⟩
  | .local _ .vmem, ⟨4, _⟩ => ⟨S1x512x512, .fp8e4m3⟩
  | .local _ .vmem, ⟨5, _⟩ => ⟨S1x512x512, .fp8e4m3⟩
  | .local _ .vmem, ⟨6, _⟩ => ⟨S1x8x512, .f32⟩
  | .local _ .vmem, ⟨7, _⟩ => ⟨S1x8x512, .f32⟩
  | .local _ .vmem, ⟨8, _⟩ => ⟨S1x512x512, .fp8e4m3⟩
  | .local _ .vmem, ⟨9, _⟩ => ⟨S1x512x512, .fp8e4m3⟩
  | .local _ .vmem, ⟨10, _⟩ => ⟨S1x8x512, .f32⟩
  | .local _ .vmem, ⟨11, _⟩ => ⟨S1x8x512, .f32⟩
  | .local _ .vmem, ⟨12, _⟩ => ⟨S1x512x2048, .fp8e4m3⟩
  | .local _ .vmem, ⟨13, _⟩ => ⟨S1x512x2048, .fp8e4m3⟩
  | .local _ .vmem, ⟨14, _⟩ => ⟨S1x8x2048, .f32⟩
  | .local _ .vmem, ⟨15, _⟩ => ⟨S1x8x2048, .f32⟩
  | .local _ .vmem, ⟨16, _⟩ => ⟨S1x512x2048, .fp8e4m3⟩
  | .local _ .vmem, ⟨17, _⟩ => ⟨S1x512x2048, .fp8e4m3⟩
  | .local _ .vmem, ⟨18, _⟩ => ⟨S1x8x2048, .f32⟩
  | .local _ .vmem, ⟨19, _⟩ => ⟨S1x8x2048, .f32⟩
  | .local _ .vmem, ⟨20, _⟩ => ⟨S1x1536x512, .fp8e4m3⟩
  | .local _ .vmem, ⟨21, _⟩ => ⟨S1x1536x512, .fp8e4m3⟩
  | .local _ .vmem, ⟨22, _⟩ => ⟨S2x512, .f32⟩
  | .local _ .vmem, ⟨23, _⟩ => ⟨S8x2048x64, .bf16⟩
  | .local _ .vmem, ⟨24, _⟩ => ⟨S512x2048, .bf16⟩
  | .local _ .vmem, ⟨25, _⟩ => ⟨S16x2048, .f32⟩
  | .local _ .vmem, ⟨26, _⟩ => ⟨S2048x128, .f32⟩
  | .local _ .vmem, ⟨27, _⟩ => ⟨S2048x128, .f32⟩
  | .local _ .vmem, ⟨28, _⟩ => ⟨S2048x256, .f32⟩
  | .local _ .vmem, ⟨29, _⟩ => ⟨S1536x512, .f32⟩
  | _, _ => ⟨S2x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v1525 : Index := Scalar.indexCast arg0
  let c0_804 : Index := 0#32
  ![v1525.toNat, 0]
def k0_off2 (i : grid0.Coords) : Fin 2 → Nat :=
  let arg0 : BitVec 32 := BitVec.ofNat 32 (i 0).val
  let v1554 : Index := Scalar.indexCast arg0
  let c0_818 : Index := 0#32
  ![v1554.toNat, 0]
def k0_off3 (i : grid0.Coords) : Fin 2 → Nat :=
  let arg0 : BitVec 32 := BitVec.ofNat 32 (i 0).val
  let v1639 : Index := Scalar.indexCast arg0
  let c256_859 : Index := 256#32
  ![v1639.toNat, 256]
def k0_off4 (i : grid0.Coords) : Fin 2 → Nat :=
  let arg0 : BitVec 32 := BitVec.ofNat 32 (i 0).val
  let v1724 : Index := Scalar.indexCast arg0
  let c512_907 : Index := 512#32
  ![v1724.toNat, 512]
def k0_off5 (i : grid0.Coords) : Fin 2 → Nat :=
  let arg0 : BitVec 32 := BitVec.ofNat 32 (i 0).val
  let v1809 : Index := Scalar.indexCast arg0
  let c768_955 : Index := 768#32
  ![v1809.toNat, 768]
def k0_off6 (i : grid0.Coords) : Fin 2 → Nat :=
  let arg0 : BitVec 32 := BitVec.ofNat 32 (i 0).val
  let v1894 : Index := Scalar.indexCast arg0
  let c1024_1003 : Index := 1024#32
  ![v1894.toNat, 1024]
def k0_off7 (i : grid0.Coords) : Fin 2 → Nat :=
  let arg0 : BitVec 32 := BitVec.ofNat 32 (i 0).val
  let v1979 : Index := Scalar.indexCast arg0
  let c1280_1051 : Index := 1280#32
  ![v1979.toNat, 1280]
def k0_off8 (i : grid0.Coords) : Fin 2 → Nat :=
  let arg0 : BitVec 32 := BitVec.ofNat 32 (i 0).val
  let v2064 : Index := Scalar.indexCast arg0
  let c1536_1099 : Index := 1536#32
  ![v2064.toNat, 1536]
def k0_off9 (i : grid0.Coords) : Fin 2 → Nat :=
  let arg0 : BitVec 32 := BitVec.ofNat 32 (i 0).val
  let v2149 : Index := Scalar.indexCast arg0
  let c1792_1147 : Index := 1792#32
  ![v2149.toNat, 1792]
def k0_off10 (i : grid0.Coords) : Fin 2 → Nat :=
  let arg1 : BitVec 32 := BitVec.ofNat 32 (i 1).val
  let v3 : Index := Scalar.indexCast arg1
  let c0 : Index := 0#32
  ![v3.toNat, 0]
def k0_off11 (i : grid0.Coords) : Fin 2 → Nat :=
  let c8_i32 : BitVec 32 := 8#32
  let arg1 : BitVec 32 := BitVec.ofNat 32 (i 1).val
  let v13 : BitVec 32 := Scalar.addi c8_i32 arg1
  let v14 : Index := Scalar.indexCast v13
  let c0_3 : Index := 0#32
  ![v14.toNat, 0]
def k0_off12 (i : grid0.Coords) : Fin 3 → Nat :=
  let arg1 : BitVec 32 := BitVec.ofNat 32 (i 1).val
  let v24 : Index := Scalar.indexCast arg1
  let c0_9 : Index := 0#32
  let c0_10 : Index := 0#32
  ![v24.toNat, 0, 0]
def k0_off13 (i : grid0.Coords) : Fin 3 → Nat :=
  let arg1 : BitVec 32 := BitVec.ofNat 32 (i 1).val
  let v36 : Index := Scalar.indexCast arg1
  let c256 : Index := 256#32
  let c0_17 : Index := 0#32
  ![v36.toNat, 256, 0]
def k0_off14 (i : grid0.Coords) : Fin 3 → Nat :=
  let arg1 : BitVec 32 := BitVec.ofNat 32 (i 1).val
  let v49 : Index := Scalar.indexCast arg1
  let c512 : Index := 512#32
  let c0_24 : Index := 0#32
  ![v49.toNat, 512, 0]
def k0_off15 (i : grid0.Coords) : Fin 3 → Nat :=
  let arg1 : BitVec 32 := BitVec.ofNat 32 (i 1).val
  let v62 : Index := Scalar.indexCast arg1
  let c768 : Index := 768#32
  let c0_31 : Index := 0#32
  ![v62.toNat, 768, 0]
def k0_off16 (i : grid0.Coords) : Fin 3 → Nat :=
  let arg1 : BitVec 32 := BitVec.ofNat 32 (i 1).val
  let v75 : Index := Scalar.indexCast arg1
  let c1024 : Index := 1024#32
  let c0_38 : Index := 0#32
  ![v75.toNat, 1024, 0]
def k0_off17 (i : grid0.Coords) : Fin 3 → Nat :=
  let arg1 : BitVec 32 := BitVec.ofNat 32 (i 1).val
  let v88 : Index := Scalar.indexCast arg1
  let c1280 : Index := 1280#32
  let c0_45 : Index := 0#32
  ![v88.toNat, 1280, 0]
def k0_off18 (i : grid0.Coords) : Fin 3 → Nat :=
  let arg1 : BitVec 32 := BitVec.ofNat 32 (i 1).val
  let v101 : Index := Scalar.indexCast arg1
  let c1536 : Index := 1536#32
  let c0_52 : Index := 0#32
  ![v101.toNat, 1536, 0]
def k0_off19 (i : grid0.Coords) : Fin 3 → Nat :=
  let arg1 : BitVec 32 := BitVec.ofNat 32 (i 1).val
  let v114 : Index := Scalar.indexCast arg1
  let c1792 : Index := 1792#32
  let c0_59 : Index := 0#32
  ![v114.toNat, 1792, 0]
def k0_mult1 (i : grid0.Coords) : BitVec 32 :=
  let arg1 : BitVec 32 := BitVec.ofNat 32 (i 1).val
  let c64_i32 : BitVec 32 := 64#32
  let v138 : BitVec 32 := Scalar.muli arg1 c64_i32
  v138
def k0_off20 (i : grid0.Coords) : Fin 2 → Nat :=
  let arg1 : BitVec 32 := BitVec.ofNat 32 (i 1).val
  let c64_i32 : BitVec 32 := 64#32
  let v138 : BitVec 32 := Scalar.muli arg1 c64_i32
  let v139 : BitVec 32 := v138
  let v140 : Index := Scalar.indexCast v139
  let c0_71 : Index := 0#32
  ![v140.toNat, 0]
def k0_mult2 (i : grid0.Coords) : BitVec 32 :=
  let arg1 : BitVec 32 := BitVec.ofNat 32 (i 1).val
  let c64_i32_78 : BitVec 32 := 64#32
  let v153 : BitVec 32 := Scalar.muli arg1 c64_i32_78
  v153
def k0_off21 (i : grid0.Coords) : Fin 2 → Nat :=
  let arg1 : BitVec 32 := BitVec.ofNat 32 (i 1).val
  let c64_i32_78 : BitVec 32 := 64#32
  let v153 : BitVec 32 := Scalar.muli arg1 c64_i32_78
  let v154 : BitVec 32 := v153
  let v155 : Index := Scalar.indexCast v154
  let c256_79 : Index := 256#32
  ![v155.toNat, 256]
def k0_mult3 (i : grid0.Coords) : BitVec 32 :=
  let arg1 : BitVec 32 := BitVec.ofNat 32 (i 1).val
  let c64_i32_86 : BitVec 32 := 64#32
  let v170 : BitVec 32 := Scalar.muli arg1 c64_i32_86
  v170
def k0_off22 (i : grid0.Coords) : Fin 2 → Nat :=
  let arg1 : BitVec 32 := BitVec.ofNat 32 (i 1).val
  let c64_i32_86 : BitVec 32 := 64#32
  let v170 : BitVec 32 := Scalar.muli arg1 c64_i32_86
  let v171 : BitVec 32 := v170
  let v172 : Index := Scalar.indexCast v171
  let c512_87 : Index := 512#32
  ![v172.toNat, 512]
def k0_mult4 (i : grid0.Coords) : BitVec 32 :=
  let arg1 : BitVec 32 := BitVec.ofNat 32 (i 1).val
  let c64_i32_94 : BitVec 32 := 64#32
  let v187 : BitVec 32 := Scalar.muli arg1 c64_i32_94
  v187
def k0_off23 (i : grid0.Coords) : Fin 2 → Nat :=
  let arg1 : BitVec 32 := BitVec.ofNat 32 (i 1).val
  let c64_i32_94 : BitVec 32 := 64#32
  let v187 : BitVec 32 := Scalar.muli arg1 c64_i32_94
  let v188 : BitVec 32 := v187
  let v189 : Index := Scalar.indexCast v188
  let c768_95 : Index := 768#32
  ![v189.toNat, 768]
def k0_mult5 (i : grid0.Coords) : BitVec 32 :=
  let arg1 : BitVec 32 := BitVec.ofNat 32 (i 1).val
  let c64_i32_102 : BitVec 32 := 64#32
  let v204 : BitVec 32 := Scalar.muli arg1 c64_i32_102
  v204
def k0_off24 (i : grid0.Coords) : Fin 2 → Nat :=
  let arg1 : BitVec 32 := BitVec.ofNat 32 (i 1).val
  let c64_i32_102 : BitVec 32 := 64#32
  let v204 : BitVec 32 := Scalar.muli arg1 c64_i32_102
  let v205 : BitVec 32 := v204
  let v206 : Index := Scalar.indexCast v205
  let c1024_103 : Index := 1024#32
  ![v206.toNat, 1024]
def k0_mult6 (i : grid0.Coords) : BitVec 32 :=
  let arg1 : BitVec 32 := BitVec.ofNat 32 (i 1).val
  let c64_i32_110 : BitVec 32 := 64#32
  let v221 : BitVec 32 := Scalar.muli arg1 c64_i32_110
  v221
def k0_off25 (i : grid0.Coords) : Fin 2 → Nat :=
  let arg1 : BitVec 32 := BitVec.ofNat 32 (i 1).val
  let c64_i32_110 : BitVec 32 := 64#32
  let v221 : BitVec 32 := Scalar.muli arg1 c64_i32_110
  let v222 : BitVec 32 := v221
  let v223 : Index := Scalar.indexCast v222
  let c1280_111 : Index := 1280#32
  ![v223.toNat, 1280]
def k0_mult7 (i : grid0.Coords) : BitVec 32 :=
  let arg1 : BitVec 32 := BitVec.ofNat 32 (i 1).val
  let c64_i32_118 : BitVec 32 := 64#32
  let v238 : BitVec 32 := Scalar.muli arg1 c64_i32_118
  v238
def k0_off26 (i : grid0.Coords) : Fin 2 → Nat :=
  let arg1 : BitVec 32 := BitVec.ofNat 32 (i 1).val
  let c64_i32_118 : BitVec 32 := 64#32
  let v238 : BitVec 32 := Scalar.muli arg1 c64_i32_118
  let v239 : BitVec 32 := v238
  let v240 : Index := Scalar.indexCast v239
  let c1536_119 : Index := 1536#32
  ![v240.toNat, 1536]
def k0_mult8 (i : grid0.Coords) : BitVec 32 :=
  let arg1 : BitVec 32 := BitVec.ofNat 32 (i 1).val
  let c64_i32_126 : BitVec 32 := 64#32
  let v255 : BitVec 32 := Scalar.muli arg1 c64_i32_126
  v255
def k0_off27 (i : grid0.Coords) : Fin 2 → Nat :=
  let arg1 : BitVec 32 := BitVec.ofNat 32 (i 1).val
  let c64_i32_126 : BitVec 32 := 64#32
  let v255 : BitVec 32 := Scalar.muli arg1 c64_i32_126
  let v256 : BitVec 32 := v255
  let v257 : Index := Scalar.indexCast v256
  let c1792_127 : Index := 1792#32
  ![v257.toNat, 1792]
def k0_mult9 (i : grid0.Coords) : BitVec 32 :=
  let arg1 : BitVec 32 := BitVec.ofNat 32 (i 1).val
  let c3_i32 : BitVec 32 := 3#32
  let v262 : BitVec 32 := Scalar.muli arg1 c3_i32
  let c0_i32_129 : BitVec 32 := 0#32
  let v263 : BitVec 32 := Scalar.addi v262 c0_i32_129
  let c64_i32_130 : BitVec 32 := 64#32
  let v264 : BitVec 32 := Scalar.muli v263 c64_i32_130
  v264
def k0_off28 (i : grid0.Coords) (c0_i32_129 : BitVec 32) : Fin 2 → Nat :=
  let arg1 : BitVec 32 := BitVec.ofNat 32 (i 1).val
  let c3_i32 : BitVec 32 := 3#32
  let v262 : BitVec 32 := Scalar.muli arg1 c3_i32
  let v263 : BitVec 32 := Scalar.addi v262 c0_i32_129
  let c64_i32_130 : BitVec 32 := 64#32
  let v264 : BitVec 32 := Scalar.muli v263 c64_i32_130
  let v265 : BitVec 32 := v264
  let v268 : Index := Scalar.indexCast v265
  let c0_131 : Index := 0#32
  ![v268.toNat, 0]
def k0_mult10 (i : grid0.Coords) : BitVec 32 :=
  let arg1 : BitVec 32 := BitVec.ofNat 32 (i 1).val
  let c64_i32_204 : BitVec 32 := 64#32
  let v388 : BitVec 32 := Scalar.muli arg1 c64_i32_204
  v388
def k0_mult11 (i : grid0.Coords) : BitVec 32 :=
  let arg1 : BitVec 32 := BitVec.ofNat 32 (i 1).val
  let c64_i32_212 : BitVec 32 := 64#32
  let v403 : BitVec 32 := Scalar.muli arg1 c64_i32_212
  v403
def k0_mult12 (i : grid0.Coords) : BitVec 32 :=
  let arg1 : BitVec 32 := BitVec.ofNat 32 (i 1).val
  let c64_i32_220 : BitVec 32 := 64#32
  let v420 : BitVec 32 := Scalar.muli arg1 c64_i32_220
  v420
def k0_mult13 (i : grid0.Coords) : BitVec 32 :=
  let arg1 : BitVec 32 := BitVec.ofNat 32 (i 1).val
  let c64_i32_228 : BitVec 32 := 64#32
  let v437 : BitVec 32 := Scalar.muli arg1 c64_i32_228
  v437
def k0_mult14 (i : grid0.Coords) : BitVec 32 :=
  let arg1 : BitVec 32 := BitVec.ofNat 32 (i 1).val
  let c64_i32_236 : BitVec 32 := 64#32
  let v454 : BitVec 32 := Scalar.muli arg1 c64_i32_236
  v454
def k0_mult15 (i : grid0.Coords) : BitVec 32 :=
  let arg1 : BitVec 32 := BitVec.ofNat 32 (i 1).val
  let c64_i32_244 : BitVec 32 := 64#32
  let v471 : BitVec 32 := Scalar.muli arg1 c64_i32_244
  v471
def k0_mult16 (i : grid0.Coords) : BitVec 32 :=
  let arg1 : BitVec 32 := BitVec.ofNat 32 (i 1).val
  let c64_i32_252 : BitVec 32 := 64#32
  let v488 : BitVec 32 := Scalar.muli arg1 c64_i32_252
  v488
def k0_mult17 (i : grid0.Coords) : BitVec 32 :=
  let arg1 : BitVec 32 := BitVec.ofNat 32 (i 1).val
  let c64_i32_260 : BitVec 32 := 64#32
  let v505 : BitVec 32 := Scalar.muli arg1 c64_i32_260
  v505
def k0_mult18 (i : grid0.Coords) : BitVec 32 :=
  let arg1 : BitVec 32 := BitVec.ofNat 32 (i 1).val
  let c3_i32_263 : BitVec 32 := 3#32
  let v512 : BitVec 32 := Scalar.muli arg1 c3_i32_263
  let c0_i32_264 : BitVec 32 := 0#32
  let v513 : BitVec 32 := Scalar.addi v512 c0_i32_264
  let c64_i32_265 : BitVec 32 := 64#32
  let v514 : BitVec 32 := Scalar.muli v513 c64_i32_265
  v514
def k0_off29 (i : grid0.Coords) (c0_i32_264 : BitVec 32) : Fin 2 → Nat :=
  let arg1 : BitVec 32 := BitVec.ofNat 32 (i 1).val
  let c3_i32_263 : BitVec 32 := 3#32
  let v512 : BitVec 32 := Scalar.muli arg1 c3_i32_263
  let v513 : BitVec 32 := Scalar.addi v512 c0_i32_264
  let c64_i32_265 : BitVec 32 := 64#32
  let v514 : BitVec 32 := Scalar.muli v513 c64_i32_265
  let v515 : BitVec 32 := v514
  let v518 : Index := Scalar.indexCast v515
  let c256_266 : Index := 256#32
  ![v518.toNat, 256]
def k0_mult19 (i : grid0.Coords) : BitVec 32 :=
  let arg1 : BitVec 32 := BitVec.ofNat 32 (i 1).val
  let c64_i32_338 : BitVec 32 := 64#32
  let v638 : BitVec 32 := Scalar.muli arg1 c64_i32_338
  v638
def k0_mult20 (i : grid0.Coords) : BitVec 32 :=
  let arg1 : BitVec 32 := BitVec.ofNat 32 (i 1).val
  let c64_i32_346 : BitVec 32 := 64#32
  let v653 : BitVec 32 := Scalar.muli arg1 c64_i32_346
  v653
def k0_mult21 (i : grid0.Coords) : BitVec 32 :=
  let arg1 : BitVec 32 := BitVec.ofNat 32 (i 1).val
  let c64_i32_354 : BitVec 32 := 64#32
  let v670 : BitVec 32 := Scalar.muli arg1 c64_i32_354
  v670
def k0_mult22 (i : grid0.Coords) : BitVec 32 :=
  let arg1 : BitVec 32 := BitVec.ofNat 32 (i 1).val
  let c64_i32_362 : BitVec 32 := 64#32
  let v687 : BitVec 32 := Scalar.muli arg1 c64_i32_362
  v687
def k0_mult23 (i : grid0.Coords) : BitVec 32 :=
  let arg1 : BitVec 32 := BitVec.ofNat 32 (i 1).val
  let c64_i32_370 : BitVec 32 := 64#32
  let v704 : BitVec 32 := Scalar.muli arg1 c64_i32_370
  v704
def k0_mult24 (i : grid0.Coords) : BitVec 32 :=
  let arg1 : BitVec 32 := BitVec.ofNat 32 (i 1).val
  let c64_i32_378 : BitVec 32 := 64#32
  let v721 : BitVec 32 := Scalar.muli arg1 c64_i32_378
  v721
def k0_mult25 (i : grid0.Coords) : BitVec 32 :=
  let arg1 : BitVec 32 := BitVec.ofNat 32 (i 1).val
  let c64_i32_386 : BitVec 32 := 64#32
  let v738 : BitVec 32 := Scalar.muli arg1 c64_i32_386
  v738
def k0_mult26 (i : grid0.Coords) : BitVec 32 :=
  let arg1 : BitVec 32 := BitVec.ofNat 32 (i 1).val
  let c64_i32_394 : BitVec 32 := 64#32
  let v755 : BitVec 32 := Scalar.muli arg1 c64_i32_394
  v755
def k0_mult27 (i : grid0.Coords) : BitVec 32 :=
  let arg1 : BitVec 32 := BitVec.ofNat 32 (i 1).val
  let c3_i32_397 : BitVec 32 := 3#32
  let v762 : BitVec 32 := Scalar.muli arg1 c3_i32_397
  let c1_i32 : BitVec 32 := 1#32
  let v763 : BitVec 32 := Scalar.addi v762 c1_i32
  let c64_i32_398 : BitVec 32 := 64#32
  let v764 : BitVec 32 := Scalar.muli v763 c64_i32_398
  v764
def k0_mult28 (i : grid0.Coords) : BitVec 32 :=
  let arg1 : BitVec 32 := BitVec.ofNat 32 (i 1).val
  let c64_i32_472 : BitVec 32 := 64#32
  let v888 : BitVec 32 := Scalar.muli arg1 c64_i32_472
  v888
def k0_mult29 (i : grid0.Coords) : BitVec 32 :=
  let arg1 : BitVec 32 := BitVec.ofNat 32 (i 1).val
  let c64_i32_480 : BitVec 32 := 64#32
  let v903 : BitVec 32 := Scalar.muli arg1 c64_i32_480
  v903
def k0_mult30 (i : grid0.Coords) : BitVec 32 :=
  let arg1 : BitVec 32 := BitVec.ofNat 32 (i 1).val
  let c64_i32_488 : BitVec 32 := 64#32
  let v920 : BitVec 32 := Scalar.muli arg1 c64_i32_488
  v920
def k0_mult31 (i : grid0.Coords) : BitVec 32 :=
  let arg1 : BitVec 32 := BitVec.ofNat 32 (i 1).val
  let c64_i32_496 : BitVec 32 := 64#32
  let v937 : BitVec 32 := Scalar.muli arg1 c64_i32_496
  v937
def k0_mult32 (i : grid0.Coords) : BitVec 32 :=
  let arg1 : BitVec 32 := BitVec.ofNat 32 (i 1).val
  let c64_i32_504 : BitVec 32 := 64#32
  let v954 : BitVec 32 := Scalar.muli arg1 c64_i32_504
  v954
def k0_mult33 (i : grid0.Coords) : BitVec 32 :=
  let arg1 : BitVec 32 := BitVec.ofNat 32 (i 1).val
  let c64_i32_512 : BitVec 32 := 64#32
  let v971 : BitVec 32 := Scalar.muli arg1 c64_i32_512
  v971
def k0_mult34 (i : grid0.Coords) : BitVec 32 :=
  let arg1 : BitVec 32 := BitVec.ofNat 32 (i 1).val
  let c64_i32_520 : BitVec 32 := 64#32
  let v988 : BitVec 32 := Scalar.muli arg1 c64_i32_520
  v988
def k0_mult35 (i : grid0.Coords) : BitVec 32 :=
  let arg1 : BitVec 32 := BitVec.ofNat 32 (i 1).val
  let c64_i32_528 : BitVec 32 := 64#32
  let v1005 : BitVec 32 := Scalar.muli arg1 c64_i32_528
  v1005
def k0_mult36 (i : grid0.Coords) : BitVec 32 :=
  let arg1 : BitVec 32 := BitVec.ofNat 32 (i 1).val
  let c3_i32_531 : BitVec 32 := 3#32
  let v1012 : BitVec 32 := Scalar.muli arg1 c3_i32_531
  let c1_i32_532 : BitVec 32 := 1#32
  let v1013 : BitVec 32 := Scalar.addi v1012 c1_i32_532
  let c64_i32_533 : BitVec 32 := 64#32
  let v1014 : BitVec 32 := Scalar.muli v1013 c64_i32_533
  v1014
def k0_mult37 (i : grid0.Coords) : BitVec 32 :=
  let arg1 : BitVec 32 := BitVec.ofNat 32 (i 1).val
  let c64_i32_606 : BitVec 32 := 64#32
  let v1138 : BitVec 32 := Scalar.muli arg1 c64_i32_606
  v1138
def k0_mult38 (i : grid0.Coords) : BitVec 32 :=
  let arg1 : BitVec 32 := BitVec.ofNat 32 (i 1).val
  let c64_i32_614 : BitVec 32 := 64#32
  let v1153 : BitVec 32 := Scalar.muli arg1 c64_i32_614
  v1153
def k0_mult39 (i : grid0.Coords) : BitVec 32 :=
  let arg1 : BitVec 32 := BitVec.ofNat 32 (i 1).val
  let c64_i32_622 : BitVec 32 := 64#32
  let v1170 : BitVec 32 := Scalar.muli arg1 c64_i32_622
  v1170
def k0_mult40 (i : grid0.Coords) : BitVec 32 :=
  let arg1 : BitVec 32 := BitVec.ofNat 32 (i 1).val
  let c64_i32_630 : BitVec 32 := 64#32
  let v1187 : BitVec 32 := Scalar.muli arg1 c64_i32_630
  v1187
def k0_mult41 (i : grid0.Coords) : BitVec 32 :=
  let arg1 : BitVec 32 := BitVec.ofNat 32 (i 1).val
  let c64_i32_638 : BitVec 32 := 64#32
  let v1204 : BitVec 32 := Scalar.muli arg1 c64_i32_638
  v1204
def k0_mult42 (i : grid0.Coords) : BitVec 32 :=
  let arg1 : BitVec 32 := BitVec.ofNat 32 (i 1).val
  let c64_i32_646 : BitVec 32 := 64#32
  let v1221 : BitVec 32 := Scalar.muli arg1 c64_i32_646
  v1221
def k0_mult43 (i : grid0.Coords) : BitVec 32 :=
  let arg1 : BitVec 32 := BitVec.ofNat 32 (i 1).val
  let c64_i32_654 : BitVec 32 := 64#32
  let v1238 : BitVec 32 := Scalar.muli arg1 c64_i32_654
  v1238
def k0_mult44 (i : grid0.Coords) : BitVec 32 :=
  let arg1 : BitVec 32 := BitVec.ofNat 32 (i 1).val
  let c64_i32_662 : BitVec 32 := 64#32
  let v1255 : BitVec 32 := Scalar.muli arg1 c64_i32_662
  v1255
def k0_mult45 (i : grid0.Coords) : BitVec 32 :=
  let arg1 : BitVec 32 := BitVec.ofNat 32 (i 1).val
  let c3_i32_665 : BitVec 32 := 3#32
  let v1262 : BitVec 32 := Scalar.muli arg1 c3_i32_665
  let c2_i32 : BitVec 32 := 2#32
  let v1263 : BitVec 32 := Scalar.addi v1262 c2_i32
  let c64_i32_666 : BitVec 32 := 64#32
  let v1264 : BitVec 32 := Scalar.muli v1263 c64_i32_666
  v1264
def k0_mult46 (i : grid0.Coords) : BitVec 32 :=
  let arg1 : BitVec 32 := BitVec.ofNat 32 (i 1).val
  let c64_i32_740 : BitVec 32 := 64#32
  let v1388 : BitVec 32 := Scalar.muli arg1 c64_i32_740
  v1388
def k0_mult47 (i : grid0.Coords) : BitVec 32 :=
  let arg1 : BitVec 32 := BitVec.ofNat 32 (i 1).val
  let c64_i32_748 : BitVec 32 := 64#32
  let v1403 : BitVec 32 := Scalar.muli arg1 c64_i32_748
  v1403
def k0_mult48 (i : grid0.Coords) : BitVec 32 :=
  let arg1 : BitVec 32 := BitVec.ofNat 32 (i 1).val
  let c64_i32_756 : BitVec 32 := 64#32
  let v1420 : BitVec 32 := Scalar.muli arg1 c64_i32_756
  v1420
def k0_mult49 (i : grid0.Coords) : BitVec 32 :=
  let arg1 : BitVec 32 := BitVec.ofNat 32 (i 1).val
  let c64_i32_764 : BitVec 32 := 64#32
  let v1437 : BitVec 32 := Scalar.muli arg1 c64_i32_764
  v1437
def k0_mult50 (i : grid0.Coords) : BitVec 32 :=
  let arg1 : BitVec 32 := BitVec.ofNat 32 (i 1).val
  let c64_i32_772 : BitVec 32 := 64#32
  let v1454 : BitVec 32 := Scalar.muli arg1 c64_i32_772
  v1454
def k0_mult51 (i : grid0.Coords) : BitVec 32 :=
  let arg1 : BitVec 32 := BitVec.ofNat 32 (i 1).val
  let c64_i32_780 : BitVec 32 := 64#32
  let v1471 : BitVec 32 := Scalar.muli arg1 c64_i32_780
  v1471
def k0_mult52 (i : grid0.Coords) : BitVec 32 :=
  let arg1 : BitVec 32 := BitVec.ofNat 32 (i 1).val
  let c64_i32_788 : BitVec 32 := 64#32
  let v1488 : BitVec 32 := Scalar.muli arg1 c64_i32_788
  v1488
def k0_mult53 (i : grid0.Coords) : BitVec 32 :=
  let arg1 : BitVec 32 := BitVec.ofNat 32 (i 1).val
  let c64_i32_796 : BitVec 32 := 64#32
  let v1505 : BitVec 32 := Scalar.muli arg1 c64_i32_796
  v1505
def k0_mult54 (i : grid0.Coords) : BitVec 32 :=
  let arg1 : BitVec 32 := BitVec.ofNat 32 (i 1).val
  let c3_i32_799 : BitVec 32 := 3#32
  let v1512 : BitVec 32 := Scalar.muli arg1 c3_i32_799
  let c2_i32_800 : BitVec 32 := 2#32
  let v1513 : BitVec 32 := Scalar.addi v1512 c2_i32_800
  let c64_i32_801 : BitVec 32 := 64#32
  let v1514 : BitVec 32 := Scalar.muli v1513 c64_i32_801
  v1514
def k0_cond2 (i : grid0.Coords) : BitVec 1 :=
  let arg1 : BitVec 32 := BitVec.ofNat 32 (i 1).val
  let c7_i32 : BitVec 32 := 7#32
  let v1522 : BitVec 1 := Scalar.cmpi .eq arg1 c7_i32
  let v1523 : BitVec 32 := Scalar.extui v1522
  let c0_i32_803 : BitVec 32 := 0#32
  let v1524 : BitVec 1 := Scalar.cmpi .ne v1523 c0_i32_803
  v1524

def k0_off30 (i : grid0.Coords) : Fin 2 → Nat :=
  let arg0 : BitVec 32 := BitVec.ofNat 32 (i 0).val
  let v1535 : Index := Scalar.indexCast arg0
  let c0_810 : Index := 0#32
  ![v1535.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1536x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Proof.KernelBody.lean ====
/- One run of the body of `Kernel`: the offsets that its accesses compute from the grid point, in closed form; the staging
   buffers that a point hands to the body; and what the body does to them, store by store. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The offsets, in closed form -/

/-- `k0_off1` in closed form. -/
theorem k0_off1_eq : ∀ i : grid0.Coords, k0_off1 i = ![((i 0).val / 2), 256 * ((i 0).val % 2)] := by decide +kernel
instance closedOff_k0_off1 (i : grid0.Coords) : ClosedOff (k0_off1 i) := ⟨![((i 0).val / 2), 256 * ((i 0).val % 2)], k0_off1_eq i⟩
/-- `k0_off2` in closed form. -/
theorem k0_off2_eq : ∀ i : grid0.Coords, k0_off2 i = ![((i 0).val / 2), 0] := by decide +kernel
instance closedOff_k0_off2 (i : grid0.Coords) : ClosedOff (k0_off2 i) := ⟨![((i 0).val / 2), 0], k0_off2_eq i⟩
/-- `k0_off3` in closed form. -/
theorem k0_off3_eq : ∀ i : grid0.Coords, k0_off3 i = ![0, ((i 0).val / 2), 256 * ((i 0).val % 2)] := by decide +kernel
instance closedOff_k0_off3 (i : grid0.Coords) : ClosedOff (k0_off3 i) := ⟨![0, ((i 0).val / 2), 256 * ((i 0).val % 2)], k0_off3_eq i⟩
/-- `k0_off4` in closed form. -/
theorem k0_off4_eq : ∀ i : grid0.Coords, k0_off4 i = ![1, ((i 0).val / 2), 256 * ((i 0).val % 2)] := by decide +kernel
instance closedOff_k0_off4 (i : grid0.Coords) : ClosedOff (k0_off4 i) := ⟨![1, ((i 0).val / 2), 256 * ((i 0).val % 2)], k0_off4_eq i⟩
/-- `k0_off5` in closed form. -/
theorem k0_off5_eq : ∀ i : grid0.Coords, k0_off5 i = ![2, ((i 0).val / 2), 256 * ((i 0).val % 2)] := by decide +kernel
instance closedOff_k0_off5 (i : grid0.Coords) : ClosedOff (k0_off5 i) := ⟨![2, ((i 0).val / 2), 256 * ((i 0).val % 2)], k0_off5_eq i⟩
/-- `k0_off6` in closed form. -/
theorem k0_off6_eq : ∀ i : grid0.Coords, k0_off6 i = ![3, ((i 0).val / 2), 256 * ((i 0).val % 2)] := by decide +kernel
instance closedOff_k0_off6 (i : grid0.Coords) : ClosedOff (k0_off6 i) := ⟨![3, ((i 0).val / 2), 256 * ((i 0).val % 2)], k0_off6_eq i⟩
/-- `k0_off7` in closed form. -/
theorem k0_off7_eq : ∀ i : grid0.Coords, k0_off7 i = ![4, ((i 0).val / 2), 256 * ((i 0).val % 2)] := by decide +kernel
instance closedOff_k0_off7 (i : grid0.Coords) : ClosedOff (k0_off7 i) := ⟨![4, ((i 0).val / 2), 256 * ((i 0).val % 2)], k0_off7_eq i⟩
/-- `k0_off8` in closed form. -/
theorem k0_off8_eq : ∀ i : grid0.Coords, k0_off8 i = ![5, ((i 0).val / 2), 256 * ((i 0).val % 2)] := by decide +kernel
instance closedOff_k0_off8 (i : grid0.Coords) : ClosedOff (k0_off8 i) := ⟨![5, ((i 0).val / 2), 256 * ((i 0).val % 2)], k0_off8_eq i⟩
/-- `k0_off9` in closed form. -/
theorem k0_off9_eq : ∀ i : grid0.Coords, k0_off9 i = ![6, ((i 0).val / 2), 256 * ((i 0).val % 2)] := by decide +kernel
instance closedOff_k0_off9 (i : grid0.Coords) : ClosedOff (k0_off9 i) := ⟨![6, ((i 0).val / 2), 256 * ((i 0).val % 2)], k0_off9_eq i⟩
/-- `k0_off10` in closed form. -/
theorem k0_off10_eq : ∀ i : grid0.Coords, k0_off10 i = ![7, ((i 0).val / 2), 256 * ((i 0).val % 2)] := by decide +kernel
instance closedOff_k0_off10 (i : grid0.Coords) : ClosedOff (k0_off10 i) := ⟨![7, ((i 0).val / 2), 256 * ((i 0).val % 2)], k0_off10_eq i⟩
/-- `k0_off11` in closed form. -/
theorem k0_off11_eq : ∀ i : grid0.Coords, k0_off11 i = ![8, ((i 0).val / 2), 256 * ((i 0).val % 2)] := by decide +kernel
instance closedOff_k0_off11 (i : grid0.Coords) : ClosedOff (k0_off11 i) := ⟨![8, ((i 0).val / 2), 256 * ((i 0).val % 2)], k0_off11_eq i⟩
/-- `k0_off12` in closed form. -/
theorem k0_off12_eq : ∀ i : grid0.Coords, k0_off12 i = ![9, ((i 0).val / 2), 256 * ((i 0).val % 2)] := by decide +kernel
instance closedOff_k0_off12 (i : grid0.Coords) : ClosedOff (k0_off12 i) := ⟨![9, ((i 0).val / 2), 256 * ((i 0).val % 2)], k0_off12_eq i⟩
/-- `k0_off13` in closed form. -/
theorem k0_off13_eq : ∀ i : grid0.Coords, k0_off13 i = ![10, ((i 0).val / 2), 256 * ((i 0).val % 2)] := by decide +kernel
instance closedOff_k0_off13 (i : grid0.Coords) : ClosedOff (k0_off13 i) := ⟨![10, ((i 0).val / 2), 256 * ((i 0).val % 2)], k0_off13_eq i⟩
/-- `k0_off14` in closed form. -/
theorem k0_off14_eq : ∀ i : grid0.Coords, k0_off14 i = ![11, ((i 0).val / 2), 256 * ((i 0).val % 2)] := by decide +kernel
instance closedOff_k0_off14 (i : grid0.Coords) : ClosedOff (k0_off14 i) := ⟨![11, ((i 0).val / 2), 256 * ((i 0).val % 2)], k0_off14_eq i⟩
/-- `k0_off15` in closed form. -/
theorem k0_off15_eq : ∀ i : grid0.Coords, k0_off15 i = ![0, ((i 0).val / 2), 0] := by decide +kernel
instance closedOff_k0_off15 (i : grid0.Coords) : ClosedOff (k0_off15 i) := ⟨![0, ((i 0).val / 2), 0], k0_off15_eq i⟩
/-- `k0_off16` in closed form. -/
theorem k0_off16_eq : ∀ i : grid0.Coords, k0_off16 i = ![1, ((i 0).val / 2), 0] := by decide +kernel
instance closedOff_k0_off16 (i : grid0.Coords) : ClosedOff (k0_off16 i) := ⟨![1, ((i 0).val / 2), 0], k0_off16_eq i⟩
/-- `k0_off17` in closed form. -/
theorem k0_off17_eq : ∀ i : grid0.Coords, k0_off17 i = ![2, ((i 0).val / 2), 0] := by decide +kernel
instance closedOff_k0_off17 (i : grid0.Coords) : ClosedOff (k0_off17 i) := ⟨![2, ((i 0).val / 2), 0], k0_off17_eq i⟩
/-- `k0_off18` in closed form. -/
theorem k0_off18_eq : ∀ i : grid0.Coords, k0_off18 i = ![3, ((i 0).val / 2), 0] := by decide +kernel
instance closedOff_k0_off18 (i : grid0.Coords) : ClosedOff (k0_off18 i) := ⟨![3, ((i 0).val / 2), 0], k0_off18_eq i⟩
/-- `k0_off19` in closed form. -/
theorem k0_off19_eq : ∀ i : grid0.Coords, k0_off19 i = ![4, ((i 0).val / 2), 0] := by decide +kernel
instance closedOff_k0_off19 (i : grid0.Coords) : ClosedOff (k0_off19 i) := ⟨![4, ((i 0).val / 2), 0], k0_off19_eq i⟩
/-- `k0_off20` in closed form. -/
theorem k0_off20_eq : ∀ i : grid0.Coords, k0_off20 i = ![5, ((i 0).val / 2), 0] := by decide +kernel
instance closedOff_k0_off20 (i : grid0.Coords) : ClosedOff (k0_off20 i) := ⟨![5, ((i 0).val / 2), 0], k0_off20_eq i⟩
/-- `k0_off21` in closed form. -/
theorem k0_off21_eq : ∀ i : grid0.Coords, k0_off21 i = ![6, ((i 0).val / 2), 0] := by decide +kernel
instance closedOff_k0_off21 (i : grid0.Coords) : ClosedOff (k0_off21 i) := ⟨![6, ((i 0).val / 2), 0], k0_off21_eq i⟩
/-- `k0_off22` in closed form. -/
theorem k0_off22_eq : ∀ i : grid0.Coords, k0_off22 i = ![7, ((i 0).val / 2), 0] := by decide +kernel
instance closedOff_k0_off22 (i : grid0.Coords) : ClosedOff (k0_off22 i) := ⟨![7, ((i 0).val / 2), 0], k0_off22_eq i⟩
/-- `k0_off23` in closed form. -/
theorem k0_off23_eq : ∀ i : grid0.Coords, k0_off23 i = ![8, ((i 0).val / 2), 0] := by decide +kernel
instance closedOff_k0_off23 (i : grid0.Coords) : ClosedOff (k0_off23 i) := ⟨![8, ((i 0).val / 2), 0], k0_off23_eq i⟩
/-- `k0_off24` in closed form. -/
theorem k0_off24_eq : ∀ i : grid0.Coords, k0_off24 i = ![9, ((i 0).val / 2), 0] := by decide +kernel
instance closedOff_k0_off24 (i : grid0.Coords) : ClosedOff (k0_off24 i) := ⟨![9, ((i 0).val / 2), 0], k0_off24_eq i⟩
/-- `k0_off25` in closed form. -/
theorem k0_off25_eq : ∀ i : grid0.Coords, k0_off25 i = ![10, ((i 0).val / 2), 0] := by decide +kernel
instance closedOff_k0_off25 (i : grid0.Coords) : ClosedOff (k0_off25 i) := ⟨![10, ((i 0).val / 2), 0], k0_off25_eq i⟩
/-- `k0_off26` in closed form. -/
theorem k0_off26_eq : ∀ i : grid0.Coords, k0_off26 i = ![11, ((i 0).val / 2), 0] := by decide +kernel
instance closedOff_k0_off26 (i : grid0.Coords) : ClosedOff (k0_off26 i) := ⟨![11, ((i 0).val / 2), 0], k0_off26_eq i⟩

/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x1536 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8192 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4096x1536 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1536 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1536 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x2x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1536 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x1536 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1536 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x4096 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S2x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x1536 .fp8e4m3 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S12x2x512 .f32 := win0_23.stage (cfg0.slots t 23)
abbrev hs0_23 (t : Fin cfg0.N) : (ms0_23 t).IsWhole := hstage0_23 ((cfg0.slots t 23).cast nbuf0_23)
/-- The scratch operands: whole scoped buffers of the kernel's own, passed beside the windows. -/
abbrev scM0_0 : Memref sig .tc .vmem S256x4096 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1636000 in
/-- The body's triple: on whole staging memrefs — the inputs' at their contents,
    the FORGOTTEN outputs' (16, 17, 18, 19, 20, 21, 22, 23) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x1536 .bf16) (harg1 : arg1.IsWhole) (arg2 : Memref sig .tc .vmem S1x1536x256 .fp8e4m3) (harg2 : arg2.IsWhole) (arg3 : Memref sig .tc .vmem S2x512 .f32) (harg3 : arg3.IsWhole) (arg4 : Memref sig .tc .vmem S2x1536 .f32) (harg4 : arg4.IsWhole) (arg5 : Memref sig .tc .vmem S2x1536 .f32) (harg5 : arg5.IsWhole) (arg6 : Memref sig .tc .vmem S2x1536 .f32) (harg6 : arg6.IsWhole) (arg7 : Memref sig .tc .vmem S1x1536 .f32) (harg7 : arg7.IsWhole) (arg8 : Memref sig .tc .vmem S1536x1536 .fp8e4m3) (harg8 : arg8.IsWhole) (arg9 : Memref sig .tc .vmem S1x1536 .f32) (harg9 : arg9.IsWhole) (arg10 : Memref sig .tc .vmem S1536x8192 .fp8e4m3) (harg10 : arg10.IsWhole) (arg11 : Memref sig .tc .vmem S1x8192 .f32) (harg11 : arg11.IsWhole) (arg12 : Memref sig .tc .vmem S4096x1536 .fp8e4m3) (harg12 : arg12.IsWhole) (arg13 : Memref sig .tc .vmem S1x1536 .f32) (harg13 : arg13.IsWhole) (arg14 : Memref sig .tc .vmem S1024x1536 .bf16) (harg14 : arg14.IsWhole) (arg15 : Memref sig .tc .vmem S1024x1536 .fp8e4m3) (harg15 : arg15.IsWhole) (arg16 : Memref sig .tc .vmem S12x2x1024 .f32) (harg16 : arg16.IsWhole) (arg17 : Memref sig .tc .vmem S256x1536 .bf16) (harg17 : arg17.IsWhole) (arg18 : Memref sig .tc .vmem S1024x1536 .bf16) (harg18 : arg18.IsWhole) (arg19 : Memref sig .tc .vmem S256x1536 .fp8e4m3) (harg19 : arg19.IsWhole) (arg20 : Memref sig .tc .vmem S2x512 .f32) (harg20 : arg20.IsWhole) (arg21 : Memref sig .tc .vmem S256x4096 .fp8e4m3) (harg21 : arg21.IsWhole) (arg22 : Memref sig .tc .vmem S2x512 .f32) (harg22 : arg22.IsWhole) (arg23 : Memref sig .tc .vmem S256x1536 .fp8e4m3) (harg23 : arg23.IsWhole) (arg24 : Memref sig .tc .vmem S12x2x512 .f32) (harg24 : arg24.IsWhole) (arg25 : Memref sig .tc .vmem S256x4096 .f32) (harg25 : arg25.IsWhole)
    (x0 : Vec F S256x1536 .bf16) (x1 : Vec F S1x1536x256 .fp8e4m3) (x2 : Vec F S2x512 .f32) (x3 : Vec F S2x1536 .f32) (x4 : Vec F S2x1536 .f32) (x5 : Vec F S2x1536 .f32) (x6 : Vec F S1x1536 .f32) (x7 : Vec F S1536x1536 .fp8e4m3) (x8 : Vec F S1x1536 .f32) (x9 : Vec F S1536x8192 .fp8e4m3) (x10 : Vec F S1x8192 .f32) (x11 : Vec F S4096x1536 .fp8e4m3) (x12 : Vec F S1x1536 .f32) (x13 : Vec F S1024x1536 .bf16) (x14 : Vec F S1024x1536 .fp8e4m3) (x15 : Vec F S12x2x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    intro E K
    simp only [cc0_ffn_eq_skeleton]; unfold cc0_ffn_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact HS0
    ipureintro; rfl

end Cert.Kernel.Gen

end
-- ==== Proof.KernelFrame.lean ====
/- The frame of `Kernel`: from any memory it runs to the end, its argument arrays unchanged, every semaphore back at zero.
   Nothing is said here of what it leaves in its results. -/
module

public import proofs.«01_k».proof.Proof.KernelBody
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (16, 17, 18, 19, 20, 21, 22, 23): nothing reads what the kernel leaves in them, so nothing
    of it is named (Lib/Pipeline/Dat.lean `Dat.toRForget`). -/
def forgets0 : Fin 24 → Bool := fun w => w.val == 16 || w.val == 17 || w.val == 18 || w.val == 19 || w.val == 20 || w.val == 21 || w.val == 22 || w.val == 23

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  iintro ⟨H0, H1, H2, H3, H4, H5, H6, H7, H8, H9, H10, H11, H12, H13, H14, H15, H16, H17, H18, H19, H20, H21, H22, H23, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c),
      (Pipeline.RDat.FramePost.arr_in h c 11 rfl).trans ((hA c 11).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 16, 17, 18, 19, 20, 21, 22, 23) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of_rel m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel.Gen

end
-- ==== Proof.KernelIdealBody.lean ====
/- One run of the body of `KernelIdeal`: the offsets that its accesses compute from the grid point, in closed form; the staging
   buffers that a point hands to the body; and what the body does to them, store by store. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The offsets, in closed form -/

/-- `k0_off1` in closed form. -/
theorem k0_off1_eq : ∀ i : grid0.Coords, k0_off1 i = ![((i 0).val / 2), 256 * ((i 0).val % 2)] := by decide +kernel
instance closedOff_k0_off1 (i : grid0.Coords) : ClosedOff (k0_off1 i) := ⟨![((i 0).val / 2), 256 * ((i 0).val % 2)], k0_off1_eq i⟩
/-- `k0_off2` in closed form. -/
theorem k0_off2_eq : ∀ i : grid0.Coords, k0_off2 i = ![((i 0).val / 2), 0] := by decide +kernel
instance closedOff_k0_off2 (i : grid0.Coords) : ClosedOff (k0_off2 i) := ⟨![((i 0).val / 2), 0], k0_off2_eq i⟩
/-- `k0_off3` in closed form. -/
theorem k0_off3_eq : ∀ i : grid0.Coords, k0_off3 i = ![0, ((i 0).val / 2), 256 * ((i 0).val % 2)] := by decide +kernel
instance closedOff_k0_off3 (i : grid0.Coords) : ClosedOff (k0_off3 i) := ⟨![0, ((i 0).val / 2), 256 * ((i 0).val % 2)], k0_off3_eq i⟩
/-- `k0_off4` in closed form. -/
theorem k0_off4_eq : ∀ i : grid0.Coords, k0_off4 i = ![1, ((i 0).val / 2), 256 * ((i 0).val % 2)] := by decide +kernel
instance closedOff_k0_off4 (i : grid0.Coords) : ClosedOff (k0_off4 i) := ⟨![1, ((i 0).val / 2), 256 * ((i 0).val % 2)], k0_off4_eq i⟩
/-- `k0_off5` in closed form. -/
theorem k0_off5_eq : ∀ i : grid0.Coords, k0_off5 i = ![2, ((i 0).val / 2), 256 * ((i 0).val % 2)] := by decide +kernel
instance closedOff_k0_off5 (i : grid0.Coords) : ClosedOff (k0_off5 i) := ⟨![2, ((i 0).val / 2), 256 * ((i 0).val % 2)], k0_off5_eq i⟩
/-- `k0_off6` in closed form. -/
theorem k0_off6_eq : ∀ i : grid0.Coords, k0_off6 i = ![3, ((i 0).val / 2), 256 * ((i 0).val % 2)] := by decide +kernel
instance closedOff_k0_off6 (i : grid0.Coords) : ClosedOff (k0_off6 i) := ⟨![3, ((i 0).val / 2), 256 * ((i 0).val % 2)], k0_off6_eq i⟩
/-- `k0_off7` in closed form. -/
theorem k0_off7_eq : ∀ i : grid0.Coords, k0_off7 i = ![4, ((i 0).val / 2), 256 * ((i 0).val % 2)] := by decide +kernel
instance closedOff_k0_off7 (i : grid0.Coords) : ClosedOff (k0_off7 i) := ⟨![4, ((i 0).val / 2), 256 * ((i 0).val % 2)], k0_off7_eq i⟩
/-- `k0_off8` in closed form. -/
theorem k0_off8_eq : ∀ i : grid0.Coords, k0_off8 i = ![5, ((i 0).val / 2), 256 * ((i 0).val % 2)] := by decide +kernel
instance closedOff_k0_off8 (i : grid0.Coords) : ClosedOff (k0_off8 i) := ⟨![5, ((i 0).val / 2), 256 * ((i 0).val % 2)], k0_off8_eq i⟩
/-- `k0_off9` in closed form. -/
theorem k0_off9_eq : ∀ i : grid0.Coords, k0_off9 i = ![6, ((i 0).val / 2), 256 * ((i 0).val % 2)] := by decide +kernel
instance closedOff_k0_off9 (i : grid0.Coords) : ClosedOff (k0_off9 i) := ⟨![6, ((i 0).val / 2), 256 * ((i 0).val % 2)], k0_off9_eq i⟩
/-- `k0_off10` in closed form. -/
theorem k0_off10_eq : ∀ i : grid0.Coords, k0_off10 i = ![7, ((i 0).val / 2), 256 * ((i 0).val % 2)] := by decide +kernel
instance closedOff_k0_off10 (i : grid0.Coords) : ClosedOff (k0_off10 i) := ⟨![7, ((i 0).val / 2), 256 * ((i 0).val % 2)], k0_off10_eq i⟩
/-- `k0_off11` in closed form. -/
theorem k0_off11_eq : ∀ i : grid0.Coords, k0_off11 i = ![8, ((i 0).val / 2), 256 * ((i 0).val % 2)] := by decide +kernel
instance closedOff_k0_off11 (i : grid0.Coords) : ClosedOff (k0_off11 i) := ⟨![8, ((i 0).val / 2), 256 * ((i 0).val % 2)], k0_off11_eq i⟩
/-- `k0_off12` in closed form. -/
theorem k0_off12_eq : ∀ i : grid0.Coords, k0_off12 i = ![9, ((i 0).val / 2), 256 * ((i 0).val % 2)] := by decide +kernel
instance closedOff_k0_off12 (i : grid0.Coords) : ClosedOff (k0_off12 i) := ⟨![9, ((i 0).val / 2), 256 * ((i 0).val % 2)], k0_off12_eq i⟩
/-- `k0_off13` in closed form. -/
theorem k0_off13_eq : ∀ i : grid0.Coords, k0_off13 i = ![10, ((i 0).val / 2), 256 * ((i 0).val % 2)] := by decide +kernel
instance closedOff_k0_off13 (i : grid0.Coords) : ClosedOff (k0_off13 i) := ⟨![10, ((i 0).val / 2), 256 * ((i 0).val % 2)], k0_off13_eq i⟩
/-- `k0_off14` in closed form. -/
theorem k0_off14_eq : ∀ i : grid0.Coords, k0_off14 i = ![11, ((i 0).val / 2), 256 * ((i 0).val % 2)] := by decide +kernel
instance closedOff_k0_off14 (i : grid0.Coords) : ClosedOff (k0_off14 i) := ⟨![11, ((i 0).val / 2), 256 * ((i 0).val % 2)], k0_off14_eq i⟩
/-- `k0_off15` in closed form. -/
theorem k0_off15_eq : ∀ i : grid0.Coords, k0_off15 i = ![0, ((i 0).val / 2), 0] := by decide +kernel
instance closedOff_k0_off15 (i : grid0.Coords) : ClosedOff (k0_off15 i) := ⟨![0, ((i 0).val / 2), 0], k0_off15_eq i⟩
/-- `k0_off16` in closed form. -/
theorem k0_off16_eq : ∀ i : grid0.Coords, k0_off16 i = ![1, ((i 0).val / 2), 0] := by decide +kernel
instance closedOff_k0_off16 (i : grid0.Coords) : ClosedOff (k0_off16 i) := ⟨![1, ((i 0).val / 2), 0], k0_off16_eq i⟩
/-- `k0_off17` in closed form. -/
theorem k0_off17_eq : ∀ i : grid0.Coords, k0_off17 i = ![2, ((i 0).val / 2), 0] := by decide +kernel
instance closedOff_k0_off17 (i : grid0.Coords) : ClosedOff (k0_off17 i) := ⟨![2, ((i 0).val / 2), 0], k0_off17_eq i⟩
/-- `k0_off18` in closed form. -/
theorem k0_off18_eq : ∀ i : grid0.Coords, k0_off18 i = ![3, ((i 0).val / 2), 0] := by decide +kernel
instance closedOff_k0_off18 (i : grid0.Coords) : ClosedOff (k0_off18 i) := ⟨![3, ((i 0).val / 2), 0], k0_off18_eq i⟩
/-- `k0_off19` in closed form. -/
theorem k0_off19_eq : ∀ i : grid0.Coords, k0_off19 i = ![4, ((i 0).val / 2), 0] := by decide +kernel
instance closedOff_k0_off19 (i : grid0.Coords) : ClosedOff (k0_off19 i) := ⟨![4, ((i 0).val / 2), 0], k0_off19_eq i⟩
/-- `k0_off20` in closed form. -/
theorem k0_off20_eq : ∀ i : grid0.Coords, k0_off20 i = ![5, ((i 0).val / 2), 0] := by decide +kernel
instance closedOff_k0_off20 (i : grid0.Coords) : ClosedOff (k0_off20 i) := ⟨![5, ((i 0).val / 2), 0], k0_off20_eq i⟩
/-- `k0_off21` in closed form. -/
theorem k0_off21_eq : ∀ i : grid0.Coords, k0_off21 i = ![6, ((i 0).val / 2), 0] := by decide +kernel
instance closedOff_k0_off21 (i : grid0.Coords) : ClosedOff (k0_off21 i) := ⟨![6, ((i 0).val / 2), 0], k0_off21_eq i⟩
/-- `k0_off22` in closed form. -/
theorem k0_off22_eq : ∀ i : grid0.Coords, k0_off22 i = ![7, ((i 0).val / 2), 0] := by decide +kernel
instance closedOff_k0_off22 (i : grid0.Coords) : ClosedOff (k0_off22 i) := ⟨![7, ((i 0).val / 2), 0], k0_off22_eq i⟩
/-- `k0_off23` in closed form. -/
theorem k0_off23_eq : ∀ i : grid0.Coords, k0_off23 i = ![8, ((i 0).val / 2), 0] := by decide +kernel
instance closedOff_k0_off23 (i : grid0.Coords) : ClosedOff (k0_off23 i) := ⟨![8, ((i 0).val / 2), 0], k0_off23_eq i⟩
/-- `k0_off24` in closed form. -/
theorem k0_off24_eq : ∀ i : grid0.Coords, k0_off24 i = ![9, ((i 0).val / 2), 0] := by decide +kernel
instance closedOff_k0_off24 (i : grid0.Coords) : ClosedOff (k0_off24 i) := ⟨![9, ((i 0).val / 2), 0], k0_off24_eq i⟩
/-- `k0_off25` in closed form. -/
theorem k0_off25_eq : ∀ i : grid0.Coords, k0_off25 i = ![10, ((i 0).val / 2), 0] := by decide +kernel
instance closedOff_k0_off25 (i : grid0.Coords) : ClosedOff (k0_off25 i) := ⟨![10, ((i 0).val / 2), 0], k0_off25_eq i⟩
/-- `k0_off26` in closed form. -/
theorem k0_off26_eq : ∀ i : grid0.Coords, k0_off26 i = ![11, ((i 0).val / 2), 0] := by decide +kernel
instance closedOff_k0_off26 (i : grid0.Coords) : ClosedOff (k0_off26 i) := ⟨![11, ((i 0).val / 2), 0], k0_off26_eq i⟩

/-! ## The kernel body on any staging memrefs: a subtype the run finds -/

/-- One staging buffer of output window 16, through which its contents are stated (`View.read_writes_of_cover`: the
    choice does not matter). -/
abbrev VO0_16 : View sig .tc .vmem S256x1536 .bf16 := (Memref.whole cc0_stg16_0 : Memref sig .tc .vmem S256x1536 .bf16).view
/-- One staging buffer of output window 17, through which its contents are stated (`View.read_writes_of_cover`: the
    choice does not matter). -/
abbrev VO0_17 : View sig .tc .vmem S1024x1536 .bf16 := (Memref.whole cc0_stg17_0 : Memref sig .tc .vmem S1024x1536 .bf16).view
/-- One staging buffer of output window 18, through which its contents are stated (`View.read_writes_of_cover`: the
    choice does not matter). -/
abbrev VO0_18 : View sig .tc .vmem S256x1536 .fp8e4m3 := (Memref.whole cc0_stg18_0 : Memref sig .tc .vmem S256x1536 .fp8e4m3).view
/-- One staging buffer of output window 19, through which its contents are stated (`View.read_writes_of_cover`: the
    choice does not matter). -/
abbrev VO0_19 : View sig .tc .vmem S2x512 .f32 := (Memref.whole cc0_stg19_0 : Memref sig .tc .vmem S2x512 .f32).view
/-- One staging buffer of output window 20, through which its contents are stated (`View.read_writes_of_cover`: the
    choice does not matter). -/
abbrev VO0_20 : View sig .tc .vmem S256x4096 .fp8e4m3 := (Memref.whole cc0_stg20_0 : Memref sig .tc .vmem S256x4096 .fp8e4m3).view
/-- One staging buffer of output window 21, through which its contents are stated (`View.read_writes_of_cover`: the
    choice does not matter). -/
abbrev VO0_21 : View sig .tc .vmem S2x512 .f32 := (Memref.whole cc0_stg21_0 : Memref sig .tc .vmem S2x512 .f32).view
/-- One staging buffer of output window 22, through which its contents are stated (`View.read_writes_of_cover`: the
    choice does not matter). -/
abbrev VO0_22 : View sig .tc .vmem S256x1536 .fp8e4m3 := (Memref.whole cc0_stg22_0 : Memref sig .tc .vmem S256x1536 .fp8e4m3).view
/-- One staging buffer of output window 23, through which its contents are stated (`View.read_writes_of_cover`: the
    choice does not matter). -/
abbrev VO0_23 : View sig .tc .vmem S12x2x512 .f32 := (Memref.whole cc0_stg23_0 : Memref sig .tc .vmem S12x2x512 .f32).view
/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1536 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x1536 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1536 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8192 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4096x1536 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1536 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1536 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1536 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S12x2x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1536 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1024x1536 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1536 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x4096 .fp8e4m3 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S2x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x1536 .fp8e4m3 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S12x2x512 .f32 := win0_23.stage (cfg0.slots t 23)
abbrev hs0_23 (t : Fin cfg0.N) : (ms0_23 t).IsWhole := hstage0_23 ((cfg0.slots t 23).cast nbuf0_23)
/-- The scratch operands: whole scoped buffers of the kernel's own, passed beside the windows. -/
abbrev scM0_0 : Memref sig .tc .vmem S256x4096 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1636000 in
/-- What the body's stores leave in each output's staging memref, as pieces (last first), WITH the
    proof that on whole staging memrefs — the inputs' at their contents, the outputs it reads before covering (19, 21, 23) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x1536 .bf16) (harg1 : arg1.IsWhole) (arg2 : Memref sig .tc .vmem S1x1536x256 .fp8e4m3) (harg2 : arg2.IsWhole) (arg3 : Memref sig .tc .vmem S2x512 .f32) (harg3 : arg3.IsWhole) (arg4 : Memref sig .tc .vmem S2x1536 .f32) (harg4 : arg4.IsWhole) (arg5 : Memref sig .tc .vmem S2x1536 .f32) (harg5 : arg5.IsWhole) (arg6 : Memref sig .tc .vmem S2x1536 .f32) (harg6 : arg6.IsWhole) (arg7 : Memref sig .tc .vmem S1x1536 .f32) (harg7 : arg7.IsWhole) (arg8 : Memref sig .tc .vmem S1536x1536 .fp8e4m3) (harg8 : arg8.IsWhole) (arg9 : Memref sig .tc .vmem S1x1536 .f32) (harg9 : arg9.IsWhole) (arg10 : Memref sig .tc .vmem S1536x8192 .fp8e4m3) (harg10 : arg10.IsWhole) (arg11 : Memref sig .tc .vmem S1x8192 .f32) (harg11 : arg11.IsWhole) (arg12 : Memref sig .tc .vmem S4096x1536 .fp8e4m3) (harg12 : arg12.IsWhole) (arg13 : Memref sig .tc .vmem S1x1536 .f32) (harg13 : arg13.IsWhole) (arg14 : Memref sig .tc .vmem S1024x1536 .bf16) (harg14 : arg14.IsWhole) (arg15 : Memref sig .tc .vmem S1024x1536 .fp8e4m3) (harg15 : arg15.IsWhole) (arg16 : Memref sig .tc .vmem S12x2x1024 .f32) (harg16 : arg16.IsWhole) (arg17 : Memref sig .tc .vmem S256x1536 .bf16) (harg17 : arg17.IsWhole) (arg18 : Memref sig .tc .vmem S1024x1536 .bf16) (harg18 : arg18.IsWhole) (arg19 : Memref sig .tc .vmem S256x1536 .fp8e4m3) (harg19 : arg19.IsWhole) (arg20 : Memref sig .tc .vmem S2x512 .f32) (harg20 : arg20.IsWhole) (arg21 : Memref sig .tc .vmem S256x4096 .fp8e4m3) (harg21 : arg21.IsWhole) (arg22 : Memref sig .tc .vmem S2x512 .f32) (harg22 : arg22.IsWhole) (arg23 : Memref sig .tc .vmem S256x1536 .fp8e4m3) (harg23 : arg23.IsWhole) (arg24 : Memref sig .tc .vmem S12x2x512 .f32) (harg24 : arg24.IsWhole) (arg25 : Memref sig .tc .vmem S256x4096 .f32) (harg25 : arg25.IsWhole)
    (x0 : Vec F S256x1536 .bf16) (x1 : Vec F S1x1536x256 .fp8e4m3) (x2 : Vec F S2x512 .f32) (x3 : Vec F S2x1536 .f32) (x4 : Vec F S2x1536 .f32) (x5 : Vec F S2x1536 .f32) (x6 : Vec F S1x1536 .f32) (x7 : Vec F S1536x1536 .fp8e4m3) (x8 : Vec F S1x1536 .f32) (x9 : Vec F S1536x8192 .fp8e4m3) (x10 : Vec F S1x8192 .f32) (x11 : Vec F S4096x1536 .fp8e4m3) (x12 : Vec F S1x1536 .f32) (x13 : Vec F S1024x1536 .bf16) (x14 : Vec F S1024x1536 .fp8e4m3) (x15 : Vec F S12x2x1024 .f32) (xo19 : Vec F S2x512 .f32) (xo21 : Vec F S2x512 .f32) (xo23 : Vec F S12x2x512 .f32) :
    Σ' (L16 : List (View.Piece (Elt F) S256x1536 .bf16)), Σ' (L17 : List (View.Piece (Elt F) S1024x1536 .bf16)), Σ' (L18 : List (View.Piece (Elt F) S256x1536 .fp8e4m3)), Σ' (L19 : List (View.Piece (Elt F) S2x512 .f32)), Σ' (L20 : List (View.Piece (Elt F) S256x4096 .fp8e4m3)), Σ' (L21 : List (View.Piece (Elt F) S2x512 .f32)), Σ' (L22 : List (View.Piece (Elt F) S256x1536 .fp8e4m3)), Σ' (L23 : List (View.Piece (Elt F) S12x2x512 .f32)), { LT0 : List (View.Piece (Elt F) S256x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo19 ∗ (∃ d, owns (c : Thread nD τ) arg21 fullShare d) ∗ owns (c : Thread nD τ) arg22 fullShare xo21 ∗ (∃ d, owns (c : Thread nD τ) arg23 fullShare d) ∗ owns (c : Thread nD τ) arg24 fullShare xo23 ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (arg20.view.loc (c : Thread nD τ) ↦[arg20.view.set]{fullShare} arg20.view.writes (Elt F) (harg20.unread xo19) L19) ∗ (∃ f, arg21.view.loc (c : Thread nD τ) ↦[arg21.view.set]{fullShare} arg21.view.writes (Elt F) f L20) ∗ (arg22.view.loc (c : Thread nD τ) ↦[arg22.view.set]{fullShare} arg22.view.writes (Elt F) (harg22.unread xo21) L21) ∗ (∃ f, arg23.view.loc (c : Thread nD τ) ↦[arg23.view.set]{fullShare} arg23.view.writes (Elt F) f L22) ∗ (arg24.view.loc (c : Thread nD τ) ↦[arg24.view.set]{fullShare} arg24.view.writes (Elt F) (harg24.unread xo23) L23) ∗ (∃ f, arg25.view.loc (c : Thread nD τ) ↦[arg25.view.set]{fullShare} arg25.view.writes (Elt F) f LT0)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, fun E K => ?run⟩
  case run =>
    simp only [cc0_ffn_eq_skeleton]; unfold cc0_ffn_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%d20, %f20, -, H20⟩, ⟨%f21, %hf21, H21⟩, ⟨%d22, %f22, -, H22⟩, ⟨%f23, %hf23, H23⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg20.eq_unread hf19; obtain rfl := harg22.eq_unread hf21; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexact H19
    isplitl [H20]; · iexists _; iexact H20
    isplitl [H21]; · iexact H21
    isplitl [H22]; · iexists _; iexact H22
    isplitl [H23]; · iexact H23
    iexists _; iexact HS0

end Cert.KernelIdeal.Gen

end
-- ==== Proof.RowSpec.lean ====
/- The mathematics of one token's row through the block: what the kernel's tiles and the reference's arrays both
   compute, stated once over the extended reals. Also the one fact of arithmetic between the two programs' quantisers:
   a binary search over the powers of two finds the number of powers that a value reaches. -/
module

public import Idealize.ShloMosaic.Lib.Pipeline.ValueKit
public import Idealize.ShloMosaic.Lib.Pointwise

@[expose] public section

set_option maxRecDepth 16384

open Idealize Idealize.ShloMosaic

namespace Cert.Ffn

noncomputable section

/-! ## Quantisation of a row -/

/-- The largest magnitude of a row. -/
def amax {n : ℕ} (f : Fin n → EReal) : EReal :=
  Finset.fold max (Ideal.ofBits .f32 0xFF800000#32) (fun x => FloatOps.absf (F := Ideal) (φ := .f32) (f x)) Finset.univ

/-- The scale by which a row of largest magnitude `a` is quantised: `a / 448`, or 1 for a row of zeros. -/
def scaleOf (a : EReal) : EReal := if a = 0 then 1 else Ideal.div a (Ideal.ofBits .f32 0x43E00000#32)

/-- Clamping to the largest finite code. -/
def clip (v : EReal) : EReal := min (Ideal.ofBits .f32 0x43E00000#32) (max (Ideal.ofBits .f32 0xC3E00000#32) v)

/-- One step of the search: `bit` is added to the exponent field `n` unless the power of two with that field exceeds `m`. -/
def step (m : EReal) (n bit : BitVec 32) : BitVec 32 :=
  if m < Ideal.ofBits .f32 ((n + bit) <<< (23 : ℕ)) then n else n + bit

/-- The largest exponent field whose power of two does not exceed `m` (0 when none does), by binary search. -/
def field (m : EReal) : BitVec 32 :=
  step m (step m (step m (step m (step m (step m (step m (step m 0#32 128#32) 64#32) 32#32) 16#32) 8#32) 4#32) 2#32) 1#32

/-- The exponent of the scale of a group of largest magnitude `a`: that of `frexp (a / 448)`, 0 for a group of zeros. -/
def groupExp (a : EReal) : BitVec 32 := if a = 0 then 0#32 else field (a * Ideal.ofBits .f32 0x3B124925#32) - 126#32

/-- `2 ^ e` as a float, from its exponent field. -/
def pow2 (e : BitVec 32) : EReal := Ideal.ofBits .f32 ((e + 127#32) <<< (23 : ℕ))

/-- The scale of a group of largest magnitude `a`. -/
def groupScale (a : EReal) : EReal := pow2 (groupExp a)

/-- The code of an entry `v` in a group of largest magnitude `a`. -/
def groupCode (a v : EReal) : EReal := clip (v * Ideal.ofBits .f32 ((127#32 - groupExp a) <<< (23 : ℕ)))

/-! ## The row -/

/-- What one token's row is computed from: its residual `xa`, its attention codes `o` with their scale `os`, the
    modulation rows of its batch entry, and the weights. -/
@[ext] structure Row where
  xa : Fin 1536 → EReal
  o : Fin 1536 → EReal
  os : EReal
  ga : Fin 1536 → EReal
  sm : Fin 1536 → EReal
  gm : Fin 1536 → EReal
  g : Fin 1536 → EReal
  wo : Fin 1536 → Fin 1536 → EReal
  so : Fin 1536 → EReal
  wgu : Fin 1536 → Fin 8192 → EReal
  sgu : Fin 8192 → EReal
  wd : Fin 4096 → Fin 1536 → EReal
  sd : Fin 1536 → EReal

namespace Row
variable (R : Row)

/-- The residual after the attention's output projection. -/
def x1 (k : Fin 1536) : EReal := R.xa k + R.ga k * ((∑ x, R.o x * R.wo x k) * R.os * R.so k)

/-- The normalised and modulated row. -/
def h2 (k : Fin 1536) : EReal :=
  Ideal.div (R.x1 k)
      (Ideal.sqrt (Ideal.div (∑ x, R.x1 x * R.x1 x) (Ideal.ofBits .f32 0x44C00000#32) + Ideal.ofBits .f32 0x358637BD#32))
    * R.g k * (1 + R.sm k)

def hs : EReal := scaleOf (amax R.h2)
def hc (k : Fin 1536) : EReal := clip (Ideal.div (R.h2 k) R.hs)

/-- The gate and up projections, dequantised. -/
def gu (j : Fin 8192) : EReal := (∑ x, R.hc x * R.wgu x j) * R.hs * R.sgu j

/-- The gated activation. -/
def act (j : Fin 4096) : EReal :=
  R.gu ⟨j, by omega⟩ * Ideal.logistic (R.gu ⟨j, by omega⟩) * R.gu ⟨4096 + j, by omega⟩

def asc : EReal := scaleOf (amax R.act)
def ac (j : Fin 4096) : EReal := clip (Ideal.div (R.act j) R.asc)

/-- The block's output row. -/
def x2 (k : Fin 1536) : EReal := R.x1 k + R.gm k * ((∑ x, R.ac x * R.wd x k) * R.asc * R.sd k)

/-- What the row gained over its residual. -/
def diff (k : Fin 1536) : EReal := R.x2 k - R.xa k

/-- The largest magnitude in group `j` of the gain. -/
def gmax (j : Fin 12) : EReal := amax fun l : Fin 128 => R.diff ⟨128 * j + l, by omega⟩

def ndc (k : Fin 1536) : EReal := groupCode (R.gmax ⟨k / 128, by omega⟩) (R.diff k)
def nds (j : Fin 12) : EReal := groupScale (R.gmax j)

end Row

/-! ## Blocks of a row -/

theorem ofBits_negInf : Ideal.ofBits .f32 0xFF800000#32 = ⊥ := by simp [Ideal.ofBits, Ideal.ieee]

theorem amax_le {n : ℕ} {f : Fin n → EReal} {c : EReal} :
    amax f ≤ c ↔ ∀ x, FloatOps.absf (F := Ideal) (φ := .f32) (f x) ≤ c := by
  unfold amax
  rw [ofBits_negInf, Finset.fold_max_le]
  simp

/-- The largest magnitude of a row of 4096 is the largest of those of its eight blocks of 512. -/
theorem amax_blocks (f : Fin 4096 → EReal) :
    max (max (max (max (max (max (max (amax fun l : Fin 512 => f ⟨0 + l, by omega⟩)
      (amax fun l : Fin 512 => f ⟨512 + l, by omega⟩)) (amax fun l : Fin 512 => f ⟨1024 + l, by omega⟩))
      (amax fun l : Fin 512 => f ⟨1536 + l, by omega⟩)) (amax fun l : Fin 512 => f ⟨2048 + l, by omega⟩))
      (amax fun l : Fin 512 => f ⟨2560 + l, by omega⟩)) (amax fun l : Fin 512 => f ⟨3072 + l, by omega⟩))
      (amax fun l : Fin 512 => f ⟨3584 + l, by omega⟩) = amax f := by
  refine eq_of_forall_ge_iff fun c => ?_
  simp only [max_le_iff, amax_le]
  constructor
  · rintro ⟨⟨⟨⟨⟨⟨⟨h0, h1⟩, h2⟩, h3⟩, h4⟩, h5⟩, h6⟩, h7⟩ ⟨x, hx⟩
    have e : ∀ (o : ℕ) (h : o ≤ x) (h' : x < o + 512), (⟨x, hx⟩ : Fin 4096) = ⟨o + (x - o), by omega⟩ :=
      fun o h h' => Fin.ext (by show x = o + (x - o); omega)
    by_cases c1 : x < 512
    · rw [e 0 (by omega) (by omega)]; exact h0 ⟨x - 0, by omega⟩
    by_cases c2 : x < 1024
    · rw [e 512 (by omega) (by omega)]; exact h1 ⟨x - 512, by omega⟩
    by_cases c3 : x < 1536
    · rw [e 1024 (by omega) (by omega)]; exact h2 ⟨x - 1024, by omega⟩
    by_cases c4 : x < 2048
    · rw [e 1536 (by omega) (by omega)]; exact h3 ⟨x - 1536, by omega⟩
    by_cases c5 : x < 2560
    · rw [e 2048 (by omega) (by omega)]; exact h4 ⟨x - 2048, by omega⟩
    by_cases c6 : x < 3072
    · rw [e 2560 (by omega) (by omega)]; exact h5 ⟨x - 2560, by omega⟩
    by_cases c7 : x < 3584
    · rw [e 3072 (by omega) (by omega)]; exact h6 ⟨x - 3072, by omega⟩
    · rw [e 3584 (by omega) (by omega)]; exact h7 ⟨x - 3584, by omega⟩
  · intro h
    exact ⟨⟨⟨⟨⟨⟨⟨fun x => h _, fun x => h _⟩, fun x => h _⟩, fun x => h _⟩, fun x => h _⟩, fun x => h _⟩, fun x => h _⟩, fun x => h _⟩

/-- A sum over 4096 is the sum of those of its eight blocks of 512, added from the first. -/
theorem sum_blocks (f : Fin 4096 → EReal) :
    (((((((∑ l : Fin 512, f ⟨0 + l, by omega⟩) + ∑ l : Fin 512, f ⟨512 + l, by omega⟩) + ∑ l : Fin 512, f ⟨1024 + l, by omega⟩)
      + ∑ l : Fin 512, f ⟨1536 + l, by omega⟩) + ∑ l : Fin 512, f ⟨2048 + l, by omega⟩) + ∑ l : Fin 512, f ⟨2560 + l, by omega⟩)
      + ∑ l : Fin 512, f ⟨3072 + l, by omega⟩) + ∑ l : Fin 512, f ⟨3584 + l, by omega⟩ = ∑ x, f x := by
  have h : ∑ x : Fin 4096, f x = ∑ x : Fin 8, ∑ l : Fin 512, f ⟨512 * x + l, by omega⟩ := by
    rw [← Fintype.sum_prod_type']
    refine (Fintype.sum_equiv (finProdFinEquiv (m := 8) (n := 512)) _ _ fun p => ?_).symm
    refine congrArg f (Fin.ext ?_)
    show 512 * (p.1 : ℕ) + p.2 = p.2 + 512 * p.1
    omega
  rw [h, Fin.sum_univ_eight]
  rfl

/-! ## The exponent: search and count -/

theorem pow_fields : ∀ n : Fin 256, ((BitVec.ofNat 32 n <<< (23 : ℕ)).extractLsb' 31 1 == 1#1) = false
    ∧ ((BitVec.ofNat 32 n <<< (23 : ℕ)).extractLsb' 23 8).toNat = n
    ∧ ((BitVec.ofNat 32 n <<< (23 : ℕ)).extractLsb' 0 23).toNat = 0 := by decide

/-- The float with exponent field `n` and no fraction. -/
def power (n : ℕ) : EReal := Ideal.ofBits .f32 (BitVec.ofNat 32 n <<< (23 : ℕ))

theorem power_eq (n : ℕ) (h0 : 0 < n) (h : n < 255) : power n = (((2 : ℝ) ^ ((n : ℤ) - 127) : ℝ) : EReal) := by
  obtain ⟨hs, he, hf⟩ := pow_fields ⟨n, by omega⟩
  unfold power Ideal.ofBits Ideal.ieee
  simp only [hs, he, hf, show (8 + 23 : ℕ) = 31 from rfl]
  rw [if_neg (by omega), if_neg (by omega), EReal.coe_eq_coe_iff]
  rw [show ((n : ℤ) - (2 ^ (8 - 1) - 1) - ((23 : ℕ) : ℤ)) = ((n : ℤ) - 127) - (23 : ℕ) by norm_num, if_neg (by simp), one_mul,
    zpow_sub₀ (by norm_num : (2 : ℝ) ≠ 0), zpow_natCast, Nat.add_zero, Nat.cast_pow, Nat.cast_ofNat]
  exact mul_div_cancel₀ _ (pow_ne_zero 23 two_ne_zero)

theorem power_top : power 255 = ⊤ := by
  obtain ⟨hs, he, hf⟩ := pow_fields ⟨255, by omega⟩
  unfold power Ideal.ofBits Ideal.ieee
  simp only [hs, he, hf, show (8 + 23 : ℕ) = 31 from rfl]
  norm_num

theorem power_mono (a b : ℕ) (ha : 0 < a) (hab : a ≤ b) (hb : b ≤ 255) : power a ≤ power b := by
  rcases Nat.lt_or_ge b 255 with h | h
  · rw [power_eq a ha (by omega), power_eq b (by omega) h]
    exact EReal.coe_le_coe_iff.mpr (zpow_le_zpow_right₀ (by norm_num) (by omega))
  · rw [show b = 255 by omega, power_top]; exact le_top

/-- A value reaches the first `n` of the powers, for some `n`. -/
theorem exists_threshold (m : EReal) : ∃ n ≤ 255, ∀ k, 0 < k → k ≤ 255 → (m < power k ↔ n < k) := by
  classical
  have hex : ∃ k, 255 ≤ k ∨ m < power (k + 1) := ⟨255, .inl le_rfl⟩
  refine ⟨Nat.find hex, Nat.find_min' hex (.inl le_rfl), fun k hk hk' => ⟨fun h => ?_, fun h => ?_⟩⟩
  · have := Nat.find_min' hex (m := k - 1) (.inr (by rwa [Nat.sub_add_cancel hk]))
    omega
  · rcases Nat.find_spec hex with h' | h'
    · omega
    · exact lt_of_lt_of_le h' (power_mono _ _ (by omega) (by omega) hk')

theorem step_eq {m : EReal} {n : ℕ} (hn : ∀ k, 0 < k → k ≤ 255 → (m < power k ↔ n < k)) (e s : ℕ) (hs : 0 < s)
    (he : e ≤ n) (hn' : n < e + 2 * s) (hb : e + 2 * s ≤ 256) :
    ∃ e', step m (BitVec.ofNat 32 e) (BitVec.ofNat 32 s) = BitVec.ofNat 32 e' ∧ e' ≤ n ∧ n < e' + s ∧ e' + s ≤ 256 := by
  unfold step
  rw [← BitVec.ofNat_add]
  have h := hn (e + s) (by omega) (by omega)
  unfold power at h
  by_cases hc : n < e + s
  · exact ⟨e, by rw [if_pos (h.mpr hc)], by omega, by omega, by omega⟩
  · exact ⟨e + s, by rw [if_neg fun h' => hc (h.mp h')], by omega, by omega, by omega⟩

theorem field_eq {m : EReal} {n : ℕ} (hn : ∀ k, 0 < k → k ≤ 255 → (m < power k ↔ n < k)) (h : n ≤ 255) :
    field m = BitVec.ofNat 32 n := by
  unfold field
  obtain ⟨e1, h1, a1, b1, c1⟩ := step_eq hn 0 128 (by omega) (by omega) (by omega) (by omega)
  obtain ⟨e2, h2, a2, b2, c2⟩ := step_eq hn e1 64 (by omega) (by omega) (by omega) (by omega)
  obtain ⟨e3, h3, a3, b3, c3⟩ := step_eq hn e2 32 (by omega) (by omega) (by omega) (by omega)
  obtain ⟨e4, h4, a4, b4, c4⟩ := step_eq hn e3 16 (by omega) (by omega) (by omega) (by omega)
  obtain ⟨e5, h5, a5, b5, c5⟩ := step_eq hn e4 8 (by omega) (by omega) (by omega) (by omega)
  obtain ⟨e6, h6, a6, b6, c6⟩ := step_eq hn e5 4 (by omega) (by omega) (by omega) (by omega)
  obtain ⟨e7, h7, a7, b7, c7⟩ := step_eq hn e6 2 (by omega) (by omega) (by omega) (by omega)
  obtain ⟨e8, h8, a8, b8, c8⟩ := step_eq hn e7 1 (by omega) (by omega) (by omega) (by omega)
  rw [h1, h2, h3, h4, h5, h6, h7, h8, show e8 = n by omega]

theorem sum_threshold (n : ℕ) (h : n ≤ 255) : (∑ k : Fin 255, if n < (k : ℕ) + 1 then (0 : EReal) else 1) = ((n : ℝ) : EReal) := by
  have h1 : (∑ k : Fin 255, if n < (k : ℕ) + 1 then (0 : EReal) else 1) = ∑ k ∈ Finset.range 255, if k < n then (1 : EReal) else 0 := by
    rw [← Fin.sum_univ_eq_sum_range (fun k => if k < n then (1 : EReal) else 0) 255]
    refine Finset.sum_congr rfl fun k _ => ?_
    by_cases hk : (k : ℕ) < n
    · rw [if_neg (by omega), if_pos hk]
    · rw [if_pos (by omega), if_neg hk]
  rw [h1, Finset.sum_boole, show (Finset.range 255).filter (fun k => k < n) = Finset.range n from by
    ext k; simp only [Finset.mem_filter, Finset.mem_range]; omega, Finset.card_range]
  norm_cast

theorem fptosi_nat (n : ℕ) (h : n ≤ 255) : Ideal.fptosi 32 ((n : ℝ) : EReal) = BitVec.ofNat 32 n := by
  unfold Ideal.fptosi
  have : Ideal.toIntClamped (-(2 ^ (32 - 1) : ℕ)) ((2 ^ (32 - 1) : ℕ) - 1) ((n : ℝ) : EReal) = (n : ℤ) := by
    show max _ (min _ (if (0 : ℝ) ≤ (n : ℝ) then ⌊(n : ℝ)⌋ else ⌈(n : ℝ)⌉)) = (n : ℤ)
    rw [if_pos (Nat.cast_nonneg n), Int.floor_natCast]
    omega
  rw [this]
  exact BitVec.ofInt_natCast 32 n

/-- The number of powers of two that `m` reaches, counted in floats and turned to an integer, is the field found by the
    search. -/
theorem count_eq (m : EReal) :
    Ideal.fptosi 32 (∑ k : Fin 255, if m < Ideal.ofBits .f32 ((BitVec.ofNat 32 k + 1#32) <<< (23 : ℕ)) then (0 : EReal) else 1)
      = field m := by
  obtain ⟨n, h, hn⟩ := exists_threshold m
  rw [field_eq hn h, ← fptosi_nat n h, ← sum_threshold n h]
  congr 1
  refine Finset.sum_congr rfl fun k _ => ?_
  have h' := hn (k + 1) (by omega) (by omega)
  unfold power at h'
  rw [BitVec.ofNat_add] at h'
  simp only [h']

end

end Cert.Ffn

end
-- ==== Proof.KernelGroups.lean ====
/- The quantiser of a group of 128 columns, written once: the kernel runs the same operations on each of its twelve
   groups, split differently between the stretches it was cut into. -/
module

public import proofs.«01_k».proof.Proof.Gen.KernelIdeal.Skeleton
public import proofs.«01_k».proof.Proof.RowSpec

@[expose] public section

set_option maxRecDepth 16384

noncomputable section

namespace Cert.KernelIdeal.Tile

open Idealize Idealize.ShloMosaic Idealize.ShloMosaic.TcCoe Idealize.SL.Sem
open Cert.KernelIdeal Cert.KernelIdeal.Gen Cert.Ffn

/-! ## The quantiser's operations -/

/-- The largest magnitude in each row. -/
def colMax (v : FVec Ideal S256x128 .f32) : FVec Ideal S256x1 .f32 :=
  shapeCast S256x1 (multiReduction .maximumf [1] S256 (absf v) 0xFF800000#32 reduces_S256x128_S256 (.inl rfl) rfl) shapeCasts_S256_S256x1

/-- One step of the search for the exponent field. -/
def stepCol (m : FVec Ideal S256x1 .f32) (n : IVec S256x1 32) (bit : BitVec 32) : IVec S256x1 32 :=
  select (cmpf .olt m (bitcastToFloat (F := Ideal) .f32 (shli (addi n (broadcast S256x1 bit)) (broadcast S256x1 23#32)))) n (addi n (broadcast S256x1 bit))

/-- The largest magnitudes over 448. -/
def scaledCol (a : FVec Ideal S256x1 .f32) : FVec Ideal S256x1 .f32 :=
  mulf a (broadcast S256x1 (Scalar.ofBits .f32 0x3B124925#32 : Ideal .f32))

/-- The exponents, from the fields found and the largest magnitudes. -/
def exponentCol (a : FVec Ideal S256x1 .f32) (n : IVec S256x1 32) : IVec S256x1 32 :=
  select (cmpf .oeq a (broadcast S256x1 (Scalar.ofBits .f32 0x00000000#32 : Ideal .f32))) (broadcast S256x1 0#32) (subi n (broadcast S256x1 126#32))

/-- The eight steps of the search. -/
def fieldCol (m : FVec Ideal S256x1 .f32) : IVec S256x1 32 :=
  stepCol m (stepCol m (stepCol m (stepCol m (stepCol m (stepCol m (stepCol m (stepCol m (broadcast S256x1 0#32) 128#32) 64#32) 32#32) 16#32) 8#32) 4#32) 2#32) 1#32

def expCol (v : FVec Ideal S256x128 .f32) : IVec S256x1 32 := exponentCol (colMax v) (fieldCol (scaledCol (colMax v)))

/-- The codes, from the entries and the exponents. -/
def codeBlock (v : FVec Ideal S256x128 .f32) (e : IVec S256x1 32) : FVec Ideal S256x128 .fp8e4m3 :=
  truncf .fp8e4m3 (minimumf (broadcast S256x128 (Scalar.ofBits .f32 0x43E00000#32 : Ideal .f32)) (maximumf (broadcast S256x128 (Scalar.ofBits .f32 0xC3E00000#32 : Ideal .f32))
    (mulf v (broadcastTo S256x128 (bitcastToFloat (F := Ideal) .f32 (shli (subi (broadcast S256x1 127#32) e) (broadcast S256x1 23#32))) broadcasts_S256x1_S256x128)))) bitsLt_fp8e4m3_f32

/-- The scales as a row, from the exponents. -/
def scaleRow (e : IVec S256x1 32) : FVec Ideal S1x1x256 .f32 :=
  shapeCast S1x1x256 (extractStridedSlice S1x256 ![0, 0] (transpose S128x256 [1, 0] (broadcastTo S256x128 (shapeCast S256x1
    (bitcastToFloat (F := Ideal) .f32 (shli (addi e (broadcast S256x1 127#32)) (broadcast S256x1 23#32))) shapeCasts_S256x1_S256x1) broadcasts_S256x1_S256x128)
    transposes_S256x128_p1_0_S128x256) slices_S128x256_o0_0_S1x256) shapeCasts_S1x256_S1x1x256

/-! ## Their readings -/

section Readings
variable (v : FVec Ideal S256x128 .f32) (a m : FVec Ideal S256x1 .f32) (n : IVec S256x1 32) (bit : BitVec 32) (r : Fin 256) (l : Fin 128)

theorem colMax_at : colMax v (ix2 r 0) = amax fun l => v (ix2 r l) := by
  unfold colMax
  pointwise []
  rfl

theorem stepCol_at : stepCol m n bit (ix2 r 0) = step (m (ix2 r 0)) (n (ix2 r 0)) bit := by
  unfold stepCol
  pointwise []
  rfl

theorem scaledCol_at : scaledCol a (ix2 r 0) = a (ix2 r 0) * Ideal.ofBits .f32 0x3B124925#32 := by
  unfold scaledCol
  pointwise []

theorem exponentCol_at : exponentCol a n (ix2 r 0) = if a (ix2 r 0) = 0 then 0#32 else n (ix2 r 0) - 126#32 := by
  unfold exponentCol
  pointwise []
  rfl

theorem fieldCol_at : fieldCol m (ix2 r 0) = field (m (ix2 r 0)) := by
  unfold fieldCol field
  simp only [stepCol_at]
  rfl

theorem expCol_at : expCol v (ix2 r 0) = groupExp (amax fun l => v (ix2 r l)) := by
  unfold expCol groupExp
  rw [exponentCol_at, fieldCol_at, scaledCol_at, colMax_at]

theorem codeBlock_at : codeBlock v n (ix2 r l) = clip (v (ix2 r l) * Ideal.ofBits .f32 ((127#32 - n (ix2 r 0)) <<< (23 : ℕ))) := by
  unfold codeBlock
  pointwise []
  rfl

theorem scaleRow_at : scaleRow n (ix3 0 0 r) = pow2 (n (ix2 r 0)) := by
  unfold scaleRow
  pointwise []
  rfl

/-- The code of an entry of a group. -/
theorem groupCodes_at : codeBlock v (expCol v) (ix2 r l) = groupCode (amax fun l => v (ix2 r l)) (v (ix2 r l)) := by
  rw [codeBlock_at, expCol_at]
  rfl

/-- The scale of a row's group. -/
theorem groupScales_at : scaleRow (expCol v) (ix3 0 0 r) = groupScale (amax fun l => v (ix2 r l)) := by
  rw [scaleRow_at, expCol_at]
  rfl

end Readings

/-! ## The twelve groups -/

section Groups
variable (a b c : FVec Ideal S256x1536 .f32) (d : Vec Ideal S1x1536 .f32) (D : FVec Ideal S256x1536 .f32)

/-- The columns of group 0. -/
def cols0 : FVec Ideal S256x128 .f32 := extractStridedSlice S256x128 ![0, 0] D slices_S256x1536_o0_0_S256x128

theorem cols0_at (r : Fin 256) (l : Fin 128) : cols0 D (ix2 r l) = D (ix2 r ⟨128 * 0 + l, by omega⟩) := by
  unfold cols0
  pointwise []

/-- The columns of group 1. -/
def cols1 : FVec Ideal S256x128 .f32 := extractStridedSlice S256x128 ![0, 128] D slices_S256x1536_o0_128_S256x128

theorem cols1_at (r : Fin 256) (l : Fin 128) : cols1 D (ix2 r l) = D (ix2 r ⟨128 * 1 + l, by omega⟩) := by
  unfold cols1
  pointwise []

/-- The columns of group 2. -/
def cols2 : FVec Ideal S256x128 .f32 := extractStridedSlice S256x128 ![0, 256] D slices_S256x1536_o0_256_S256x128

theorem cols2_at (r : Fin 256) (l : Fin 128) : cols2 D (ix2 r l) = D (ix2 r ⟨128 * 2 + l, by omega⟩) := by
  unfold cols2
  pointwise []

/-- The columns of group 3. -/
def cols3 : FVec Ideal S256x128 .f32 := extractStridedSlice S256x128 ![0, 384] D slices_S256x1536_o0_384_S256x128

theorem cols3_at (r : Fin 256) (l : Fin 128) : cols3 D (ix2 r l) = D (ix2 r ⟨128 * 3 + l, by omega⟩) := by
  unfold cols3
  pointwise []

/-- The columns of group 4. -/
def cols4 : FVec Ideal S256x128 .f32 := extractStridedSlice S256x128 ![0, 512] D slices_S256x1536_o0_512_S256x128

theorem cols4_at (r : Fin 256) (l : Fin 128) : cols4 D (ix2 r l) = D (ix2 r ⟨128 * 4 + l, by omega⟩) := by
  unfold cols4
  pointwise []

/-- The columns of group 5. -/
def cols5 : FVec Ideal S256x128 .f32 := extractStridedSlice S256x128 ![0, 640] D slices_S256x1536_o0_640_S256x128

theorem cols5_at (r : Fin 256) (l : Fin 128) : cols5 D (ix2 r l) = D (ix2 r ⟨128 * 5 + l, by omega⟩) := by
  unfold cols5
  pointwise []

/-- The columns of group 6. -/
def cols6 : FVec Ideal S256x128 .f32 := extractStridedSlice S256x128 ![0, 768] D slices_S256x1536_o0_768_S256x128

theorem cols6_at (r : Fin 256) (l : Fin 128) : cols6 D (ix2 r l) = D (ix2 r ⟨128 * 6 + l, by omega⟩) := by
  unfold cols6
  pointwise []

/-- The columns of group 7. -/
def cols7 : FVec Ideal S256x128 .f32 := extractStridedSlice S256x128 ![0, 896] D slices_S256x1536_o0_896_S256x128

theorem cols7_at (r : Fin 256) (l : Fin 128) : cols7 D (ix2 r l) = D (ix2 r ⟨128 * 7 + l, by omega⟩) := by
  unfold cols7
  pointwise []

/-- The columns of group 8. -/
def cols8 : FVec Ideal S256x128 .f32 := extractStridedSlice S256x128 ![0, 1024] D slices_S256x1536_o0_1024_S256x128

theorem cols8_at (r : Fin 256) (l : Fin 128) : cols8 D (ix2 r l) = D (ix2 r ⟨128 * 8 + l, by omega⟩) := by
  unfold cols8
  pointwise []

/-- The columns of group 9. -/
def cols9 : FVec Ideal S256x128 .f32 := extractStridedSlice S256x128 ![0, 1152] D slices_S256x1536_o0_1152_S256x128

theorem cols9_at (r : Fin 256) (l : Fin 128) : cols9 D (ix2 r l) = D (ix2 r ⟨128 * 9 + l, by omega⟩) := by
  unfold cols9
  pointwise []

/-- The columns of group 10. -/
def cols10 : FVec Ideal S256x128 .f32 := extractStridedSlice S256x128 ![0, 1280] D slices_S256x1536_o0_1280_S256x128

theorem cols10_at (r : Fin 256) (l : Fin 128) : cols10 D (ix2 r l) = D (ix2 r ⟨128 * 10 + l, by omega⟩) := by
  unfold cols10
  pointwise []

/-- The columns of group 11. -/
def cols11 : FVec Ideal S256x128 .f32 := extractStridedSlice S256x128 ![0, 1408] D slices_S256x1536_o0_1408_S256x128

theorem cols11_at (r : Fin 256) (l : Fin 128) : cols11 D (ix2 r l) = D (ix2 r ⟨128 * 11 + l, by omega⟩) := by
  unfold cols11
  pointwise []

theorem codes0 : k0_pay63 (F := Ideal) (k0_pay62 (k0_pay55 a b c d) (k0_pay56 a b c d) (k0_pay57 a b c d) (k0_pay58 a b c d) (k0_pay59 a b c d)) (Scalar.ofBits .f32 0xC3E00000#32) (Scalar.ofBits .f32 0x43E00000#32)
    = codeBlock (cols0 (k0_pay54 a b c d)) (expCol (cols0 (k0_pay54 a b c d))) := rfl

theorem scales0 : k0_pay64 (F := Ideal) (k0_pay61 (k0_pay56 a b c d) (k0_pay57 a b c d) (k0_pay58 a b c d) (k0_pay59 a b c d))
    = scaleRow (expCol (cols0 (k0_pay54 a b c d))) := rfl

theorem codes1 : k0_pay73 (F := Ideal) (k0_pay65 D) (k0_pay70 (k0_pay66 D) (k0_pay67 D) (k0_pay68 D) (k0_pay69 D)) k0_pay72
    = codeBlock (cols1 D) (expCol (cols1 D)) := rfl

theorem scales1 : k0_pay74 (F := Ideal) (k0_pay71 (k0_pay66 D) (k0_pay67 D) (k0_pay68 D) (k0_pay69 D))
    = scaleRow (expCol (cols1 D)) := rfl

theorem codes2 : k0_pay81 (F := Ideal) (k0_pay75 D) (k0_pay80 (k0_pay76 D) (k0_pay77 D) (k0_pay78 D) (k0_pay79 D))
    = codeBlock (cols2 D) (expCol (cols2 D)) := rfl

theorem scales2 : k0_pay82 (F := Ideal) (k0_pay80 (k0_pay76 D) (k0_pay77 D) (k0_pay78 D) (k0_pay79 D))
    = scaleRow (expCol (cols2 D)) := rfl

theorem codes3 : k0_pay90 (F := Ideal) (k0_pay83 D) (k0_pay84 D) (k0_pay88 (k0_pay85 D) (k0_pay86 D) (k0_pay87 D))
    = codeBlock (cols3 D) (expCol (cols3 D)) := rfl

theorem scales3 : k0_pay91 (F := Ideal) (k0_pay84 D) (k0_pay88 (k0_pay85 D) (k0_pay86 D) (k0_pay87 D))
    = scaleRow (expCol (cols3 D)) := rfl

theorem codes4 : k0_pay99 (F := Ideal) (k0_pay92 D) (k0_pay93 D) (k0_pay94 D) (k0_pay97 (k0_pay94 D) k0_pay95 k0_pay96)
    = codeBlock (cols4 D) (expCol (cols4 D)) := rfl

theorem scales4 : k0_pay100 (F := Ideal) (k0_pay93 D) (k0_pay94 D) (k0_pay97 (k0_pay94 D) k0_pay95 k0_pay96)
    = scaleRow (expCol (cols4 D)) := rfl

theorem codes5 : k0_pay107 (F := Ideal) (k0_pay101 D) (k0_pay103 (k0_pay102 D)) (k0_pay104 (k0_pay102 D)) (k0_pay105 (k0_pay102 D))
    = codeBlock (cols5 D) (expCol (cols5 D)) := rfl

theorem scales5 : k0_pay109 (F := Ideal) (k0_pay108 (k0_pay103 (k0_pay102 D)) (k0_pay104 (k0_pay102 D)) (k0_pay105 (k0_pay102 D)))
    = scaleRow (expCol (cols5 D)) := rfl

theorem codes6 : k0_pay116 (F := Ideal) (k0_pay110 D) (k0_pay111 D) (k0_pay112 D) (k0_pay113 D)
    = codeBlock (cols6 D) (expCol (cols6 D)) := rfl

theorem scales6 : k0_pay117 (F := Ideal) (k0_pay115 (k0_pay111 D) (k0_pay112 D) (k0_pay113 D))
    = scaleRow (expCol (cols6 D)) := rfl

theorem codes7 : k0_pay125 (F := Ideal) (k0_pay118 D) (k0_pay124 (k0_pay119 D) (k0_pay120 D) (k0_pay121 D))
    = codeBlock (cols7 D) (expCol (cols7 D)) := rfl

theorem scales7 : k0_pay126 (F := Ideal) (k0_pay123 (k0_pay119 D) (k0_pay120 D) (k0_pay121 D))
    = scaleRow (expCol (cols7 D)) := rfl

theorem codes8 : k0_pay133 (F := Ideal) (k0_pay127 D) (k0_pay131 (k0_pay128 D) (k0_pay129 D) (k0_pay130 D))
    = codeBlock (cols8 D) (expCol (cols8 D)) := rfl

theorem scales8 : k0_pay134 (F := Ideal) (k0_pay132 (k0_pay128 D) (k0_pay129 D) (k0_pay130 D))
    = scaleRow (expCol (cols8 D)) := rfl

theorem codes9 : k0_pay142 (F := Ideal) (k0_pay135 D) (k0_pay139 (k0_pay137 D) (k0_pay138 D)) (k0_pay140 (k0_pay136 D))
    = codeBlock (cols9 D) (expCol (cols9 D)) := rfl

theorem scales9 : k0_pay143 (F := Ideal) (k0_pay139 (k0_pay137 D) (k0_pay138 D)) (k0_pay140 (k0_pay136 D))
    = scaleRow (expCol (cols9 D)) := rfl

theorem codes10 : k0_pay152 (F := Ideal) (k0_pay144 D) (k0_pay145 D) (k0_pay146 D) (k0_pay148 (k0_pay146 D) (k0_pay147 D)) (k0_pay149 (k0_pay146 D) (k0_pay147 D)) (k0_pay150 (k0_pay146 D) (k0_pay147 D))
    = codeBlock (cols10 D) (expCol (cols10 D)) := rfl

theorem scales10 : k0_pay153 (F := Ideal) (k0_pay145 D) (k0_pay146 D) (k0_pay148 (k0_pay146 D) (k0_pay147 D)) (k0_pay149 (k0_pay146 D) (k0_pay147 D)) (k0_pay150 (k0_pay146 D) (k0_pay147 D))
    = scaleRow (expCol (cols10 D)) := rfl

theorem codes11 : k0_pay162 (F := Ideal) (k0_pay154 D) (k0_pay155 D) (k0_pay156 D) (k0_pay158 (k0_pay156 D) k0_pay157) (k0_pay159 (k0_pay156 D) k0_pay157) (k0_pay160 (k0_pay156 D) k0_pay157)
    = codeBlock (cols11 D) (expCol (cols11 D)) := rfl

theorem scales11 : k0_pay163 (F := Ideal) (k0_pay155 D) (k0_pay156 D) (k0_pay158 (k0_pay156 D) k0_pay157) (k0_pay159 (k0_pay156 D) k0_pay157) (k0_pay160 (k0_pay156 D) k0_pay157)
    = scaleRow (expCol (cols11 D)) := rfl

end Groups

end Cert.KernelIdeal.Tile
-- ==== Proof.KernelTile.lean ====
/- What the kernel's stretches of arithmetic make of a tile, one row at a time: each is read at an entry, given what its
   operands hold in that row. -/
module

public import proofs.«01_k».proof.Proof.KernelGroups

@[expose] public section

set_option maxRecDepth 16384

noncomputable section

namespace Cert.KernelIdeal.Tile

open Idealize Idealize.ShloMosaic Idealize.ShloMosaic.TcCoe Idealize.SL.Sem
open Cert.KernelIdeal Cert.KernelIdeal.Gen Cert.Ffn

/-! ## Operations at any arrays -/

section Readings
variable (X : FVec Ideal S256x1536 .f32) (Y : FVec Ideal S256x1 .f32) (A : FVec Ideal S256x512 .f32) (r : Fin 256) (k : Fin 1536) (l : Fin 512)

theorem rd_max1536 : shapeCast S256x1 (multiReduction .maximumf [1] S256 (absf X) 0xFF800000#32 reduces_S256x1536_S256 (.inl rfl) rfl) shapeCasts_S256_S256x1 (ix2 r 0) = amax fun k => X (ix2 r k) := by
  pointwise []
  rfl

/-- The largest magnitudes of a block of 512 columns. -/
def blockMax : FVec Ideal S256x1 .f32 :=
  shapeCast S256x1 (multiReduction .maximumf [1] S256 (absf A) 0xFF800000#32 reduces_S256x512_S256 (.inl rfl) rfl) shapeCasts_S256_S256x1

theorem blockMax_at : blockMax A (ix2 r 0) = amax fun l => A (ix2 r l) := by
  unfold blockMax
  pointwise []
  rfl

theorem rd_max (Z : FVec Ideal S256x1 .f32) : maximumf Y Z (ix2 r 0) = max (Y (ix2 r 0)) (Z (ix2 r 0)) := by
  pointwise []

theorem rd_scale : select (cmpf .oeq Y (broadcast S256x1 (Scalar.ofBits .f32 0x00000000#32 : Ideal .f32))) (broadcast S256x1 (Scalar.ofBits .f32 0x3F800000#32 : Ideal .f32)) (divf Y (broadcast S256x1 (Scalar.ofBits .f32 0x43E00000#32 : Ideal .f32))) (ix2 r 0) = scaleOf (Y (ix2 r 0)) := by
  pointwise []
  unfold scaleOf
  rfl

theorem rd_norm (g : Vec Ideal S1x1536 .f32) (m : Vec Ideal S1x1536 .f32) : mulf (mulf (divf X (broadcastTo S256x1536 (sqrt (addf (divf (shapeCast S256x1 (multiReduction .add [1] S256 (mulf X X) 0x00000000#32 reduces_S256x1536_S256 (.inl rfl) rfl) shapeCasts_S256_S256x1) (broadcast S256x1 (Scalar.ofBits .f32 0x44C00000#32 : Ideal .f32))) (broadcast S256x1 (Scalar.ofBits .f32 0x358637BD#32 : Ideal .f32)))) broadcasts_S256x1_S256x1536)) (broadcastTo S256x1536 (shapeCast S1x1536 g shapeCasts_S1x1536_S1x1536) broadcasts_S1x1536_S256x1536)) (broadcastTo S256x1536 (addf (broadcast S1x1536 (Scalar.ofBits .f32 0x3F800000#32 : Ideal .f32)) m) broadcasts_S1x1536_S256x1536) (ix2 r k)
    = Ideal.div (X (ix2 r k)) (Ideal.sqrt (Ideal.div (∑ x, X (ix2 r x) * X (ix2 r x)) (Ideal.ofBits .f32 0x44C00000#32) + Ideal.ofBits .f32 0x358637BD#32)) * g (ix2 0 k) * (1 + m (ix2 0 k)) := by
  pointwise []

theorem rd_codes (W : FVec Ideal S256x1536 .f32) : k0_pay10 (F := Ideal) X W (ix2 r k) = clip (Ideal.div (X (ix2 r k)) (W (ix2 r k))) := by
  pointwise [k0_pay10]
  rfl

theorem rd_bcast1536 : broadcastTo S256x1536 Y broadcasts_S256x1_S256x1536 (ix2 r k) = Y (ix2 r 0) := by
  pointwise []

theorem rd_bcast512 : broadcastTo S256x512 Y broadcasts_S256x1_S256x512 (ix2 r l) = Y (ix2 r 0) := by
  pointwise []

theorem rd_row : k0_pay11 (F := Ideal) Y (ix2 0 r) = Y (ix2 r 0) := by
  pointwise [k0_pay11]

theorem rd_same512 : shapeCast S256x512 A shapeCasts_S256x512_S256x512 = A := by
  funext i
  idx_vars i
  pointwise []

theorem rd_glu (H : FVec Ideal S256x1536 .fp8e4m3) (wg wu : Vec Ideal S1536x512 .fp8e4m3) (sg su : Vec Ideal S1x512 .f32) : k0_pay15 (F := Ideal) Y H wg sg wu su (ix2 r l)
    = ((∑ x, H (ix2 r x) * wg (ix2 x l)) * Y (ix2 r 0) * sg (ix2 0 l)) * Ideal.logistic ((∑ x, H (ix2 r x) * wg (ix2 x l)) * Y (ix2 r 0) * sg (ix2 0 l))
      * ((∑ x, H (ix2 r x) * wu (ix2 x l)) * Y (ix2 r 0) * su (ix2 0 l)) := by
  pointwise [k0_pay15]

theorem rd_actCodes (B : FVec Ideal S256x512 .f32) : k0_pay40 (F := Ideal) A B (ix2 r l) = clip (Ideal.div (A (ix2 r l)) (B (ix2 r l))) := by
  pointwise [k0_pay40]
  rfl

/-- One block's part of the down projection. -/
def downBlock (Q : FVec Ideal S256x512 .fp8e4m3) (W : Vec Ideal S512x1536 .fp8e4m3) : FVec Ideal S256x1536 .f32 :=
  matmul (φ₁ := .fp8e4m3) (φ₂ := .fp8e4m3) dot_S256x512_S512x1536_S256x1536_1_0_0_1_n_n none Q W (constant S256x1536 .f32 0x00000000#32)

theorem downBlock_at (Q : FVec Ideal S256x512 .fp8e4m3) (W : Vec Ideal S512x1536 .fp8e4m3) : downBlock Q W (ix2 r k) = ∑ l, Q (ix2 r l) * W (ix2 l k) := by
  unfold downBlock
  pointwise []

theorem rd_mlp (Y : FVec Ideal S256x1 .f32) (sd : Vec Ideal S1x1536 .f32) : mulf (mulf X (broadcastTo S256x1536 Y broadcasts_S256x1_S256x1536)) (broadcastTo S256x1536 (shapeCast S1x1536 sd shapeCasts_S1x1536_S1x1536) broadcasts_S1x1536_S256x1536) (ix2 r k) = X (ix2 r k) * Y (ix2 r 0) * sd (ix2 0 k) := by
  pointwise []

theorem rd_add (Z : FVec Ideal S256x1536 .f32) : addf X Z (ix2 r k) = X (ix2 r k) + Z (ix2 r k) := by
  pointwise []

theorem rd_x2 (Z : FVec Ideal S256x1536 .f32) (g : Vec Ideal S1x1536 .f32) : k0_pay52 (F := Ideal) X Z g (ix2 r k) = X (ix2 r k) + g (ix2 0 k) * Z (ix2 r k) := by
  pointwise [k0_pay52]

theorem rd_y (Z : FVec Ideal S256x1536 .f32) (g : Vec Ideal S1x1536 .f32) : k0_pay53 (F := Ideal) X Z g (ix2 r k) = X (ix2 r k) + g (ix2 0 k) * Z (ix2 r k) := by
  pointwise [k0_pay53, k0_pay52]

theorem rd_diff (X' Z : FVec Ideal S256x1536 .f32) (g : Vec Ideal S1x1536 .f32) : k0_pay54 (F := Ideal) X' X Z g (ix2 r k) = X (ix2 r k) + g (ix2 0 k) * Z (ix2 r k) - X' (ix2 r k) := by
  pointwise [k0_pay54, k0_pay52]

theorem rd_x1 (s : FVec Ideal S256x1 .f32) (o : FVec Ideal S1536x256 .fp8e4m3) (w : Vec Ideal S1536x1536 .fp8e4m3) (so g : Vec Ideal S1x1536 .f32) : k0_pay6 (F := Ideal) X s o w so g (ix2 r k)
    = X (ix2 r k) + g (ix2 0 k) * ((∑ x, o (ix2 x r) * w (ix2 x k)) * s (ix2 r 0) * so (ix2 0 k)) := by
  pointwise [k0_pay6]

theorem rd_xa (x : Vec Ideal S256x1536 .bf16) : k0_pay3 (F := Ideal) x (ix2 r k) = x (ix2 r k) := by
  pointwise [k0_pay3]

theorem rd_os (x : Vec Ideal S1x256 .f32) : k0_pay4 (F := Ideal) x (ix2 r 0) = x (ix2 0 r) := by
  pointwise [k0_pay4]

theorem rd_o (x : Vec Ideal S1x1536x256 .fp8e4m3) : k0_pay5 (F := Ideal) x (ix2 k r) = x (ix3 0 k r) := by
  pointwise [k0_pay5]

theorem rd_skip (s : Vec Ideal S1x1x1024 .f32) (x : Vec Ideal S1024x128 .bf16) (d : Vec Ideal S1024x128 .fp8e4m3) (n : Fin 1024) (l : Fin 128) : k0_pay2 (F := Ideal) s x d (ix2 n l) = x (ix2 n l) + d (ix2 n l) * s (ix3 0 0 n) := by
  pointwise [k0_pay2]

end Readings

/-! ## Stretches of arithmetic, given what their operands hold in a row -/

section Rows
variable (R : Row) (r : Fin 256)

theorem x1_of (k : Fin 1536) {X : FVec Ideal S256x1536 .f32} {s : FVec Ideal S256x1 .f32} {o : FVec Ideal S1536x256 .fp8e4m3} {w : Vec Ideal S1536x1536 .fp8e4m3} {so g : Vec Ideal S1x1536 .f32}
    (hX : X (ix2 r k) = R.xa k) (hs : s (ix2 r 0) = R.os) (ho : ∀ x, o (ix2 x r) = R.o x) (hw : ∀ x, w (ix2 x k) = R.wo x k) (hso : so (ix2 0 k) = R.so k) (hg : g (ix2 0 k) = R.ga k) :
    k0_pay6 (F := Ideal) X s o w so g (ix2 r k) = R.x1 k := by
  rw [rd_x1, hX, hs, hso, hg]
  simp only [ho, hw]
  rfl

theorem h2_of (k : Fin 1536) {X : FVec Ideal S256x1536 .f32} {s : FVec Ideal S256x1 .f32} {o : FVec Ideal S1536x256 .fp8e4m3} {w : Vec Ideal S1536x1536 .fp8e4m3} {so ga g sm : Vec Ideal S1x1536 .f32}
    (hX : ∀ k, k0_pay6 (F := Ideal) X s o w so ga (ix2 r k) = R.x1 k) (hg : g (ix2 0 k) = R.g k) (hm : sm (ix2 0 k) = R.sm k) :
    k0_pay7 (F := Ideal) X s o w so ga g sm (ix2 r k) = R.h2 k := by
  refine (rd_norm (k0_pay6 (F := Ideal) X s o w so ga) r k g sm).trans ?_
  simp only [hX, hg, hm]
  rfl

theorem hs_of {X : FVec Ideal S256x1536 .f32} {s : FVec Ideal S256x1 .f32} {o : FVec Ideal S1536x256 .fp8e4m3} {w : Vec Ideal S1536x1536 .fp8e4m3} {so ga g sm : Vec Ideal S1x1536 .f32}
    (h : ∀ k, k0_pay7 (F := Ideal) X s o w so ga g sm (ix2 r k) = R.h2 k) :
    k0_pay8 (F := Ideal) X s o w so ga g sm (ix2 r 0) = R.hs := by
  unfold k0_pay8
  exact (rd_scale _ r).trans (congrArg scaleOf ((rd_max1536 _ r).trans (congrArg amax (funext h))))

theorem hc_of (k : Fin 1536) {X W : FVec Ideal S256x1536 .f32} (hX : X (ix2 r k) = R.h2 k) (hW : W (ix2 r k) = R.hs) : k0_pay10 (F := Ideal) X W (ix2 r k) = R.hc k := by
  rw [rd_codes, hX, hW]
  rfl

theorem act_of (l : Fin 512) (j : Fin 4096) {Y : FVec Ideal S256x1 .f32} {H : FVec Ideal S256x1536 .fp8e4m3} {wg wu : Vec Ideal S1536x512 .fp8e4m3} {sg su : Vec Ideal S1x512 .f32}
    (hY : Y (ix2 r 0) = R.hs) (hH : ∀ x, H (ix2 r x) = R.hc x) (hwg : ∀ x, wg (ix2 x l) = R.wgu x ⟨j, by omega⟩) (hsg : sg (ix2 0 l) = R.sgu ⟨j, by omega⟩)
    (hwu : ∀ x, wu (ix2 x l) = R.wgu x ⟨4096 + j, by omega⟩) (hsu : su (ix2 0 l) = R.sgu ⟨4096 + j, by omega⟩) :
    k0_pay15 (F := Ideal) Y H wg sg wu su (ix2 r l) = R.act j := by
  rw [rd_glu, hY, hsg, hsu]
  simp only [hH, hwg, hwu]
  rfl

theorem ac_of (l : Fin 512) (j : Fin 4096) {A : FVec Ideal S256x512 .f32} {Y : FVec Ideal S256x1 .f32} (hA : A (ix2 r l) = R.act j) (hY : Y (ix2 r 0) = R.asc) :
    k0_pay40 (F := Ideal) A (broadcastTo S256x512 Y broadcasts_S256x1_S256x512) (ix2 r l) = R.ac j := by
  rw [rd_actCodes, rd_bcast512, hA, hY]
  rfl

end Rows

end Cert.KernelIdeal.Tile
-- ==== Proof.KernelValue.lean ====
/- What the kernel's body computes at a grid point, row by row: each value that its stretches pass on, read at an entry, is
   the row of its token put through the mathematics of `Cert.Ffn.Row`. -/
module

public import proofs.«01_k».proof.Proof.KernelIdealBody
public import proofs.«01_k».proof.Proof.KernelTile

@[expose] public section

set_option maxRecDepth 16384

noncomputable section

namespace Cert.KernelIdeal.Value

open Idealize Idealize.ShloMosaic Idealize.ShloMosaic.TcCoe Idealize.SL.Sem
open Cert.KernelIdeal Cert.KernelIdeal.Gen Cert.KernelIdeal.Tile Cert.Ffn

/-! ## Loads and stores of rectangles -/

/-- A load of a rectangle of a two-dimensional buffer, at an entry. -/
theorem load2 {sp : Space} {a b : ℕ} {e : EltTy} (m : Memref sig .tc sp ⟨2, ![a, b]⟩ e) (h : m.IsWhole) (X : Vec Ideal ⟨2, ![a, b]⟩ e)
    {off : Fin 2 → ℕ} {n0 n1 : ℕ} (inb : ∀ x, off x + (![n0, n1] : Fin 2 → ℕ) x ≤ (![a, b] : Fin 2 → ℕ) x) (p : Fin n0) (q : Fin n1) (j0 : Fin a) (j1 : Fin b)
    (h0 : (j0 : ℕ) = off 0 + p) (h1 : (j1 : ℕ) = off 1 + q) :
    View.readAt (Elt Ideal) m.view (Rect.unit (s := ⟨2, ![a, b]⟩) off ![n0, n1] inb).toLoadRect (h.unread X) (ix2 p q) = X (ix2 j0 j1) := by
  rw [View.readAt_eq_ld, h.read_unread]
  exact View.ld_unit_apply_of X off _ inb (ix2 p q) (ix2 j0 j1) fun x => match x with | ⟨0, _⟩ => h0 | ⟨1, _⟩ => h1

/-- The same of a three-dimensional buffer. -/
theorem load3 {sp : Space} {a b d : ℕ} {e : EltTy} (m : Memref sig .tc sp ⟨3, ![a, b, d]⟩ e) (h : m.IsWhole) (X : Vec Ideal ⟨3, ![a, b, d]⟩ e)
    {off : Fin 3 → ℕ} {n0 n1 n2 : ℕ} (inb : ∀ x, off x + (![n0, n1, n2] : Fin 3 → ℕ) x ≤ (![a, b, d] : Fin 3 → ℕ) x) (p : Fin n0) (q : Fin n1) (s : Fin n2) (j0 : Fin a) (j1 : Fin b) (j2 : Fin d)
    (h0 : (j0 : ℕ) = off 0 + p) (h1 : (j1 : ℕ) = off 1 + q) (h2 : (j2 : ℕ) = off 2 + s) :
    View.readAt (Elt Ideal) m.view (Rect.unit (s := ⟨3, ![a, b, d]⟩) off ![n0, n1, n2] inb).toLoadRect (h.unread X) (ix3 p q s) = X (ix3 j0 j1 j2) := by
  rw [View.readAt_eq_ld, h.read_unread]
  exact View.ld_unit_apply_of X off _ inb (ix3 p q s) (ix3 j0 j1 j2) fun x => match x with | ⟨0, _⟩ => h0 | ⟨1, _⟩ => h1 | ⟨2, _⟩ => h2

/-- A stored rectangle of a two-dimensional buffer, at the entry it holds. -/
theorem tile2 {a b n0 n1 o0 o1 : ℕ} {e : EltTy} (y0 : Fin a) (y1 : Fin b) (w : Vec Ideal ⟨2, ![n0, n1]⟩ e) (v : Elt Ideal e)
    (h : ∀ (p : Fin n0) (q : Fin n1), (y0 : ℕ) = o0 + p → (y1 : ℕ) = o1 + q → w (ix2 p q) = v) :
    View.TileAt (S := ⟨2, ![a, b]⟩) (ix2 y0 y1) ![o0, o1] ![n0, n1] w v := by
  intro x hx
  have hw := h (x 0) (x 1) (hx 0) (hx 1)
  rw [ix2_eta (n0 := n0) (n1 := n1) x] at hw
  exact hw

/-! ## The row of a tile -/

/-- What a run of the body is given: its grid point, its buffers and what the input buffers hold. -/
structure Bufs where
  c : Dev nD
  i : grid0.Coords
  arg1 : Memref sig .tc .vmem S256x1536 .bf16
  harg1 : arg1.IsWhole
  arg2 : Memref sig .tc .vmem S1x1536x256 .fp8e4m3
  harg2 : arg2.IsWhole
  arg3 : Memref sig .tc .vmem S2x512 .f32
  harg3 : arg3.IsWhole
  arg4 : Memref sig .tc .vmem S2x1536 .f32
  harg4 : arg4.IsWhole
  arg5 : Memref sig .tc .vmem S2x1536 .f32
  harg5 : arg5.IsWhole
  arg6 : Memref sig .tc .vmem S2x1536 .f32
  harg6 : arg6.IsWhole
  arg7 : Memref sig .tc .vmem S1x1536 .f32
  harg7 : arg7.IsWhole
  arg8 : Memref sig .tc .vmem S1536x1536 .fp8e4m3
  harg8 : arg8.IsWhole
  arg9 : Memref sig .tc .vmem S1x1536 .f32
  harg9 : arg9.IsWhole
  arg10 : Memref sig .tc .vmem S1536x8192 .fp8e4m3
  harg10 : arg10.IsWhole
  arg11 : Memref sig .tc .vmem S1x8192 .f32
  harg11 : arg11.IsWhole
  arg12 : Memref sig .tc .vmem S4096x1536 .fp8e4m3
  harg12 : arg12.IsWhole
  arg13 : Memref sig .tc .vmem S1x1536 .f32
  harg13 : arg13.IsWhole
  arg14 : Memref sig .tc .vmem S1024x1536 .bf16
  harg14 : arg14.IsWhole
  arg15 : Memref sig .tc .vmem S1024x1536 .fp8e4m3
  harg15 : arg15.IsWhole
  arg16 : Memref sig .tc .vmem S12x2x1024 .f32
  harg16 : arg16.IsWhole
  arg17 : Memref sig .tc .vmem S256x1536 .bf16
  harg17 : arg17.IsWhole
  arg18 : Memref sig .tc .vmem S1024x1536 .bf16
  harg18 : arg18.IsWhole
  arg19 : Memref sig .tc .vmem S256x1536 .fp8e4m3
  harg19 : arg19.IsWhole
  arg20 : Memref sig .tc .vmem S2x512 .f32
  harg20 : arg20.IsWhole
  arg21 : Memref sig .tc .vmem S256x4096 .fp8e4m3
  harg21 : arg21.IsWhole
  arg22 : Memref sig .tc .vmem S2x512 .f32
  harg22 : arg22.IsWhole
  arg23 : Memref sig .tc .vmem S256x1536 .fp8e4m3
  harg23 : arg23.IsWhole
  arg24 : Memref sig .tc .vmem S12x2x512 .f32
  harg24 : arg24.IsWhole
  arg25 : Memref sig .tc .vmem S256x4096 .f32
  harg25 : arg25.IsWhole
  x0 : Vec Ideal S256x1536 .bf16
  x1 : Vec Ideal S1x1536x256 .fp8e4m3
  x2 : Vec Ideal S2x512 .f32
  x3 : Vec Ideal S2x1536 .f32
  x4 : Vec Ideal S2x1536 .f32
  x5 : Vec Ideal S2x1536 .f32
  x6 : Vec Ideal S1x1536 .f32
  x7 : Vec Ideal S1536x1536 .fp8e4m3
  x8 : Vec Ideal S1x1536 .f32
  x9 : Vec Ideal S1536x8192 .fp8e4m3
  x10 : Vec Ideal S1x8192 .f32
  x11 : Vec Ideal S4096x1536 .fp8e4m3
  x12 : Vec Ideal S1x1536 .f32
  x13 : Vec Ideal S1024x1536 .bf16
  x14 : Vec Ideal S1024x1536 .fp8e4m3
  x15 : Vec Ideal S12x2x1024 .f32

theorem coord_lt : ∀ i : grid0.Coords, (i 0).val < 4 := by decide +kernel

/-- The batch entry of a grid point. -/
def bat (i : grid0.Coords) : Fin 2 := ⟨(i 0).val / 2, by have := coord_lt i; omega⟩

/-- The token of a row of a grid point's tile. -/
def tok (i : grid0.Coords) (r : Fin 256) : Fin 512 := ⟨256 * ((i 0).val % 2) + r, by omega⟩

namespace Bufs
variable (T : Bufs)

/-- The row of the tile's row `r`. -/
def row (r : Fin 256) : Row where
  xa k := T.x0 (ix2 r k)
  o x := T.x1 (ix3 0 x r)
  os := T.x2 (ix2 (bat T.i) (tok T.i r))
  ga k := T.x3 (ix2 (bat T.i) k)
  sm k := T.x4 (ix2 (bat T.i) k)
  gm k := T.x5 (ix2 (bat T.i) k)
  g k := T.x6 (ix2 0 k)
  wo x k := T.x7 (ix2 x k)
  so k := T.x8 (ix2 0 k)
  wgu x j := T.x9 (ix2 x j)
  sgu j := T.x10 (ix2 0 j)
  wd x k := T.x11 (ix2 x k)
  sd k := T.x12 (ix2 0 k)

/-! ## The values passed on, from the residual to the codes of the normalised row -/

def r_0 := kernelRun0_A.sl.r (F := Ideal) T.c T.arg1 T.harg1 T.x0
def r_1 := kernelRun0_A.sl.r_1 (F := Ideal) T.c T.i T.arg3 T.harg3 T.x2
def r_2 := kernelRun0_A.sl.r_2 (F := Ideal) T.c T.arg2 T.harg2 T.x1
def r_3 := kernelRun0_A.sl.r_3 (F := Ideal) T.c T.i T.arg1 T.harg1 T.arg2 T.harg2 T.arg3 T.harg3 T.arg4 T.harg4 T.arg8 T.harg8 T.arg9 T.harg9 T.x0 T.x1 T.x2 T.x3 T.x7 T.x8
def r_4 := kernelRun0_A.sl.r_4 (F := Ideal) T.c T.i T.arg1 T.harg1 T.arg2 T.harg2 T.arg3 T.harg3 T.arg4 T.harg4 T.arg5 T.harg5 T.arg7 T.harg7 T.arg8 T.harg8 T.arg9 T.harg9 T.x0 T.x1 T.x2 T.x3 T.x4 T.x6 T.x7 T.x8
def r_5 := kernelRun0_A.sl.r_5 (F := Ideal) T.c T.i T.arg1 T.harg1 T.arg2 T.harg2 T.arg3 T.harg3 T.arg4 T.harg4 T.arg5 T.harg5 T.arg7 T.harg7 T.arg8 T.harg8 T.arg9 T.harg9 T.x0 T.x1 T.x2 T.x3 T.x4 T.x6 T.x7 T.x8
def r_6 := kernelRun0_A.sl.r_6 (F := Ideal) T.c T.i T.arg1 T.harg1 T.arg2 T.harg2 T.arg3 T.harg3 T.arg4 T.harg4 T.arg5 T.harg5 T.arg7 T.harg7 T.arg8 T.harg8 T.arg9 T.harg9 T.x0 T.x1 T.x2 T.x3 T.x4 T.x6 T.x7 T.x8
def r_7 := kernelRun0_A.sl.r_7 (F := Ideal) T.c T.i T.arg1 T.harg1 T.arg2 T.harg2 T.arg3 T.harg3 T.arg4 T.harg4 T.arg5 T.harg5 T.arg7 T.harg7 T.arg8 T.harg8 T.arg9 T.harg9 T.x0 T.x1 T.x2 T.x3 T.x4 T.x6 T.x7 T.x8
def r_8 := kernelRun0_A.sl.r_8 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_9 := kernelRun0_A.sl.r_9 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_10 := kernelRun0_A.sl.r_10 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_11 := kernelRun0_A.sl.r_11 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.x0 T.x1 T.x2 T.x3 T.x4 T.x6 T.x7 T.x8 T.x9
def r_12 := kernelRun0_A.sl.r_12 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_13 := kernelRun0_A.sl.r_13 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_14 := kernelRun0_A.sl.r_14 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_15 := kernelRun0_A.sl.r_15 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.x0 T.x1 T.x2 T.x3 T.x4 T.x6 T.x7 T.x8 T.x9
def r_16 := kernelRun0_A.sl.r_16 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_17 := kernelRun0_A.sl.r_17 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_18 := kernelRun0_A.sl.r_18 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def r_19 := kernelRun0_A.sl.r_19 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg12 T.harg12 T.arg25 T.x0 T.x1 T.x2 T.x3 T.x4 T.x6 T.x7 T.x8 T.x9 T.x10 T.x11
def r_20 := kernelRun0_A.sl.r_20 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg12 T.harg12 T.arg25 T.x0 T.x1 T.x2 T.x3 T.x4 T.x6 T.x7 T.x8 T.x9 T.x10 T.x11
def r_21 := kernelRun0_A.sl.r_21 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg12 T.harg12 T.arg25 T.x0 T.x1 T.x2 T.x3 T.x4 T.x6 T.x7 T.x8 T.x9 T.x10 T.x11
def r_22 := kernelRun0_A.sl.r_22 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def r_23 := kernelRun0_A.sl.r_23 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg12 T.harg12 T.arg13 T.harg13 T.arg25 T.x0 T.x1 T.x2 T.x3 T.x4 T.x6 T.x7 T.x8 T.x9 T.x10 T.x11 T.x12
def r_24 := kernelRun0_A.sl.r_24 (F := Ideal) T.c T.i T.arg1 T.harg1 T.arg2 T.harg2 T.arg3 T.harg3 T.arg4 T.harg4 T.arg5 T.harg5 T.arg6 T.harg6 T.arg7 T.harg7 T.arg8 T.harg8 T.arg9 T.harg9 T.arg10 T.harg10 T.arg11 T.harg11 T.arg12 T.harg12 T.arg13 T.harg13 T.arg25 T.x0 T.x1 T.x2 T.x3 T.x4 T.x5 T.x6 T.x7 T.x8 T.x9 T.x10 T.x11 T.x12
def HS0_8 := kernelRun0_A.sl.HS0_8 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.x0 T.x1 T.x2 T.x3 T.x4 T.x6 T.x7 T.x8 T.x9 T.x10
def v317 := kernelRun0_A.sl.v317 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v328 := kernelRun0_A.sl.v328 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v340 := kernelRun0_A.sl.v340 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v352 := kernelRun0_A.sl.v352 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v364 := kernelRun0_A.sl.v364 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v376 := kernelRun0_A.sl.v376 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v388 := kernelRun0_A.sl.v388 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10
def v400 := kernelRun0_A.sl.v400 (F := Ideal) T.c T.i T.arg1 T.harg1 T.arg2 T.harg2 T.arg3 T.harg3 T.arg4 T.harg4 T.arg5 T.harg5 T.arg7 T.harg7 T.arg8 T.harg8 T.arg9 T.harg9 T.arg10 T.harg10 T.arg11 T.harg11 T.arg25 T.x0 T.x1 T.x2 T.x3 T.x4 T.x6 T.x7 T.x8 T.x9 T.x10

/-- The loads of the rows of the modulations, of the gains and of the scales. -/
def ldGa : Vec Ideal S1x1536 .f32 := View.readAt (Elt Ideal) T.arg4.view (Rect.unit (s := S2x1536) (k0_off2 T.i) S1x1536.size (k0_off2_inb T.i)).toLoadRect (T.harg4.unread T.x3)
def ldSm : Vec Ideal S1x1536 .f32 := View.readAt (Elt Ideal) T.arg5.view (Rect.unit (s := S2x1536) (k0_off2 T.i) S1x1536.size (k0_off2_inb T.i)).toLoadRect (T.harg5.unread T.x4)
def ldGm : Vec Ideal S1x1536 .f32 := View.readAt (Elt Ideal) T.arg6.view (Rect.unit (s := S2x1536) (k0_off2 T.i) S1x1536.size (k0_off2_inb T.i)).toLoadRect (T.harg6.unread T.x5)
def ldG : Vec Ideal S1x1536 .f32 := View.readAt (Elt Ideal) T.arg7.view (Rect.unit (s := S1x1536) ![0, 0] S1x1536.size inb_S1x1536_S1x1536_0_0).toLoadRect (T.harg7.unread T.x6)
def ldWo : Vec Ideal S1536x1536 .fp8e4m3 := View.readAt (Elt Ideal) T.arg8.view (Rect.unit (s := S1536x1536) ![0, 0] S1536x1536.size inb_S1536x1536_S1536x1536_0_0).toLoadRect (T.harg8.unread T.x7)
def ldSo : Vec Ideal S1x1536 .f32 := View.readAt (Elt Ideal) T.arg9.view (Rect.unit (s := S1x1536) ![0, 0] S1x1536.size inb_S1x1536_S1x1536_0_0).toLoadRect (T.harg9.unread T.x8)
def ldSd : Vec Ideal S1x1536 .f32 := View.readAt (Elt Ideal) T.arg13.view (Rect.unit (s := S1x1536) ![0, 0] S1x1536.size inb_S1x1536_S1x1536_0_0).toLoadRect (T.harg13.unread T.x12)

/-- The eight blocks of the gate and up weights, their scales, and those of the down weights. -/
def ldWg0 : Vec Ideal S1536x512 .fp8e4m3 := View.readAt (Elt Ideal) T.arg10.view (Rect.unit (s := S1536x8192) ![0, 0] S1536x512.size inb_S1536x8192_S1536x512_0_0).toLoadRect (T.harg10.unread T.x9)
def ldSg0 : Vec Ideal S1x512 .f32 := View.readAt (Elt Ideal) T.arg11.view (Rect.unit (s := S1x8192) ![0, 0] S1x512.size inb_S1x8192_S1x512_0_0).toLoadRect (T.harg11.unread T.x10)
def ldWu0 : Vec Ideal S1536x512 .fp8e4m3 := View.readAt (Elt Ideal) T.arg10.view (Rect.unit (s := S1536x8192) ![0, 4096] S1536x512.size inb_S1536x8192_S1536x512_0_4096).toLoadRect (T.harg10.unread T.x9)
def ldSu0 : Vec Ideal S1x512 .f32 := View.readAt (Elt Ideal) T.arg11.view (Rect.unit (s := S1x8192) ![0, 4096] S1x512.size inb_S1x8192_S1x512_0_4096).toLoadRect (T.harg11.unread T.x10)
def ldWd0 : Vec Ideal S512x1536 .fp8e4m3 := View.readAt (Elt Ideal) T.arg12.view (Rect.unit (s := S4096x1536) ![0, 0] S512x1536.size inb_S4096x1536_S512x1536_0_0).toLoadRect (T.harg12.unread T.x11)
def ldWg1 : Vec Ideal S1536x512 .fp8e4m3 := View.readAt (Elt Ideal) T.arg10.view (Rect.unit (s := S1536x8192) ![0, 512] S1536x512.size inb_S1536x8192_S1536x512_0_512).toLoadRect (T.harg10.unread T.x9)
def ldSg1 : Vec Ideal S1x512 .f32 := View.readAt (Elt Ideal) T.arg11.view (Rect.unit (s := S1x8192) ![0, 512] S1x512.size inb_S1x8192_S1x512_0_512).toLoadRect (T.harg11.unread T.x10)
def ldWu1 : Vec Ideal S1536x512 .fp8e4m3 := View.readAt (Elt Ideal) T.arg10.view (Rect.unit (s := S1536x8192) ![0, 4608] S1536x512.size inb_S1536x8192_S1536x512_0_4608).toLoadRect (T.harg10.unread T.x9)
def ldSu1 : Vec Ideal S1x512 .f32 := View.readAt (Elt Ideal) T.arg11.view (Rect.unit (s := S1x8192) ![0, 4608] S1x512.size inb_S1x8192_S1x512_0_4608).toLoadRect (T.harg11.unread T.x10)
def ldWd1 : Vec Ideal S512x1536 .fp8e4m3 := View.readAt (Elt Ideal) T.arg12.view (Rect.unit (s := S4096x1536) ![512, 0] S512x1536.size inb_S4096x1536_S512x1536_512_0).toLoadRect (T.harg12.unread T.x11)
def ldWg2 : Vec Ideal S1536x512 .fp8e4m3 := View.readAt (Elt Ideal) T.arg10.view (Rect.unit (s := S1536x8192) ![0, 1024] S1536x512.size inb_S1536x8192_S1536x512_0_1024).toLoadRect (T.harg10.unread T.x9)
def ldSg2 : Vec Ideal S1x512 .f32 := View.readAt (Elt Ideal) T.arg11.view (Rect.unit (s := S1x8192) ![0, 1024] S1x512.size inb_S1x8192_S1x512_0_1024).toLoadRect (T.harg11.unread T.x10)
def ldWu2 : Vec Ideal S1536x512 .fp8e4m3 := View.readAt (Elt Ideal) T.arg10.view (Rect.unit (s := S1536x8192) ![0, 5120] S1536x512.size inb_S1536x8192_S1536x512_0_5120).toLoadRect (T.harg10.unread T.x9)
def ldSu2 : Vec Ideal S1x512 .f32 := View.readAt (Elt Ideal) T.arg11.view (Rect.unit (s := S1x8192) ![0, 5120] S1x512.size inb_S1x8192_S1x512_0_5120).toLoadRect (T.harg11.unread T.x10)
def ldWd2 : Vec Ideal S512x1536 .fp8e4m3 := View.readAt (Elt Ideal) T.arg12.view (Rect.unit (s := S4096x1536) ![1024, 0] S512x1536.size inb_S4096x1536_S512x1536_1024_0).toLoadRect (T.harg12.unread T.x11)
def ldWg3 : Vec Ideal S1536x512 .fp8e4m3 := View.readAt (Elt Ideal) T.arg10.view (Rect.unit (s := S1536x8192) ![0, 1536] S1536x512.size inb_S1536x8192_S1536x512_0_1536).toLoadRect (T.harg10.unread T.x9)
def ldSg3 : Vec Ideal S1x512 .f32 := View.readAt (Elt Ideal) T.arg11.view (Rect.unit (s := S1x8192) ![0, 1536] S1x512.size inb_S1x8192_S1x512_0_1536).toLoadRect (T.harg11.unread T.x10)
def ldWu3 : Vec Ideal S1536x512 .fp8e4m3 := View.readAt (Elt Ideal) T.arg10.view (Rect.unit (s := S1536x8192) ![0, 5632] S1536x512.size inb_S1536x8192_S1536x512_0_5632).toLoadRect (T.harg10.unread T.x9)
def ldSu3 : Vec Ideal S1x512 .f32 := View.readAt (Elt Ideal) T.arg11.view (Rect.unit (s := S1x8192) ![0, 5632] S1x512.size inb_S1x8192_S1x512_0_5632).toLoadRect (T.harg11.unread T.x10)
def ldWd3 : Vec Ideal S512x1536 .fp8e4m3 := View.readAt (Elt Ideal) T.arg12.view (Rect.unit (s := S4096x1536) ![1536, 0] S512x1536.size inb_S4096x1536_S512x1536_1536_0).toLoadRect (T.harg12.unread T.x11)
def ldWg4 : Vec Ideal S1536x512 .fp8e4m3 := View.readAt (Elt Ideal) T.arg10.view (Rect.unit (s := S1536x8192) ![0, 2048] S1536x512.size inb_S1536x8192_S1536x512_0_2048).toLoadRect (T.harg10.unread T.x9)
def ldSg4 : Vec Ideal S1x512 .f32 := View.readAt (Elt Ideal) T.arg11.view (Rect.unit (s := S1x8192) ![0, 2048] S1x512.size inb_S1x8192_S1x512_0_2048).toLoadRect (T.harg11.unread T.x10)
def ldWu4 : Vec Ideal S1536x512 .fp8e4m3 := View.readAt (Elt Ideal) T.arg10.view (Rect.unit (s := S1536x8192) ![0, 6144] S1536x512.size inb_S1536x8192_S1536x512_0_6144).toLoadRect (T.harg10.unread T.x9)
def ldSu4 : Vec Ideal S1x512 .f32 := View.readAt (Elt Ideal) T.arg11.view (Rect.unit (s := S1x8192) ![0, 6144] S1x512.size inb_S1x8192_S1x512_0_6144).toLoadRect (T.harg11.unread T.x10)
def ldWd4 : Vec Ideal S512x1536 .fp8e4m3 := View.readAt (Elt Ideal) T.arg12.view (Rect.unit (s := S4096x1536) ![2048, 0] S512x1536.size inb_S4096x1536_S512x1536_2048_0).toLoadRect (T.harg12.unread T.x11)
def ldWg5 : Vec Ideal S1536x512 .fp8e4m3 := View.readAt (Elt Ideal) T.arg10.view (Rect.unit (s := S1536x8192) ![0, 2560] S1536x512.size inb_S1536x8192_S1536x512_0_2560).toLoadRect (T.harg10.unread T.x9)
def ldSg5 : Vec Ideal S1x512 .f32 := View.readAt (Elt Ideal) T.arg11.view (Rect.unit (s := S1x8192) ![0, 2560] S1x512.size inb_S1x8192_S1x512_0_2560).toLoadRect (T.harg11.unread T.x10)
def ldWu5 : Vec Ideal S1536x512 .fp8e4m3 := View.readAt (Elt Ideal) T.arg10.view (Rect.unit (s := S1536x8192) ![0, 6656] S1536x512.size inb_S1536x8192_S1536x512_0_6656).toLoadRect (T.harg10.unread T.x9)
def ldSu5 : Vec Ideal S1x512 .f32 := View.readAt (Elt Ideal) T.arg11.view (Rect.unit (s := S1x8192) ![0, 6656] S1x512.size inb_S1x8192_S1x512_0_6656).toLoadRect (T.harg11.unread T.x10)
def ldWd5 : Vec Ideal S512x1536 .fp8e4m3 := View.readAt (Elt Ideal) T.arg12.view (Rect.unit (s := S4096x1536) ![2560, 0] S512x1536.size inb_S4096x1536_S512x1536_2560_0).toLoadRect (T.harg12.unread T.x11)
def ldWg6 : Vec Ideal S1536x512 .fp8e4m3 := View.readAt (Elt Ideal) T.arg10.view (Rect.unit (s := S1536x8192) ![0, 3072] S1536x512.size inb_S1536x8192_S1536x512_0_3072).toLoadRect (T.harg10.unread T.x9)
def ldSg6 : Vec Ideal S1x512 .f32 := View.readAt (Elt Ideal) T.arg11.view (Rect.unit (s := S1x8192) ![0, 3072] S1x512.size inb_S1x8192_S1x512_0_3072).toLoadRect (T.harg11.unread T.x10)
def ldWu6 : Vec Ideal S1536x512 .fp8e4m3 := View.readAt (Elt Ideal) T.arg10.view (Rect.unit (s := S1536x8192) ![0, 7168] S1536x512.size inb_S1536x8192_S1536x512_0_7168).toLoadRect (T.harg10.unread T.x9)
def ldSu6 : Vec Ideal S1x512 .f32 := View.readAt (Elt Ideal) T.arg11.view (Rect.unit (s := S1x8192) ![0, 7168] S1x512.size inb_S1x8192_S1x512_0_7168).toLoadRect (T.harg11.unread T.x10)
def ldWd6 : Vec Ideal S512x1536 .fp8e4m3 := View.readAt (Elt Ideal) T.arg12.view (Rect.unit (s := S4096x1536) ![3072, 0] S512x1536.size inb_S4096x1536_S512x1536_3072_0).toLoadRect (T.harg12.unread T.x11)
def ldWg7 : Vec Ideal S1536x512 .fp8e4m3 := View.readAt (Elt Ideal) T.arg10.view (Rect.unit (s := S1536x8192) ![0, 3584] S1536x512.size inb_S1536x8192_S1536x512_0_3584).toLoadRect (T.harg10.unread T.x9)
def ldSg7 : Vec Ideal S1x512 .f32 := View.readAt (Elt Ideal) T.arg11.view (Rect.unit (s := S1x8192) ![0, 3584] S1x512.size inb_S1x8192_S1x512_0_3584).toLoadRect (T.harg11.unread T.x10)
def ldWu7 : Vec Ideal S1536x512 .fp8e4m3 := View.readAt (Elt Ideal) T.arg10.view (Rect.unit (s := S1536x8192) ![0, 7680] S1536x512.size inb_S1536x8192_S1536x512_0_7680).toLoadRect (T.harg10.unread T.x9)
def ldSu7 : Vec Ideal S1x512 .f32 := View.readAt (Elt Ideal) T.arg11.view (Rect.unit (s := S1x8192) ![0, 7680] S1x512.size inb_S1x8192_S1x512_0_7680).toLoadRect (T.harg11.unread T.x10)
def ldWd7 : Vec Ideal S512x1536 .fp8e4m3 := View.readAt (Elt Ideal) T.arg12.view (Rect.unit (s := S4096x1536) ![3584, 0] S512x1536.size inb_S4096x1536_S512x1536_3584_0).toLoadRect (T.harg12.unread T.x11)

theorem off1_0 : k0_off1 T.i 0 = (bat T.i : ℕ) := by rw [k0_off1_eq]; rfl
theorem off1_1 : k0_off1 T.i 1 = 256 * ((T.i 0).val % 2) := by rw [k0_off1_eq]; rfl
theorem off2_0 : k0_off2 T.i 0 = (bat T.i : ℕ) := by rw [k0_off2_eq]; rfl
theorem off2_1 : k0_off2 T.i 1 = 0 := by rw [k0_off2_eq]; rfl

theorem ldGa_at (k : Fin 1536) : T.ldGa (ix2 0 k) = T.x3 (ix2 (bat T.i) k) :=
  load2 T.arg4 T.harg4 T.x3 _ 0 k _ k (by rw [off2_0]; rfl) (by rw [off2_1, Nat.zero_add])
theorem ldSm_at (k : Fin 1536) : T.ldSm (ix2 0 k) = T.x4 (ix2 (bat T.i) k) :=
  load2 T.arg5 T.harg5 T.x4 _ 0 k _ k (by rw [off2_0]; rfl) (by rw [off2_1, Nat.zero_add])
theorem ldGm_at (k : Fin 1536) : T.ldGm (ix2 0 k) = T.x5 (ix2 (bat T.i) k) :=
  load2 T.arg6 T.harg6 T.x5 _ 0 k _ k (by rw [off2_0]; rfl) (by rw [off2_1, Nat.zero_add])
theorem ldG_at (k : Fin 1536) : T.ldG (ix2 0 k) = T.x6 (ix2 0 k) :=
  load2 T.arg7 T.harg7 T.x6 _ 0 k 0 k rfl (Nat.zero_add _).symm
theorem ldWo_at (x k : Fin 1536) : T.ldWo (ix2 x k) = T.x7 (ix2 x k) :=
  load2 T.arg8 T.harg8 T.x7 _ x k x k (Nat.zero_add _).symm (Nat.zero_add _).symm
theorem ldSo_at (k : Fin 1536) : T.ldSo (ix2 0 k) = T.x8 (ix2 0 k) :=
  load2 T.arg9 T.harg9 T.x8 _ 0 k 0 k rfl (Nat.zero_add _).symm
theorem ldSd_at (k : Fin 1536) : T.ldSd (ix2 0 k) = T.x12 (ix2 0 k) :=
  load2 T.arg13 T.harg13 T.x12 _ 0 k 0 k rfl (Nat.zero_add _).symm

theorem ldWg0_at (x : Fin 1536) (l : Fin 512) (j : Fin 8192) (h : (j : ℕ) = 0 + l) : T.ldWg0 (ix2 x l) = T.x9 (ix2 x j) :=
  load2 T.arg10 T.harg10 T.x9 _ x l x j (Nat.zero_add _).symm h
theorem ldWu0_at (x : Fin 1536) (l : Fin 512) (j : Fin 8192) (h : (j : ℕ) = 4096 + l) : T.ldWu0 (ix2 x l) = T.x9 (ix2 x j) :=
  load2 T.arg10 T.harg10 T.x9 _ x l x j (Nat.zero_add _).symm h
theorem ldSg0_at (l : Fin 512) (j : Fin 8192) (h : (j : ℕ) = 0 + l) : T.ldSg0 (ix2 0 l) = T.x10 (ix2 0 j) :=
  load2 T.arg11 T.harg11 T.x10 _ 0 l 0 j rfl h
theorem ldSu0_at (l : Fin 512) (j : Fin 8192) (h : (j : ℕ) = 4096 + l) : T.ldSu0 (ix2 0 l) = T.x10 (ix2 0 j) :=
  load2 T.arg11 T.harg11 T.x10 _ 0 l 0 j rfl h
theorem ldWd0_at (l : Fin 512) (k : Fin 1536) (j : Fin 4096) (h : (j : ℕ) = 0 + l) : T.ldWd0 (ix2 l k) = T.x11 (ix2 j k) :=
  load2 T.arg12 T.harg12 T.x11 _ l k j k h (Nat.zero_add _).symm
theorem ldWg1_at (x : Fin 1536) (l : Fin 512) (j : Fin 8192) (h : (j : ℕ) = 512 + l) : T.ldWg1 (ix2 x l) = T.x9 (ix2 x j) :=
  load2 T.arg10 T.harg10 T.x9 _ x l x j (Nat.zero_add _).symm h
theorem ldWu1_at (x : Fin 1536) (l : Fin 512) (j : Fin 8192) (h : (j : ℕ) = 4608 + l) : T.ldWu1 (ix2 x l) = T.x9 (ix2 x j) :=
  load2 T.arg10 T.harg10 T.x9 _ x l x j (Nat.zero_add _).symm h
theorem ldSg1_at (l : Fin 512) (j : Fin 8192) (h : (j : ℕ) = 512 + l) : T.ldSg1 (ix2 0 l) = T.x10 (ix2 0 j) :=
  load2 T.arg11 T.harg11 T.x10 _ 0 l 0 j rfl h
theorem ldSu1_at (l : Fin 512) (j : Fin 8192) (h : (j : ℕ) = 4608 + l) : T.ldSu1 (ix2 0 l) = T.x10 (ix2 0 j) :=
  load2 T.arg11 T.harg11 T.x10 _ 0 l 0 j rfl h
theorem ldWd1_at (l : Fin 512) (k : Fin 1536) (j : Fin 4096) (h : (j : ℕ) = 512 + l) : T.ldWd1 (ix2 l k) = T.x11 (ix2 j k) :=
  load2 T.arg12 T.harg12 T.x11 _ l k j k h (Nat.zero_add _).symm
theorem ldWg2_at (x : Fin 1536) (l : Fin 512) (j : Fin 8192) (h : (j : ℕ) = 1024 + l) : T.ldWg2 (ix2 x l) = T.x9 (ix2 x j) :=
  load2 T.arg10 T.harg10 T.x9 _ x l x j (Nat.zero_add _).symm h
theorem ldWu2_at (x : Fin 1536) (l : Fin 512) (j : Fin 8192) (h : (j : ℕ) = 5120 + l) : T.ldWu2 (ix2 x l) = T.x9 (ix2 x j) :=
  load2 T.arg10 T.harg10 T.x9 _ x l x j (Nat.zero_add _).symm h
theorem ldSg2_at (l : Fin 512) (j : Fin 8192) (h : (j : ℕ) = 1024 + l) : T.ldSg2 (ix2 0 l) = T.x10 (ix2 0 j) :=
  load2 T.arg11 T.harg11 T.x10 _ 0 l 0 j rfl h
theorem ldSu2_at (l : Fin 512) (j : Fin 8192) (h : (j : ℕ) = 5120 + l) : T.ldSu2 (ix2 0 l) = T.x10 (ix2 0 j) :=
  load2 T.arg11 T.harg11 T.x10 _ 0 l 0 j rfl h
theorem ldWd2_at (l : Fin 512) (k : Fin 1536) (j : Fin 4096) (h : (j : ℕ) = 1024 + l) : T.ldWd2 (ix2 l k) = T.x11 (ix2 j k) :=
  load2 T.arg12 T.harg12 T.x11 _ l k j k h (Nat.zero_add _).symm
theorem ldWg3_at (x : Fin 1536) (l : Fin 512) (j : Fin 8192) (h : (j : ℕ) = 1536 + l) : T.ldWg3 (ix2 x l) = T.x9 (ix2 x j) :=
  load2 T.arg10 T.harg10 T.x9 _ x l x j (Nat.zero_add _).symm h
theorem ldWu3_at (x : Fin 1536) (l : Fin 512) (j : Fin 8192) (h : (j : ℕ) = 5632 + l) : T.ldWu3 (ix2 x l) = T.x9 (ix2 x j) :=
  load2 T.arg10 T.harg10 T.x9 _ x l x j (Nat.zero_add _).symm h
theorem ldSg3_at (l : Fin 512) (j : Fin 8192) (h : (j : ℕ) = 1536 + l) : T.ldSg3 (ix2 0 l) = T.x10 (ix2 0 j) :=
  load2 T.arg11 T.harg11 T.x10 _ 0 l 0 j rfl h
theorem ldSu3_at (l : Fin 512) (j : Fin 8192) (h : (j : ℕ) = 5632 + l) : T.ldSu3 (ix2 0 l) = T.x10 (ix2 0 j) :=
  load2 T.arg11 T.harg11 T.x10 _ 0 l 0 j rfl h
theorem ldWd3_at (l : Fin 512) (k : Fin 1536) (j : Fin 4096) (h : (j : ℕ) = 1536 + l) : T.ldWd3 (ix2 l k) = T.x11 (ix2 j k) :=
  load2 T.arg12 T.harg12 T.x11 _ l k j k h (Nat.zero_add _).symm
theorem ldWg4_at (x : Fin 1536) (l : Fin 512) (j : Fin 8192) (h : (j : ℕ) = 2048 + l) : T.ldWg4 (ix2 x l) = T.x9 (ix2 x j) :=
  load2 T.arg10 T.harg10 T.x9 _ x l x j (Nat.zero_add _).symm h
theorem ldWu4_at (x : Fin 1536) (l : Fin 512) (j : Fin 8192) (h : (j : ℕ) = 6144 + l) : T.ldWu4 (ix2 x l) = T.x9 (ix2 x j) :=
  load2 T.arg10 T.harg10 T.x9 _ x l x j (Nat.zero_add _).symm h
theorem ldSg4_at (l : Fin 512) (j : Fin 8192) (h : (j : ℕ) = 2048 + l) : T.ldSg4 (ix2 0 l) = T.x10 (ix2 0 j) :=
  load2 T.arg11 T.harg11 T.x10 _ 0 l 0 j rfl h
theorem ldSu4_at (l : Fin 512) (j : Fin 8192) (h : (j : ℕ) = 6144 + l) : T.ldSu4 (ix2 0 l) = T.x10 (ix2 0 j) :=
  load2 T.arg11 T.harg11 T.x10 _ 0 l 0 j rfl h
theorem ldWd4_at (l : Fin 512) (k : Fin 1536) (j : Fin 4096) (h : (j : ℕ) = 2048 + l) : T.ldWd4 (ix2 l k) = T.x11 (ix2 j k) :=
  load2 T.arg12 T.harg12 T.x11 _ l k j k h (Nat.zero_add _).symm
theorem ldWg5_at (x : Fin 1536) (l : Fin 512) (j : Fin 8192) (h : (j : ℕ) = 2560 + l) : T.ldWg5 (ix2 x l) = T.x9 (ix2 x j) :=
  load2 T.arg10 T.harg10 T.x9 _ x l x j (Nat.zero_add _).symm h
theorem ldWu5_at (x : Fin 1536) (l : Fin 512) (j : Fin 8192) (h : (j : ℕ) = 6656 + l) : T.ldWu5 (ix2 x l) = T.x9 (ix2 x j) :=
  load2 T.arg10 T.harg10 T.x9 _ x l x j (Nat.zero_add _).symm h
theorem ldSg5_at (l : Fin 512) (j : Fin 8192) (h : (j : ℕ) = 2560 + l) : T.ldSg5 (ix2 0 l) = T.x10 (ix2 0 j) :=
  load2 T.arg11 T.harg11 T.x10 _ 0 l 0 j rfl h
theorem ldSu5_at (l : Fin 512) (j : Fin 8192) (h : (j : ℕ) = 6656 + l) : T.ldSu5 (ix2 0 l) = T.x10 (ix2 0 j) :=
  load2 T.arg11 T.harg11 T.x10 _ 0 l 0 j rfl h
theorem ldWd5_at (l : Fin 512) (k : Fin 1536) (j : Fin 4096) (h : (j : ℕ) = 2560 + l) : T.ldWd5 (ix2 l k) = T.x11 (ix2 j k) :=
  load2 T.arg12 T.harg12 T.x11 _ l k j k h (Nat.zero_add _).symm
theorem ldWg6_at (x : Fin 1536) (l : Fin 512) (j : Fin 8192) (h : (j : ℕ) = 3072 + l) : T.ldWg6 (ix2 x l) = T.x9 (ix2 x j) :=
  load2 T.arg10 T.harg10 T.x9 _ x l x j (Nat.zero_add _).symm h
theorem ldWu6_at (x : Fin 1536) (l : Fin 512) (j : Fin 8192) (h : (j : ℕ) = 7168 + l) : T.ldWu6 (ix2 x l) = T.x9 (ix2 x j) :=
  load2 T.arg10 T.harg10 T.x9 _ x l x j (Nat.zero_add _).symm h
theorem ldSg6_at (l : Fin 512) (j : Fin 8192) (h : (j : ℕ) = 3072 + l) : T.ldSg6 (ix2 0 l) = T.x10 (ix2 0 j) :=
  load2 T.arg11 T.harg11 T.x10 _ 0 l 0 j rfl h
theorem ldSu6_at (l : Fin 512) (j : Fin 8192) (h : (j : ℕ) = 7168 + l) : T.ldSu6 (ix2 0 l) = T.x10 (ix2 0 j) :=
  load2 T.arg11 T.harg11 T.x10 _ 0 l 0 j rfl h
theorem ldWd6_at (l : Fin 512) (k : Fin 1536) (j : Fin 4096) (h : (j : ℕ) = 3072 + l) : T.ldWd6 (ix2 l k) = T.x11 (ix2 j k) :=
  load2 T.arg12 T.harg12 T.x11 _ l k j k h (Nat.zero_add _).symm
theorem ldWg7_at (x : Fin 1536) (l : Fin 512) (j : Fin 8192) (h : (j : ℕ) = 3584 + l) : T.ldWg7 (ix2 x l) = T.x9 (ix2 x j) :=
  load2 T.arg10 T.harg10 T.x9 _ x l x j (Nat.zero_add _).symm h
theorem ldWu7_at (x : Fin 1536) (l : Fin 512) (j : Fin 8192) (h : (j : ℕ) = 7680 + l) : T.ldWu7 (ix2 x l) = T.x9 (ix2 x j) :=
  load2 T.arg10 T.harg10 T.x9 _ x l x j (Nat.zero_add _).symm h
theorem ldSg7_at (l : Fin 512) (j : Fin 8192) (h : (j : ℕ) = 3584 + l) : T.ldSg7 (ix2 0 l) = T.x10 (ix2 0 j) :=
  load2 T.arg11 T.harg11 T.x10 _ 0 l 0 j rfl h
theorem ldSu7_at (l : Fin 512) (j : Fin 8192) (h : (j : ℕ) = 7680 + l) : T.ldSu7 (ix2 0 l) = T.x10 (ix2 0 j) :=
  load2 T.arg11 T.harg11 T.x10 _ 0 l 0 j rfl h
theorem ldWd7_at (l : Fin 512) (k : Fin 1536) (j : Fin 4096) (h : (j : ℕ) = 3584 + l) : T.ldWd7 (ix2 l k) = T.x11 (ix2 j k) :=
  load2 T.arg12 T.harg12 T.x11 _ l k j k h (Nat.zero_add _).symm

section Rows
variable (r : Fin 256)

theorem xa_at (k : Fin 1536) : T.r_0 (ix2 r k) = (T.row r).xa k :=
  (rd_xa r k _).trans (load2 T.arg1 T.harg1 T.x0 _ r k r k (Nat.zero_add _).symm (Nat.zero_add _).symm)

theorem os_at : T.r_1 (ix2 r 0) = (T.row r).os :=
  (rd_os r _).trans (load2 T.arg3 T.harg3 T.x2 _ 0 r _ (tok T.i r) (by rw [off1_0]; rfl) (by rw [off1_1]; rfl))

theorem o_at (x : Fin 1536) : T.r_2 (ix2 x r) = (T.row r).o x :=
  (rd_o r x _).trans (load3 T.arg2 T.harg2 T.x1 _ 0 x r 0 x r rfl (Nat.zero_add _).symm (Nat.zero_add _).symm)

theorem r_3_eq : T.r_3 = k0_pay6 T.r_0 T.r_1 T.r_2 T.ldWo T.ldSo T.ldGa := rfl

theorem x1_at (k : Fin 1536) : T.r_3 (ix2 r k) = (T.row r).x1 k := by
  rw [r_3_eq]
  exact x1_of _ r k (T.xa_at r k) (T.os_at r) (T.o_at r) (fun x => T.ldWo_at x k) (T.ldSo_at k) (T.ldGa_at k)

theorem r_4_eq : T.r_4 = k0_pay7 T.r_0 T.r_1 T.r_2 T.ldWo T.ldSo T.ldGa T.ldG T.ldSm := rfl

theorem h2_at (k : Fin 1536) : T.r_4 (ix2 r k) = (T.row r).h2 k := by
  rw [r_4_eq]
  exact h2_of _ r k (fun k => T.x1_at r k) (T.ldG_at k) (T.ldSm_at k)

theorem r_5_eq : T.r_5 = k0_pay8 T.r_0 T.r_1 T.r_2 T.ldWo T.ldSo T.ldGa T.ldG T.ldSm := rfl

theorem hs_at : T.r_5 (ix2 r 0) = (T.row r).hs := by
  rw [r_5_eq]
  exact hs_of _ r fun k => T.h2_at r k

theorem r_6_eq : T.r_6 = broadcastTo S256x1536 T.r_5 broadcasts_S256x1_S256x1536 := rfl

theorem hc_at (k : Fin 1536) : T.r_7 (ix2 r k) = (T.row r).hc k :=
  hc_of (T.row r) r k (X := T.r_4) (W := T.r_6) (T.h2_at r k) (by rw [r_6_eq, rd_bcast1536]; exact T.hs_at r)

/-! ## The gated activations, block by block -/

/-- The activations of columns 0 to 511. -/
def act0 := k0_pay15 T.r_5 T.r_7 T.ldWg0 T.ldSg0 T.ldWu0 T.ldSu0

theorem act0_at (l : Fin 512) (j : Fin 4096) (h : (j : ℕ) = 0 + l) : T.act0 (ix2 r l) = (T.row r).act j :=
  act_of (T.row r) r l j (T.hs_at r) (T.hc_at r) (fun x => T.ldWg0_at x l _ h) (T.ldSg0_at l _ h)
    (fun x => T.ldWu0_at x l _ (by show 4096 + (j : ℕ) = _; omega)) (T.ldSu0_at l _ (by show 4096 + (j : ℕ) = _; omega))

theorem max0_at : blockMax T.act0 (ix2 r 0) = amax fun l : Fin 512 => (T.row r).act ⟨0 + l, by omega⟩ :=
  (blockMax_at _ r).trans (congrArg amax (funext fun l => T.act0_at r l _ rfl))

/-- The activations of columns 512 to 1023. -/
def act1 := k0_pay15 T.r_5 T.r_7 T.ldWg1 T.ldSg1 T.ldWu1 T.ldSu1

theorem act1_at (l : Fin 512) (j : Fin 4096) (h : (j : ℕ) = 512 + l) : T.act1 (ix2 r l) = (T.row r).act j :=
  act_of (T.row r) r l j (T.hs_at r) (T.hc_at r) (fun x => T.ldWg1_at x l _ h) (T.ldSg1_at l _ h)
    (fun x => T.ldWu1_at x l _ (by show 4096 + (j : ℕ) = _; omega)) (T.ldSu1_at l _ (by show 4096 + (j : ℕ) = _; omega))

theorem max1_at : blockMax T.act1 (ix2 r 0) = amax fun l : Fin 512 => (T.row r).act ⟨512 + l, by omega⟩ :=
  (blockMax_at _ r).trans (congrArg amax (funext fun l => T.act1_at r l _ rfl))

/-- The activations of columns 1024 to 1535. -/
def act2 := k0_pay15 T.r_5 T.r_7 T.ldWg2 T.ldSg2 T.ldWu2 T.ldSu2

theorem act2_at (l : Fin 512) (j : Fin 4096) (h : (j : ℕ) = 1024 + l) : T.act2 (ix2 r l) = (T.row r).act j :=
  act_of (T.row r) r l j (T.hs_at r) (T.hc_at r) (fun x => T.ldWg2_at x l _ h) (T.ldSg2_at l _ h)
    (fun x => T.ldWu2_at x l _ (by show 4096 + (j : ℕ) = _; omega)) (T.ldSu2_at l _ (by show 4096 + (j : ℕ) = _; omega))

theorem max2_at : blockMax T.act2 (ix2 r 0) = amax fun l : Fin 512 => (T.row r).act ⟨1024 + l, by omega⟩ :=
  (blockMax_at _ r).trans (congrArg amax (funext fun l => T.act2_at r l _ rfl))

/-- The activations of columns 1536 to 2047. -/
def act3 := k0_pay15 T.r_5 T.r_7 T.ldWg3 T.ldSg3 T.ldWu3 T.ldSu3

theorem act3_at (l : Fin 512) (j : Fin 4096) (h : (j : ℕ) = 1536 + l) : T.act3 (ix2 r l) = (T.row r).act j :=
  act_of (T.row r) r l j (T.hs_at r) (T.hc_at r) (fun x => T.ldWg3_at x l _ h) (T.ldSg3_at l _ h)
    (fun x => T.ldWu3_at x l _ (by show 4096 + (j : ℕ) = _; omega)) (T.ldSu3_at l _ (by show 4096 + (j : ℕ) = _; omega))

theorem max3_at : blockMax T.act3 (ix2 r 0) = amax fun l : Fin 512 => (T.row r).act ⟨1536 + l, by omega⟩ :=
  (blockMax_at _ r).trans (congrArg amax (funext fun l => T.act3_at r l _ rfl))

/-- The activations of columns 2048 to 2559. -/
def act4 := k0_pay15 T.r_5 T.r_7 T.ldWg4 T.ldSg4 T.ldWu4 T.ldSu4

theorem act4_at (l : Fin 512) (j : Fin 4096) (h : (j : ℕ) = 2048 + l) : T.act4 (ix2 r l) = (T.row r).act j :=
  act_of (T.row r) r l j (T.hs_at r) (T.hc_at r) (fun x => T.ldWg4_at x l _ h) (T.ldSg4_at l _ h)
    (fun x => T.ldWu4_at x l _ (by show 4096 + (j : ℕ) = _; omega)) (T.ldSu4_at l _ (by show 4096 + (j : ℕ) = _; omega))

theorem max4_at : blockMax T.act4 (ix2 r 0) = amax fun l : Fin 512 => (T.row r).act ⟨2048 + l, by omega⟩ :=
  (blockMax_at _ r).trans (congrArg amax (funext fun l => T.act4_at r l _ rfl))

/-- The activations of columns 2560 to 3071. -/
def act5 := k0_pay15 T.r_5 T.r_7 T.ldWg5 T.ldSg5 T.ldWu5 T.ldSu5

theorem act5_at (l : Fin 512) (j : Fin 4096) (h : (j : ℕ) = 2560 + l) : T.act5 (ix2 r l) = (T.row r).act j :=
  act_of (T.row r) r l j (T.hs_at r) (T.hc_at r) (fun x => T.ldWg5_at x l _ h) (T.ldSg5_at l _ h)
    (fun x => T.ldWu5_at x l _ (by show 4096 + (j : ℕ) = _; omega)) (T.ldSu5_at l _ (by show 4096 + (j : ℕ) = _; omega))

theorem max5_at : blockMax T.act5 (ix2 r 0) = amax fun l : Fin 512 => (T.row r).act ⟨2560 + l, by omega⟩ :=
  (blockMax_at _ r).trans (congrArg amax (funext fun l => T.act5_at r l _ rfl))

/-- The activations of columns 3072 to 3583. -/
def act6 := k0_pay15 T.r_5 T.r_7 T.ldWg6 T.ldSg6 T.ldWu6 T.ldSu6

theorem act6_at (l : Fin 512) (j : Fin 4096) (h : (j : ℕ) = 3072 + l) : T.act6 (ix2 r l) = (T.row r).act j :=
  act_of (T.row r) r l j (T.hs_at r) (T.hc_at r) (fun x => T.ldWg6_at x l _ h) (T.ldSg6_at l _ h)
    (fun x => T.ldWu6_at x l _ (by show 4096 + (j : ℕ) = _; omega)) (T.ldSu6_at l _ (by show 4096 + (j : ℕ) = _; omega))

theorem max6_at : blockMax T.act6 (ix2 r 0) = amax fun l : Fin 512 => (T.row r).act ⟨3072 + l, by omega⟩ :=
  (blockMax_at _ r).trans (congrArg amax (funext fun l => T.act6_at r l _ rfl))

/-- The activations of columns 3584 to 4095. -/
def act7 := k0_pay15 T.r_5 T.r_7 T.ldWg7 T.ldSg7 T.ldWu7 T.ldSu7

theorem act7_at (l : Fin 512) (j : Fin 4096) (h : (j : ℕ) = 3584 + l) : T.act7 (ix2 r l) = (T.row r).act j :=
  act_of (T.row r) r l j (T.hs_at r) (T.hc_at r) (fun x => T.ldWg7_at x l _ h) (T.ldSg7_at l _ h)
    (fun x => T.ldWu7_at x l _ (by show 4096 + (j : ℕ) = _; omega)) (T.ldSu7_at l _ (by show 4096 + (j : ℕ) = _; omega))

theorem max7_at : blockMax T.act7 (ix2 r 0) = amax fun l : Fin 512 => (T.row r).act ⟨3584 + l, by omega⟩ :=
  (blockMax_at _ r).trans (congrArg amax (funext fun l => T.act7_at r l _ rfl))

/-! ## The activations' scales -/

theorem r_8_eq : T.r_8 = blockMax T.act0 := rfl
theorem r_9_eq : T.r_9 = maximumf T.r_8 (blockMax T.act1) := rfl
theorem r_12_eq : T.r_12 = maximumf (maximumf T.r_9 (blockMax T.act2)) (blockMax T.act3) := rfl
theorem r_13_eq : T.r_13 = maximumf T.r_12 (blockMax T.act4) := rfl
theorem r_16_eq : T.r_16 = maximumf (maximumf T.r_13 (blockMax T.act5)) (blockMax T.act6) := rfl
theorem r_17_eq : T.r_17 = k0_pay37 T.r_5 T.r_7 T.r_16 T.ldWg7 T.ldSg7 T.ldWu7 T.ldSu7 := rfl

theorem asc_at : T.r_17 (ix2 r 0) = (T.row r).asc := by
  rw [r_17_eq]
  unfold k0_pay37
  refine (rd_scale _ r).trans (congrArg scaleOf ?_)
  refine (rd_max T.r_16 r (blockMax T.act7)).trans ?_
  rw [r_16_eq, rd_max, rd_max, r_13_eq, rd_max, r_12_eq, rd_max, rd_max, r_9_eq, rd_max, r_8_eq]
  rw [max0_at, max1_at, max2_at, max3_at, max4_at, max5_at, max6_at, max7_at]
  exact amax_blocks (T.row r).act

/-! ## The activations read back from the scratch buffer -/

theorem HS0_8_eq : T.HS0_8 = [⟨Rect.unit ![0, 3584] S256x512.size inb_S256x4096_S256x512_0_3584, shapeCast S256x512 T.act7 shapeCasts_S256x512_S256x512⟩, ⟨Rect.unit ![0, 3072] S256x512.size inb_S256x4096_S256x512_0_3072, shapeCast S256x512 T.act6 shapeCasts_S256x512_S256x512⟩, ⟨Rect.unit ![0, 2560] S256x512.size inb_S256x4096_S256x512_0_2560, shapeCast S256x512 T.act5 shapeCasts_S256x512_S256x512⟩, ⟨Rect.unit ![0, 2048] S256x512.size inb_S256x4096_S256x512_0_2048, shapeCast S256x512 T.act4 shapeCasts_S256x512_S256x512⟩, ⟨Rect.unit ![0, 1536] S256x512.size inb_S256x4096_S256x512_0_1536, shapeCast S256x512 T.act3 shapeCasts_S256x512_S256x512⟩, ⟨Rect.unit ![0, 1024] S256x512.size inb_S256x4096_S256x512_0_1024, shapeCast S256x512 T.act2 shapeCasts_S256x512_S256x512⟩, ⟨Rect.unit ![0, 512] S256x512.size inb_S256x4096_S256x512_0_512, shapeCast S256x512 T.act1 shapeCasts_S256x512_S256x512⟩, ⟨Rect.unit ![0, 0] S256x512.size inb_S256x4096_S256x512_0_0, shapeCast S256x512 T.act0 shapeCasts_S256x512_S256x512⟩] := rfl

/-- The scratch buffer holds the row's activations. -/
theorem scratch_at (j : Fin 4096) : View.canon T.HS0_8 (ix2 r j) = (T.row r).act j := by
  rw [HS0_8_eq]
  simp only [rd_same512]
  refine View.canon_eq_of_allAt _ _ _ (View.cover_of_tiledL _ ![256, 512] rfl _) ?_
  refine View.allAt_cons_unit _ _ _ _ _ (tile2 r j _ _ fun p q hp hq => ?_) ?_
  · rw [show p = r from Fin.ext (by omega)]; exact T.act7_at r q j hq
  refine View.allAt_cons_unit _ _ _ _ _ (tile2 r j _ _ fun p q hp hq => ?_) ?_
  · rw [show p = r from Fin.ext (by omega)]; exact T.act6_at r q j hq
  refine View.allAt_cons_unit _ _ _ _ _ (tile2 r j _ _ fun p q hp hq => ?_) ?_
  · rw [show p = r from Fin.ext (by omega)]; exact T.act5_at r q j hq
  refine View.allAt_cons_unit _ _ _ _ _ (tile2 r j _ _ fun p q hp hq => ?_) ?_
  · rw [show p = r from Fin.ext (by omega)]; exact T.act4_at r q j hq
  refine View.allAt_cons_unit _ _ _ _ _ (tile2 r j _ _ fun p q hp hq => ?_) ?_
  · rw [show p = r from Fin.ext (by omega)]; exact T.act3_at r q j hq
  refine View.allAt_cons_unit _ _ _ _ _ (tile2 r j _ _ fun p q hp hq => ?_) ?_
  · rw [show p = r from Fin.ext (by omega)]; exact T.act2_at r q j hq
  refine View.allAt_cons_unit _ _ _ _ _ (tile2 r j _ _ fun p q hp hq => ?_) ?_
  · rw [show p = r from Fin.ext (by omega)]; exact T.act1_at r q j hq
  refine View.allAt_cons_unit _ _ _ _ _ (tile2 r j _ _ fun p q hp hq => ?_) ?_
  · rw [show p = r from Fin.ext (by omega)]; exact T.act0_at r q j hq
  exact View.allAt_nil _ _

theorem v317_at (l : Fin 512) (j : Fin 4096) (h : (j : ℕ) = 0 + l) : T.v317 (ix2 r l) = (T.row r).act j := by
  refine (congrFun (View.readCov_eq_canon' T.arg25.view T.HS0_8 (Rect.unit (s := S256x4096) ![0, 0] S256x512.size inb_S256x4096_S256x512_0_0).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 0. -/
def q0 := k0_pay40 (F := Ideal) T.v317 (broadcastTo S256x512 T.r_17 broadcasts_S256x1_S256x512)

theorem q0_at (l : Fin 512) (j : Fin 4096) (h : (j : ℕ) = 0 + l) : T.q0 (ix2 r l) = (T.row r).ac j :=
  ac_of (T.row r) r l j (T.v317_at r l j h) (T.asc_at r)

theorem down0_at (k : Fin 1536) : downBlock T.q0 T.ldWd0 (ix2 r k) = ∑ l : Fin 512, (fun x => (T.row r).ac x * (T.row r).wd x k) ⟨0 + l, by omega⟩ :=
  (downBlock_at r k _ _).trans (Finset.sum_congr rfl fun l _ => congrArg₂ (· * ·) (T.q0_at r l _ rfl) (T.ldWd0_at l k _ rfl))

theorem v328_at (l : Fin 512) (j : Fin 4096) (h : (j : ℕ) = 512 + l) : T.v328 (ix2 r l) = (T.row r).act j := by
  refine (congrFun (View.readCov_eq_canon' T.arg25.view T.HS0_8 (Rect.unit (s := S256x4096) ![0, 512] S256x512.size inb_S256x4096_S256x512_0_512).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 1. -/
def q1 := k0_pay40 (F := Ideal) T.v328 (broadcastTo S256x512 T.r_17 broadcasts_S256x1_S256x512)

theorem q1_at (l : Fin 512) (j : Fin 4096) (h : (j : ℕ) = 512 + l) : T.q1 (ix2 r l) = (T.row r).ac j :=
  ac_of (T.row r) r l j (T.v328_at r l j h) (T.asc_at r)

theorem down1_at (k : Fin 1536) : downBlock T.q1 T.ldWd1 (ix2 r k) = ∑ l : Fin 512, (fun x => (T.row r).ac x * (T.row r).wd x k) ⟨512 + l, by omega⟩ :=
  (downBlock_at r k _ _).trans (Finset.sum_congr rfl fun l _ => congrArg₂ (· * ·) (T.q1_at r l _ rfl) (T.ldWd1_at l k _ rfl))

theorem v340_at (l : Fin 512) (j : Fin 4096) (h : (j : ℕ) = 1024 + l) : T.v340 (ix2 r l) = (T.row r).act j := by
  refine (congrFun (View.readCov_eq_canon' T.arg25.view T.HS0_8 (Rect.unit (s := S256x4096) ![0, 1024] S256x512.size inb_S256x4096_S256x512_0_1024).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 2. -/
def q2 := k0_pay40 (F := Ideal) T.v340 (broadcastTo S256x512 T.r_17 broadcasts_S256x1_S256x512)

theorem q2_at (l : Fin 512) (j : Fin 4096) (h : (j : ℕ) = 1024 + l) : T.q2 (ix2 r l) = (T.row r).ac j :=
  ac_of (T.row r) r l j (T.v340_at r l j h) (T.asc_at r)

theorem down2_at (k : Fin 1536) : downBlock T.q2 T.ldWd2 (ix2 r k) = ∑ l : Fin 512, (fun x => (T.row r).ac x * (T.row r).wd x k) ⟨1024 + l, by omega⟩ :=
  (downBlock_at r k _ _).trans (Finset.sum_congr rfl fun l _ => congrArg₂ (· * ·) (T.q2_at r l _ rfl) (T.ldWd2_at l k _ rfl))

theorem v352_at (l : Fin 512) (j : Fin 4096) (h : (j : ℕ) = 1536 + l) : T.v352 (ix2 r l) = (T.row r).act j := by
  refine (congrFun (View.readCov_eq_canon' T.arg25.view T.HS0_8 (Rect.unit (s := S256x4096) ![0, 1536] S256x512.size inb_S256x4096_S256x512_0_1536).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 3. -/
def q3 := k0_pay40 (F := Ideal) T.v352 (broadcastTo S256x512 T.r_17 broadcasts_S256x1_S256x512)

theorem q3_at (l : Fin 512) (j : Fin 4096) (h : (j : ℕ) = 1536 + l) : T.q3 (ix2 r l) = (T.row r).ac j :=
  ac_of (T.row r) r l j (T.v352_at r l j h) (T.asc_at r)

theorem down3_at (k : Fin 1536) : downBlock T.q3 T.ldWd3 (ix2 r k) = ∑ l : Fin 512, (fun x => (T.row r).ac x * (T.row r).wd x k) ⟨1536 + l, by omega⟩ :=
  (downBlock_at r k _ _).trans (Finset.sum_congr rfl fun l _ => congrArg₂ (· * ·) (T.q3_at r l _ rfl) (T.ldWd3_at l k _ rfl))

theorem v364_at (l : Fin 512) (j : Fin 4096) (h : (j : ℕ) = 2048 + l) : T.v364 (ix2 r l) = (T.row r).act j := by
  refine (congrFun (View.readCov_eq_canon' T.arg25.view T.HS0_8 (Rect.unit (s := S256x4096) ![0, 2048] S256x512.size inb_S256x4096_S256x512_0_2048).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 4. -/
def q4 := k0_pay40 (F := Ideal) T.v364 (broadcastTo S256x512 T.r_17 broadcasts_S256x1_S256x512)

theorem q4_at (l : Fin 512) (j : Fin 4096) (h : (j : ℕ) = 2048 + l) : T.q4 (ix2 r l) = (T.row r).ac j :=
  ac_of (T.row r) r l j (T.v364_at r l j h) (T.asc_at r)

theorem down4_at (k : Fin 1536) : downBlock T.q4 T.ldWd4 (ix2 r k) = ∑ l : Fin 512, (fun x => (T.row r).ac x * (T.row r).wd x k) ⟨2048 + l, by omega⟩ :=
  (downBlock_at r k _ _).trans (Finset.sum_congr rfl fun l _ => congrArg₂ (· * ·) (T.q4_at r l _ rfl) (T.ldWd4_at l k _ rfl))

theorem v376_at (l : Fin 512) (j : Fin 4096) (h : (j : ℕ) = 2560 + l) : T.v376 (ix2 r l) = (T.row r).act j := by
  refine (congrFun (View.readCov_eq_canon' T.arg25.view T.HS0_8 (Rect.unit (s := S256x4096) ![0, 2560] S256x512.size inb_S256x4096_S256x512_0_2560).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 5. -/
def q5 := k0_pay40 (F := Ideal) T.v376 (broadcastTo S256x512 T.r_17 broadcasts_S256x1_S256x512)

theorem q5_at (l : Fin 512) (j : Fin 4096) (h : (j : ℕ) = 2560 + l) : T.q5 (ix2 r l) = (T.row r).ac j :=
  ac_of (T.row r) r l j (T.v376_at r l j h) (T.asc_at r)

theorem down5_at (k : Fin 1536) : downBlock T.q5 T.ldWd5 (ix2 r k) = ∑ l : Fin 512, (fun x => (T.row r).ac x * (T.row r).wd x k) ⟨2560 + l, by omega⟩ :=
  (downBlock_at r k _ _).trans (Finset.sum_congr rfl fun l _ => congrArg₂ (· * ·) (T.q5_at r l _ rfl) (T.ldWd5_at l k _ rfl))

theorem v388_at (l : Fin 512) (j : Fin 4096) (h : (j : ℕ) = 3072 + l) : T.v388 (ix2 r l) = (T.row r).act j := by
  refine (congrFun (View.readCov_eq_canon' T.arg25.view T.HS0_8 (Rect.unit (s := S256x4096) ![0, 3072] S256x512.size inb_S256x4096_S256x512_0_3072).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 6. -/
def q6 := k0_pay40 (F := Ideal) T.v388 (broadcastTo S256x512 T.r_17 broadcasts_S256x1_S256x512)

theorem q6_at (l : Fin 512) (j : Fin 4096) (h : (j : ℕ) = 3072 + l) : T.q6 (ix2 r l) = (T.row r).ac j :=
  ac_of (T.row r) r l j (T.v388_at r l j h) (T.asc_at r)

theorem down6_at (k : Fin 1536) : downBlock T.q6 T.ldWd6 (ix2 r k) = ∑ l : Fin 512, (fun x => (T.row r).ac x * (T.row r).wd x k) ⟨3072 + l, by omega⟩ :=
  (downBlock_at r k _ _).trans (Finset.sum_congr rfl fun l _ => congrArg₂ (· * ·) (T.q6_at r l _ rfl) (T.ldWd6_at l k _ rfl))

theorem v400_at (l : Fin 512) (j : Fin 4096) (h : (j : ℕ) = 3584 + l) : T.v400 (ix2 r l) = (T.row r).act j := by
  refine (congrFun (View.readCov_eq_canon' T.arg25.view T.HS0_8 (Rect.unit (s := S256x4096) ![0, 3584] S256x512.size inb_S256x4096_S256x512_0_3584).toLoadRect) (ix2 r l)).trans ?_
  rw [← T.scratch_at r j]
  exact View.ld_unit_apply_of (View.canon T.HS0_8) _ _ _ _ (ix2 r j) fun x => match x with | ⟨0, _⟩ => (Nat.zero_add _).symm | ⟨1, _⟩ => h

/-- The codes of block 7. -/
def q7 := k0_pay40 (F := Ideal) T.v400 (broadcastTo S256x512 T.r_17 broadcasts_S256x1_S256x512)

theorem q7_at (l : Fin 512) (j : Fin 4096) (h : (j : ℕ) = 3584 + l) : T.q7 (ix2 r l) = (T.row r).ac j :=
  ac_of (T.row r) r l j (T.v400_at r l j h) (T.asc_at r)

theorem down7_at (k : Fin 1536) : downBlock T.q7 T.ldWd7 (ix2 r k) = ∑ l : Fin 512, (fun x => (T.row r).ac x * (T.row r).wd x k) ⟨3584 + l, by omega⟩ :=
  (downBlock_at r k _ _).trans (Finset.sum_congr rfl fun l _ => congrArg₂ (· * ·) (T.q7_at r l _ rfl) (T.ldWd7_at l k _ rfl))

/-! ## The down projection and the output row -/

theorem r_19_eq : T.r_19 = addf (downBlock T.q0 T.ldWd0) (downBlock T.q1 T.ldWd1) := rfl
theorem r_20_eq : T.r_20 = downBlock T.q2 T.ldWd2 := rfl
theorem r_21_eq : T.r_21 = addf (addf (addf T.r_19 T.r_20) (downBlock T.q3 T.ldWd3)) (downBlock T.q4 T.ldWd4) := rfl
theorem r_23_eq : T.r_23 = mulf (mulf (addf (addf (addf T.r_21 (downBlock T.q5 T.ldWd5)) (downBlock T.q6 T.ldWd6)) (downBlock T.q7 T.ldWd7)) (broadcastTo S256x1536 T.r_17 broadcasts_S256x1_S256x1536)) (broadcastTo S256x1536 (shapeCast S1x1536 T.ldSd shapeCasts_S1x1536_S1x1536) broadcasts_S1x1536_S256x1536) := rfl

theorem mlp_at (k : Fin 1536) : T.r_23 (ix2 r k) = (∑ x, (T.row r).ac x * (T.row r).wd x k) * (T.row r).asc * (T.row r).sd k := by
  rw [r_23_eq]
  refine (rd_mlp _ r k T.r_17 T.ldSd).trans ?_
  rw [T.asc_at r, T.ldSd_at k, rd_add, rd_add, rd_add, r_21_eq, rd_add, rd_add, rd_add, r_19_eq, rd_add, r_20_eq]
  rw [down0_at, down1_at, down2_at, down3_at, down4_at, down5_at, down6_at, down7_at]
  rw [sum_blocks fun x => (T.row r).ac x * (T.row r).wd x k]
  rfl

theorem y_at (k : Fin 1536) : k0_pay53 (F := Ideal) T.r_3 T.r_23 T.ldGm (ix2 r k) = (T.row r).x2 k := by
  rw [rd_y, T.x1_at r k, T.mlp_at r k, T.ldGm_at k]
  rfl

theorem r_24_eq : T.r_24 = k0_pay54 T.r_0 T.r_3 T.r_23 T.ldGm := rfl

theorem diff_at (k : Fin 1536) : T.r_24 (ix2 r k) = (T.row r).diff k := by
  rw [r_24_eq, rd_diff, T.x1_at r k, T.mlp_at r k, T.ldGm_at k, T.xa_at r k]
  rfl

end Rows

end Bufs

end Cert.KernelIdeal.Value
-- ==== Proof.KernelStores.lean ====
/- What the kernel's body stores at a grid point: the pieces it writes to each output buffer, and what the buffer holds of
   them, entry by entry. -/
module

public import proofs.«01_k».proof.Proof.KernelValue
public import Idealize.ShloMosaic.Lib.WritesUnit

@[expose] public section

set_option maxRecDepth 16384

noncomputable section

namespace Cert.KernelIdeal.Value

open Idealize Idealize.ShloMosaic Idealize.ShloMosaic.TcCoe Idealize.SL.Sem
open Cert.KernelIdeal Cert.KernelIdeal.Gen Cert.KernelIdeal.Tile Cert.Ffn

/-- A stored rectangle of a three-dimensional buffer, at the entry it holds. -/
theorem tile3 {a b d n0 n1 n2 o0 o1 o2 : ℕ} {e : EltTy} (y0 : Fin a) (y1 : Fin b) (y2 : Fin d) (w : Vec Ideal ⟨3, ![n0, n1, n2]⟩ e) (v : Elt Ideal e)
    (h : ∀ (p : Fin n0) (q : Fin n1) (s : Fin n2), (y0 : ℕ) = o0 + p → (y1 : ℕ) = o1 + q → (y2 : ℕ) = o2 + s → w (ix3 p q s) = v) :
    View.TileAt (S := ⟨3, ![a, b, d]⟩) (ix3 y0 y1 y2) ![o0, o1, o2] ![n0, n1, n2] w v := by
  intro x hx
  have hw := h (x 0) (x 1) (x 2) (hx 0) (hx 1) (hx 2)
  rw [ix3_eta (n0 := n0) (n1 := n1) (n2 := n2) x] at hw
  exact hw

namespace Bufs
variable (T : Bufs)

/-- The rows of the output. -/
def L16 : List (View.Piece (Elt Ideal) S256x1536 .bf16) := [
  ⟨Rect.unit (s := S256x1536) ![0, 0] S256x1536.size inb_S256x1536_S256x1536_0_0, k0_pay53 T.r_3 T.r_23 T.ldGm⟩]

/-- The loads of the skipped rows, of their codes and of their scales, group by group. -/
def ldSk0 : Vec Ideal S1024x128 .bf16 := View.readAt (Elt Ideal) T.arg14.view (Rect.unit (s := S1024x1536) ![0, 0] S1024x128.size inb_S1024x1536_S1024x128_0_0).toLoadRect (T.harg14.unread T.x13)
def ldDc0 : Vec Ideal S1024x128 .fp8e4m3 := View.readAt (Elt Ideal) T.arg15.view (Rect.unit (s := S1024x1536) ![0, 0] S1024x128.size inb_S1024x1536_S1024x128_0_0).toLoadRect (T.harg15.unread T.x14)
def ldDs0 : Vec Ideal S1x1x1024 .f32 := View.readAt (Elt Ideal) T.arg16.view (Rect.unit (s := S12x2x1024) (k0_off15 T.i) S1x1x1024.size (k0_off15_inb T.i)).toLoadRect (T.harg16.unread T.x15)
def ldSk1 : Vec Ideal S1024x128 .bf16 := View.readAt (Elt Ideal) T.arg14.view (Rect.unit (s := S1024x1536) ![0, 128] S1024x128.size inb_S1024x1536_S1024x128_0_128).toLoadRect (T.harg14.unread T.x13)
def ldDc1 : Vec Ideal S1024x128 .fp8e4m3 := View.readAt (Elt Ideal) T.arg15.view (Rect.unit (s := S1024x1536) ![0, 128] S1024x128.size inb_S1024x1536_S1024x128_0_128).toLoadRect (T.harg15.unread T.x14)
def ldDs1 : Vec Ideal S1x1x1024 .f32 := View.readAt (Elt Ideal) T.arg16.view (Rect.unit (s := S12x2x1024) (k0_off16 T.i) S1x1x1024.size (k0_off16_inb T.i)).toLoadRect (T.harg16.unread T.x15)
def ldSk2 : Vec Ideal S1024x128 .bf16 := View.readAt (Elt Ideal) T.arg14.view (Rect.unit (s := S1024x1536) ![0, 256] S1024x128.size inb_S1024x1536_S1024x128_0_256).toLoadRect (T.harg14.unread T.x13)
def ldDc2 : Vec Ideal S1024x128 .fp8e4m3 := View.readAt (Elt Ideal) T.arg15.view (Rect.unit (s := S1024x1536) ![0, 256] S1024x128.size inb_S1024x1536_S1024x128_0_256).toLoadRect (T.harg15.unread T.x14)
def ldDs2 : Vec Ideal S1x1x1024 .f32 := View.readAt (Elt Ideal) T.arg16.view (Rect.unit (s := S12x2x1024) (k0_off17 T.i) S1x1x1024.size (k0_off17_inb T.i)).toLoadRect (T.harg16.unread T.x15)
def ldSk3 : Vec Ideal S1024x128 .bf16 := View.readAt (Elt Ideal) T.arg14.view (Rect.unit (s := S1024x1536) ![0, 384] S1024x128.size inb_S1024x1536_S1024x128_0_384).toLoadRect (T.harg14.unread T.x13)
def ldDc3 : Vec Ideal S1024x128 .fp8e4m3 := View.readAt (Elt Ideal) T.arg15.view (Rect.unit (s := S1024x1536) ![0, 384] S1024x128.size inb_S1024x1536_S1024x128_0_384).toLoadRect (T.harg15.unread T.x14)
def ldDs3 : Vec Ideal S1x1x1024 .f32 := View.readAt (Elt Ideal) T.arg16.view (Rect.unit (s := S12x2x1024) (k0_off18 T.i) S1x1x1024.size (k0_off18_inb T.i)).toLoadRect (T.harg16.unread T.x15)
def ldSk4 : Vec Ideal S1024x128 .bf16 := View.readAt (Elt Ideal) T.arg14.view (Rect.unit (s := S1024x1536) ![0, 512] S1024x128.size inb_S1024x1536_S1024x128_0_512).toLoadRect (T.harg14.unread T.x13)
def ldDc4 : Vec Ideal S1024x128 .fp8e4m3 := View.readAt (Elt Ideal) T.arg15.view (Rect.unit (s := S1024x1536) ![0, 512] S1024x128.size inb_S1024x1536_S1024x128_0_512).toLoadRect (T.harg15.unread T.x14)
def ldDs4 : Vec Ideal S1x1x1024 .f32 := View.readAt (Elt Ideal) T.arg16.view (Rect.unit (s := S12x2x1024) (k0_off19 T.i) S1x1x1024.size (k0_off19_inb T.i)).toLoadRect (T.harg16.unread T.x15)
def ldSk5 : Vec Ideal S1024x128 .bf16 := View.readAt (Elt Ideal) T.arg14.view (Rect.unit (s := S1024x1536) ![0, 640] S1024x128.size inb_S1024x1536_S1024x128_0_640).toLoadRect (T.harg14.unread T.x13)
def ldDc5 : Vec Ideal S1024x128 .fp8e4m3 := View.readAt (Elt Ideal) T.arg15.view (Rect.unit (s := S1024x1536) ![0, 640] S1024x128.size inb_S1024x1536_S1024x128_0_640).toLoadRect (T.harg15.unread T.x14)
def ldDs5 : Vec Ideal S1x1x1024 .f32 := View.readAt (Elt Ideal) T.arg16.view (Rect.unit (s := S12x2x1024) (k0_off20 T.i) S1x1x1024.size (k0_off20_inb T.i)).toLoadRect (T.harg16.unread T.x15)
def ldSk6 : Vec Ideal S1024x128 .bf16 := View.readAt (Elt Ideal) T.arg14.view (Rect.unit (s := S1024x1536) ![0, 768] S1024x128.size inb_S1024x1536_S1024x128_0_768).toLoadRect (T.harg14.unread T.x13)
def ldDc6 : Vec Ideal S1024x128 .fp8e4m3 := View.readAt (Elt Ideal) T.arg15.view (Rect.unit (s := S1024x1536) ![0, 768] S1024x128.size inb_S1024x1536_S1024x128_0_768).toLoadRect (T.harg15.unread T.x14)
def ldDs6 : Vec Ideal S1x1x1024 .f32 := View.readAt (Elt Ideal) T.arg16.view (Rect.unit (s := S12x2x1024) (k0_off21 T.i) S1x1x1024.size (k0_off21_inb T.i)).toLoadRect (T.harg16.unread T.x15)
def ldSk7 : Vec Ideal S1024x128 .bf16 := View.readAt (Elt Ideal) T.arg14.view (Rect.unit (s := S1024x1536) ![0, 896] S1024x128.size inb_S1024x1536_S1024x128_0_896).toLoadRect (T.harg14.unread T.x13)
def ldDc7 : Vec Ideal S1024x128 .fp8e4m3 := View.readAt (Elt Ideal) T.arg15.view (Rect.unit (s := S1024x1536) ![0, 896] S1024x128.size inb_S1024x1536_S1024x128_0_896).toLoadRect (T.harg15.unread T.x14)
def ldDs7 : Vec Ideal S1x1x1024 .f32 := View.readAt (Elt Ideal) T.arg16.view (Rect.unit (s := S12x2x1024) (k0_off22 T.i) S1x1x1024.size (k0_off22_inb T.i)).toLoadRect (T.harg16.unread T.x15)
def ldSk8 : Vec Ideal S1024x128 .bf16 := View.readAt (Elt Ideal) T.arg14.view (Rect.unit (s := S1024x1536) ![0, 1024] S1024x128.size inb_S1024x1536_S1024x128_0_1024).toLoadRect (T.harg14.unread T.x13)
def ldDc8 : Vec Ideal S1024x128 .fp8e4m3 := View.readAt (Elt Ideal) T.arg15.view (Rect.unit (s := S1024x1536) ![0, 1024] S1024x128.size inb_S1024x1536_S1024x128_0_1024).toLoadRect (T.harg15.unread T.x14)
def ldDs8 : Vec Ideal S1x1x1024 .f32 := View.readAt (Elt Ideal) T.arg16.view (Rect.unit (s := S12x2x1024) (k0_off23 T.i) S1x1x1024.size (k0_off23_inb T.i)).toLoadRect (T.harg16.unread T.x15)
def ldSk9 : Vec Ideal S1024x128 .bf16 := View.readAt (Elt Ideal) T.arg14.view (Rect.unit (s := S1024x1536) ![0, 1152] S1024x128.size inb_S1024x1536_S1024x128_0_1152).toLoadRect (T.harg14.unread T.x13)
def ldDc9 : Vec Ideal S1024x128 .fp8e4m3 := View.readAt (Elt Ideal) T.arg15.view (Rect.unit (s := S1024x1536) ![0, 1152] S1024x128.size inb_S1024x1536_S1024x128_0_1152).toLoadRect (T.harg15.unread T.x14)
def ldDs9 : Vec Ideal S1x1x1024 .f32 := View.readAt (Elt Ideal) T.arg16.view (Rect.unit (s := S12x2x1024) (k0_off24 T.i) S1x1x1024.size (k0_off24_inb T.i)).toLoadRect (T.harg16.unread T.x15)
def ldSk10 : Vec Ideal S1024x128 .bf16 := View.readAt (Elt Ideal) T.arg14.view (Rect.unit (s := S1024x1536) ![0, 1280] S1024x128.size inb_S1024x1536_S1024x128_0_1280).toLoadRect (T.harg14.unread T.x13)
def ldDc10 : Vec Ideal S1024x128 .fp8e4m3 := View.readAt (Elt Ideal) T.arg15.view (Rect.unit (s := S1024x1536) ![0, 1280] S1024x128.size inb_S1024x1536_S1024x128_0_1280).toLoadRect (T.harg15.unread T.x14)
def ldDs10 : Vec Ideal S1x1x1024 .f32 := View.readAt (Elt Ideal) T.arg16.view (Rect.unit (s := S12x2x1024) (k0_off25 T.i) S1x1x1024.size (k0_off25_inb T.i)).toLoadRect (T.harg16.unread T.x15)
def ldSk11 : Vec Ideal S1024x128 .bf16 := View.readAt (Elt Ideal) T.arg14.view (Rect.unit (s := S1024x1536) ![0, 1408] S1024x128.size inb_S1024x1536_S1024x128_0_1408).toLoadRect (T.harg14.unread T.x13)
def ldDc11 : Vec Ideal S1024x128 .fp8e4m3 := View.readAt (Elt Ideal) T.arg15.view (Rect.unit (s := S1024x1536) ![0, 1408] S1024x128.size inb_S1024x1536_S1024x128_0_1408).toLoadRect (T.harg15.unread T.x14)
def ldDs11 : Vec Ideal S1x1x1024 .f32 := View.readAt (Elt Ideal) T.arg16.view (Rect.unit (s := S12x2x1024) (k0_off26 T.i) S1x1x1024.size (k0_off26_inb T.i)).toLoadRect (T.harg16.unread T.x15)

/-- The skipped rows. -/
def L17 : List (View.Piece (Elt Ideal) S1024x1536 .bf16) := [
  ⟨Rect.unit (s := S1024x1536) ![0, 1408] S1024x128.size inb_S1024x1536_S1024x128_0_1408, k0_pay2 T.ldDs11 T.ldSk11 T.ldDc11⟩,
  ⟨Rect.unit (s := S1024x1536) ![0, 1280] S1024x128.size inb_S1024x1536_S1024x128_0_1280, k0_pay2 T.ldDs10 T.ldSk10 T.ldDc10⟩,
  ⟨Rect.unit (s := S1024x1536) ![0, 1152] S1024x128.size inb_S1024x1536_S1024x128_0_1152, k0_pay2 T.ldDs9 T.ldSk9 T.ldDc9⟩,
  ⟨Rect.unit (s := S1024x1536) ![0, 1024] S1024x128.size inb_S1024x1536_S1024x128_0_1024, k0_pay2 T.ldDs8 T.ldSk8 T.ldDc8⟩,
  ⟨Rect.unit (s := S1024x1536) ![0, 896] S1024x128.size inb_S1024x1536_S1024x128_0_896, k0_pay2 T.ldDs7 T.ldSk7 T.ldDc7⟩,
  ⟨Rect.unit (s := S1024x1536) ![0, 768] S1024x128.size inb_S1024x1536_S1024x128_0_768, k0_pay2 T.ldDs6 T.ldSk6 T.ldDc6⟩,
  ⟨Rect.unit (s := S1024x1536) ![0, 640] S1024x128.size inb_S1024x1536_S1024x128_0_640, k0_pay2 T.ldDs5 T.ldSk5 T.ldDc5⟩,
  ⟨Rect.unit (s := S1024x1536) ![0, 512] S1024x128.size inb_S1024x1536_S1024x128_0_512, k0_pay2 T.ldDs4 T.ldSk4 T.ldDc4⟩,
  ⟨Rect.unit (s := S1024x1536) ![0, 384] S1024x128.size inb_S1024x1536_S1024x128_0_384, k0_pay2 T.ldDs3 T.ldSk3 T.ldDc3⟩,
  ⟨Rect.unit (s := S1024x1536) ![0, 256] S1024x128.size inb_S1024x1536_S1024x128_0_256, k0_pay2 T.ldDs2 T.ldSk2 T.ldDc2⟩,
  ⟨Rect.unit (s := S1024x1536) ![0, 128] S1024x128.size inb_S1024x1536_S1024x128_0_128, k0_pay2 T.ldDs1 T.ldSk1 T.ldDc1⟩,
  ⟨Rect.unit (s := S1024x1536) ![0, 0] S1024x128.size inb_S1024x1536_S1024x128_0_0, k0_pay2 T.ldDs0 T.ldSk0 T.ldDc0⟩]

/-- The codes of the normalised rows. -/
def L18 : List (View.Piece (Elt Ideal) S256x1536 .fp8e4m3) := [
  ⟨Rect.unit (s := S256x1536) ![0, 0] S256x1536.size inb_S256x1536_S256x1536_0_0, T.r_7⟩]

/-- Their scales. -/
def L19 : List (View.Piece (Elt Ideal) S2x512 .f32) := [
  ⟨Rect.unit (s := S2x512) (k0_off1 T.i) S1x256.size (k0_off1_inb T.i), k0_pay11 T.r_5⟩]

/-- The codes of the activations. -/
def L20 : List (View.Piece (Elt Ideal) S256x4096 .fp8e4m3) := [
  ⟨Rect.unit (s := S256x4096) ![0, 3584] S256x512.size inb_S256x4096_S256x512_0_3584, T.q7⟩,
  ⟨Rect.unit (s := S256x4096) ![0, 3072] S256x512.size inb_S256x4096_S256x512_0_3072, T.q6⟩,
  ⟨Rect.unit (s := S256x4096) ![0, 2560] S256x512.size inb_S256x4096_S256x512_0_2560, T.q5⟩,
  ⟨Rect.unit (s := S256x4096) ![0, 2048] S256x512.size inb_S256x4096_S256x512_0_2048, T.q4⟩,
  ⟨Rect.unit (s := S256x4096) ![0, 1536] S256x512.size inb_S256x4096_S256x512_0_1536, T.q3⟩,
  ⟨Rect.unit (s := S256x4096) ![0, 1024] S256x512.size inb_S256x4096_S256x512_0_1024, T.q2⟩,
  ⟨Rect.unit (s := S256x4096) ![0, 512] S256x512.size inb_S256x4096_S256x512_0_512, T.q1⟩,
  ⟨Rect.unit (s := S256x4096) ![0, 0] S256x512.size inb_S256x4096_S256x512_0_0, T.q0⟩]

/-- Their scales. -/
def L21 : List (View.Piece (Elt Ideal) S2x512 .f32) := [
  ⟨Rect.unit (s := S2x512) (k0_off1 T.i) S1x256.size (k0_off1_inb T.i), k0_pay11 T.r_17⟩]

/-- The codes of the rows' gains. -/
def L22 : List (View.Piece (Elt Ideal) S256x1536 .fp8e4m3) := [
  ⟨Rect.unit (s := S256x1536) ![0, 1408] S256x128.size inb_S256x1536_S256x128_0_1408, codeBlock (cols11 T.r_24) (expCol (cols11 T.r_24))⟩,
  ⟨Rect.unit (s := S256x1536) ![0, 1280] S256x128.size inb_S256x1536_S256x128_0_1280, codeBlock (cols10 T.r_24) (expCol (cols10 T.r_24))⟩,
  ⟨Rect.unit (s := S256x1536) ![0, 1152] S256x128.size inb_S256x1536_S256x128_0_1152, codeBlock (cols9 T.r_24) (expCol (cols9 T.r_24))⟩,
  ⟨Rect.unit (s := S256x1536) ![0, 1024] S256x128.size inb_S256x1536_S256x128_0_1024, codeBlock (cols8 T.r_24) (expCol (cols8 T.r_24))⟩,
  ⟨Rect.unit (s := S256x1536) ![0, 896] S256x128.size inb_S256x1536_S256x128_0_896, codeBlock (cols7 T.r_24) (expCol (cols7 T.r_24))⟩,
  ⟨Rect.unit (s := S256x1536) ![0, 768] S256x128.size inb_S256x1536_S256x128_0_768, codeBlock (cols6 T.r_24) (expCol (cols6 T.r_24))⟩,
  ⟨Rect.unit (s := S256x1536) ![0, 640] S256x128.size inb_S256x1536_S256x128_0_640, codeBlock (cols5 T.r_24) (expCol (cols5 T.r_24))⟩,
  ⟨Rect.unit (s := S256x1536) ![0, 512] S256x128.size inb_S256x1536_S256x128_0_512, codeBlock (cols4 T.r_24) (expCol (cols4 T.r_24))⟩,
  ⟨Rect.unit (s := S256x1536) ![0, 384] S256x128.size inb_S256x1536_S256x128_0_384, codeBlock (cols3 T.r_24) (expCol (cols3 T.r_24))⟩,
  ⟨Rect.unit (s := S256x1536) ![0, 256] S256x128.size inb_S256x1536_S256x128_0_256, codeBlock (cols2 T.r_24) (expCol (cols2 T.r_24))⟩,
  ⟨Rect.unit (s := S256x1536) ![0, 128] S256x128.size inb_S256x1536_S256x128_0_128, codeBlock (cols1 T.r_24) (expCol (cols1 T.r_24))⟩,
  ⟨Rect.unit (s := S256x1536) ![0, 0] S256x128.size inb_S256x1536_S256x128_0_0, codeBlock (cols0 T.r_24) (expCol (cols0 T.r_24))⟩]

/-- Their scales. -/
def L23 : List (View.Piece (Elt Ideal) S12x2x512 .f32) := [
  ⟨Rect.unit (s := S12x2x512) (k0_off14 T.i) S1x1x256.size (k0_off14_inb T.i), scaleRow (expCol (cols11 T.r_24))⟩,
  ⟨Rect.unit (s := S12x2x512) (k0_off13 T.i) S1x1x256.size (k0_off13_inb T.i), scaleRow (expCol (cols10 T.r_24))⟩,
  ⟨Rect.unit (s := S12x2x512) (k0_off12 T.i) S1x1x256.size (k0_off12_inb T.i), scaleRow (expCol (cols9 T.r_24))⟩,
  ⟨Rect.unit (s := S12x2x512) (k0_off11 T.i) S1x1x256.size (k0_off11_inb T.i), scaleRow (expCol (cols8 T.r_24))⟩,
  ⟨Rect.unit (s := S12x2x512) (k0_off10 T.i) S1x1x256.size (k0_off10_inb T.i), scaleRow (expCol (cols7 T.r_24))⟩,
  ⟨Rect.unit (s := S12x2x512) (k0_off9 T.i) S1x1x256.size (k0_off9_inb T.i), scaleRow (expCol (cols6 T.r_24))⟩,
  ⟨Rect.unit (s := S12x2x512) (k0_off8 T.i) S1x1x256.size (k0_off8_inb T.i), scaleRow (expCol (cols5 T.r_24))⟩,
  ⟨Rect.unit (s := S12x2x512) (k0_off7 T.i) S1x1x256.size (k0_off7_inb T.i), scaleRow (expCol (cols4 T.r_24))⟩,
  ⟨Rect.unit (s := S12x2x512) (k0_off6 T.i) S1x1x256.size (k0_off6_inb T.i), scaleRow (expCol (cols3 T.r_24))⟩,
  ⟨Rect.unit (s := S12x2x512) (k0_off5 T.i) S1x1x256.size (k0_off5_inb T.i), scaleRow (expCol (cols2 T.r_24))⟩,
  ⟨Rect.unit (s := S12x2x512) (k0_off4 T.i) S1x1x256.size (k0_off4_inb T.i), scaleRow (expCol (cols1 T.r_24))⟩,
  ⟨Rect.unit (s := S12x2x512) (k0_off3 T.i) S1x1x256.size (k0_off3_inb T.i), scaleRow (expCol (cols0 T.r_24))⟩]

variable (xo19 xo21 : Vec Ideal S2x512 .f32) (xo23 : Vec Ideal S12x2x512 .f32)

/-- The run of the body on these buffers. -/
abbrev run := kernelRun0_A (F := Ideal) T.c T.i T.arg1 T.harg1 T.arg2 T.harg2 T.arg3 T.harg3 T.arg4 T.harg4 T.arg5 T.harg5 T.arg6 T.harg6 T.arg7 T.harg7 T.arg8 T.harg8 T.arg9 T.harg9 T.arg10 T.harg10 T.arg11 T.harg11 T.arg12 T.harg12 T.arg13 T.harg13 T.arg14 T.harg14 T.arg15 T.harg15 T.arg16 T.harg16 T.arg17 T.harg17 T.arg18 T.harg18 T.arg19 T.harg19 T.arg20 T.harg20 T.arg21 T.harg21 T.arg22 T.harg22 T.arg23 T.harg23 T.arg24 T.harg24 T.arg25 T.harg25 T.x0 T.x1 T.x2 T.x3 T.x4 T.x5 T.x6 T.x7 T.x8 T.x9 T.x10 T.x11 T.x12 T.x13 T.x14 T.x15 xo19 xo21 xo23

theorem run_16 : (T.run xo19 xo21 xo23).1 = T.L16 := rfl
theorem run_17 : (T.run xo19 xo21 xo23).2.1 = T.L17 := rfl
theorem run_18 : (T.run xo19 xo21 xo23).2.2.1 = T.L18 := rfl
theorem run_19 : (T.run xo19 xo21 xo23).2.2.2.1 = T.L19 := rfl
theorem run_20 : (T.run xo19 xo21 xo23).2.2.2.2.1 = T.L20 := rfl
theorem run_21 : (T.run xo19 xo21 xo23).2.2.2.2.2.1 = T.L21 := rfl
theorem run_22 : (T.run xo19 xo21 xo23).2.2.2.2.2.2.1 = T.L22 := rfl
theorem run_23 : (T.run xo19 xo21 xo23).2.2.2.2.2.2.2.1 = T.L23 := rfl

/-! ## What the buffers hold -/

section Reads
variable (r : Fin 256)

theorem L16_cover : ∀ y : S256x1536.Idx, ∃ p ∈ T.L16, y ∈ p.1.set := View.cover_of_tiledL _ ![256, 1536] rfl
theorem L17_cover : ∀ y : S1024x1536.Idx, ∃ p ∈ T.L17, y ∈ p.1.set := View.cover_of_tiledL _ ![1024, 128] rfl
theorem L18_cover : ∀ y : S256x1536.Idx, ∃ p ∈ T.L18, y ∈ p.1.set := View.cover_of_tiledL _ ![256, 1536] rfl
theorem L20_cover : ∀ y : S256x4096.Idx, ∃ p ∈ T.L20, y ∈ p.1.set := View.cover_of_tiledL _ ![256, 512] rfl
theorem L22_cover : ∀ y : S256x1536.Idx, ∃ p ∈ T.L22, y ∈ p.1.set := View.cover_of_tiledL _ ![256, 128] rfl

theorem L16_at (k : Fin 1536) : View.canon T.L16 (ix2 r k) = (T.row r).x2 k := by
  refine View.canon_eq_of_allAt _ _ _ (T.L16_cover _) ?_
  refine View.allAt_cons_unit _ _ _ _ _ (tile2 r k _ _ fun p q hp hq => ?_) (View.allAt_nil _ _)
  rw [show p = r from Fin.ext (by omega), show q = k from Fin.ext (by omega)]
  exact T.y_at r k

theorem L18_at (k : Fin 1536) : View.canon T.L18 (ix2 r k) = (T.row r).hc k := by
  refine View.canon_eq_of_allAt _ _ _ (T.L18_cover _) ?_
  refine View.allAt_cons_unit _ _ _ _ _ (tile2 r k _ _ fun p q hp hq => ?_) (View.allAt_nil _ _)
  rw [show p = r from Fin.ext (by omega), show q = k from Fin.ext (by omega)]
  exact T.hc_at r k

theorem L20_at (j : Fin 4096) : View.canon T.L20 (ix2 r j) = (T.row r).ac j := by
  refine View.canon_eq_of_allAt _ _ _ (T.L20_cover _) ?_
  refine View.allAt_cons_unit _ _ _ _ _ (tile2 r j _ _ fun p q hp hq => ?_) ?_
  · rw [show p = r from Fin.ext (by omega)]; exact T.q7_at r q j hq
  refine View.allAt_cons_unit _ _ _ _ _ (tile2 r j _ _ fun p q hp hq => ?_) ?_
  · rw [show p = r from Fin.ext (by omega)]; exact T.q6_at r q j hq
  refine View.allAt_cons_unit _ _ _ _ _ (tile2 r j _ _ fun p q hp hq => ?_) ?_
  · rw [show p = r from Fin.ext (by omega)]; exact T.q5_at r q j hq
  refine View.allAt_cons_unit _ _ _ _ _ (tile2 r j _ _ fun p q hp hq => ?_) ?_
  · rw [show p = r from Fin.ext (by omega)]; exact T.q4_at r q j hq
  refine View.allAt_cons_unit _ _ _ _ _ (tile2 r j _ _ fun p q hp hq => ?_) ?_
  · rw [show p = r from Fin.ext (by omega)]; exact T.q3_at r q j hq
  refine View.allAt_cons_unit _ _ _ _ _ (tile2 r j _ _ fun p q hp hq => ?_) ?_
  · rw [show p = r from Fin.ext (by omega)]; exact T.q2_at r q j hq
  refine View.allAt_cons_unit _ _ _ _ _ (tile2 r j _ _ fun p q hp hq => ?_) ?_
  · rw [show p = r from Fin.ext (by omega)]; exact T.q1_at r q j hq
  refine View.allAt_cons_unit _ _ _ _ _ (tile2 r j _ _ fun p q hp hq => ?_) ?_
  · rw [show p = r from Fin.ext (by omega)]; exact T.q0_at r q j hq
  exact View.allAt_nil _ _

theorem gmax0_at : (amax fun l : Fin 128 => cols0 T.r_24 (ix2 r l)) = (T.row r).gmax 0 :=
  congrArg amax (funext fun l => (cols0_at T.r_24 r l).trans (T.diff_at r _))

theorem ndc0_at (l : Fin 128) (k : Fin 1536) (h : (k : ℕ) = 0 + l) : codeBlock (cols0 T.r_24) (expCol (cols0 T.r_24)) (ix2 r l) = (T.row r).ndc k := by
  rw [groupCodes_at, T.gmax0_at r, cols0_at, T.diff_at]
  have e : (⟨k / 128, by omega⟩ : Fin 12) = 0 := Fin.ext (by show (k : ℕ) / 128 = 0; omega)
  have e' : (⟨128 * 0 + l, by omega⟩ : Fin 1536) = k := Fin.ext (by show 128 * 0 + (l : ℕ) = k; omega)
  unfold Row.ndc
  rw [e, e']

theorem nds0_at : scaleRow (expCol (cols0 T.r_24)) (ix3 0 0 r) = (T.row r).nds 0 := by
  rw [groupScales_at, T.gmax0_at r]
  rfl

theorem gmax1_at : (amax fun l : Fin 128 => cols1 T.r_24 (ix2 r l)) = (T.row r).gmax 1 :=
  congrArg amax (funext fun l => (cols1_at T.r_24 r l).trans (T.diff_at r _))

theorem ndc1_at (l : Fin 128) (k : Fin 1536) (h : (k : ℕ) = 128 + l) : codeBlock (cols1 T.r_24) (expCol (cols1 T.r_24)) (ix2 r l) = (T.row r).ndc k := by
  rw [groupCodes_at, T.gmax1_at r, cols1_at, T.diff_at]
  have e : (⟨k / 128, by omega⟩ : Fin 12) = 1 := Fin.ext (by show (k : ℕ) / 128 = 1; omega)
  have e' : (⟨128 * 1 + l, by omega⟩ : Fin 1536) = k := Fin.ext (by show 128 * 1 + (l : ℕ) = k; omega)
  unfold Row.ndc
  rw [e, e']

theorem nds1_at : scaleRow (expCol (cols1 T.r_24)) (ix3 0 0 r) = (T.row r).nds 1 := by
  rw [groupScales_at, T.gmax1_at r]
  rfl

theorem gmax2_at : (amax fun l : Fin 128 => cols2 T.r_24 (ix2 r l)) = (T.row r).gmax 2 :=
  congrArg amax (funext fun l => (cols2_at T.r_24 r l).trans (T.diff_at r _))

theorem ndc2_at (l : Fin 128) (k : Fin 1536) (h : (k : ℕ) = 256 + l) : codeBlock (cols2 T.r_24) (expCol (cols2 T.r_24)) (ix2 r l) = (T.row r).ndc k := by
  rw [groupCodes_at, T.gmax2_at r, cols2_at, T.diff_at]
  have e : (⟨k / 128, by omega⟩ : Fin 12) = 2 := Fin.ext (by show (k : ℕ) / 128 = 2; omega)
  have e' : (⟨128 * 2 + l, by omega⟩ : Fin 1536) = k := Fin.ext (by show 128 * 2 + (l : ℕ) = k; omega)
  unfold Row.ndc
  rw [e, e']

theorem nds2_at : scaleRow (expCol (cols2 T.r_24)) (ix3 0 0 r) = (T.row r).nds 2 := by
  rw [groupScales_at, T.gmax2_at r]
  rfl

theorem gmax3_at : (amax fun l : Fin 128 => cols3 T.r_24 (ix2 r l)) = (T.row r).gmax 3 :=
  congrArg amax (funext fun l => (cols3_at T.r_24 r l).trans (T.diff_at r _))

theorem ndc3_at (l : Fin 128) (k : Fin 1536) (h : (k : ℕ) = 384 + l) : codeBlock (cols3 T.r_24) (expCol (cols3 T.r_24)) (ix2 r l) = (T.row r).ndc k := by
  rw [groupCodes_at, T.gmax3_at r, cols3_at, T.diff_at]
  have e : (⟨k / 128, by omega⟩ : Fin 12) = 3 := Fin.ext (by show (k : ℕ) / 128 = 3; omega)
  have e' : (⟨128 * 3 + l, by omega⟩ : Fin 1536) = k := Fin.ext (by show 128 * 3 + (l : ℕ) = k; omega)
  unfold Row.ndc
  rw [e, e']

theorem nds3_at : scaleRow (expCol (cols3 T.r_24)) (ix3 0 0 r) = (T.row r).nds 3 := by
  rw [groupScales_at, T.gmax3_at r]
  rfl

theorem gmax4_at : (amax fun l : Fin 128 => cols4 T.r_24 (ix2 r l)) = (T.row r).gmax 4 :=
  congrArg amax (funext fun l => (cols4_at T.r_24 r l).trans (T.diff_at r _))

theorem ndc4_at (l : Fin 128) (k : Fin 1536) (h : (k : ℕ) = 512 + l) : codeBlock (cols4 T.r_24) (expCol (cols4 T.r_24)) (ix2 r l) = (T.row r).ndc k := by
  rw [groupCodes_at, T.gmax4_at r, cols4_at, T.diff_at]
  have e : (⟨k / 128, by omega⟩ : Fin 12) = 4 := Fin.ext (by show (k : ℕ) / 128 = 4; omega)
  have e' : (⟨128 * 4 + l, by omega⟩ : Fin 1536) = k := Fin.ext (by show 128 * 4 + (l : ℕ) = k; omega)
  unfold Row.ndc
  rw [e, e']

theorem nds4_at : scaleRow (expCol (cols4 T.r_24)) (ix3 0 0 r) = (T.row r).nds 4 := by
  rw [groupScales_at, T.gmax4_at r]
  rfl

theorem gmax5_at : (amax fun l : Fin 128 => cols5 T.r_24 (ix2 r l)) = (T.row r).gmax 5 :=
  congrArg amax (funext fun l => (cols5_at T.r_24 r l).trans (T.diff_at r _))

theorem ndc5_at (l : Fin 128) (k : Fin 1536) (h : (k : ℕ) = 640 + l) : codeBlock (cols5 T.r_24) (expCol (cols5 T.r_24)) (ix2 r l) = (T.row r).ndc k := by
  rw [groupCodes_at, T.gmax5_at r, cols5_at, T.diff_at]
  have e : (⟨k / 128, by omega⟩ : Fin 12) = 5 := Fin.ext (by show (k : ℕ) / 128 = 5; omega)
  have e' : (⟨128 * 5 + l, by omega⟩ : Fin 1536) = k := Fin.ext (by show 128 * 5 + (l : ℕ) = k; omega)
  unfold Row.ndc
  rw [e, e']

theorem nds5_at : scaleRow (expCol (cols5 T.r_24)) (ix3 0 0 r) = (T.row r).nds 5 := by
  rw [groupScales_at, T.gmax5_at r]
  rfl

theorem gmax6_at : (amax fun l : Fin 128 => cols6 T.r_24 (ix2 r l)) = (T.row r).gmax 6 :=
  congrArg amax (funext fun l => (cols6_at T.r_24 r l).trans (T.diff_at r _))

theorem ndc6_at (l : Fin 128) (k : Fin 1536) (h : (k : ℕ) = 768 + l) : codeBlock (cols6 T.r_24) (expCol (cols6 T.r_24)) (ix2 r l) = (T.row r).ndc k := by
  rw [groupCodes_at, T.gmax6_at r, cols6_at, T.diff_at]
  have e : (⟨k / 128, by omega⟩ : Fin 12) = 6 := Fin.ext (by show (k : ℕ) / 128 = 6; omega)
  have e' : (⟨128 * 6 + l, by omega⟩ : Fin 1536) = k := Fin.ext (by show 128 * 6 + (l : ℕ) = k; omega)
  unfold Row.ndc
  rw [e, e']

theorem nds6_at : scaleRow (expCol (cols6 T.r_24)) (ix3 0 0 r) = (T.row r).nds 6 := by
  rw [groupScales_at, T.gmax6_at r]
  rfl

theorem gmax7_at : (amax fun l : Fin 128 => cols7 T.r_24 (ix2 r l)) = (T.row r).gmax 7 :=
  congrArg amax (funext fun l => (cols7_at T.r_24 r l).trans (T.diff_at r _))

theorem ndc7_at (l : Fin 128) (k : Fin 1536) (h : (k : ℕ) = 896 + l) : codeBlock (cols7 T.r_24) (expCol (cols7 T.r_24)) (ix2 r l) = (T.row r).ndc k := by
  rw [groupCodes_at, T.gmax7_at r, cols7_at, T.diff_at]
  have e : (⟨k / 128, by omega⟩ : Fin 12) = 7 := Fin.ext (by show (k : ℕ) / 128 = 7; omega)
  have e' : (⟨128 * 7 + l, by omega⟩ : Fin 1536) = k := Fin.ext (by show 128 * 7 + (l : ℕ) = k; omega)
  unfold Row.ndc
  rw [e, e']

theorem nds7_at : scaleRow (expCol (cols7 T.r_24)) (ix3 0 0 r) = (T.row r).nds 7 := by
  rw [groupScales_at, T.gmax7_at r]
  rfl

theorem gmax8_at : (amax fun l : Fin 128 => cols8 T.r_24 (ix2 r l)) = (T.row r).gmax 8 :=
  congrArg amax (funext fun l => (cols8_at T.r_24 r l).trans (T.diff_at r _))

theorem ndc8_at (l : Fin 128) (k : Fin 1536) (h : (k : ℕ) = 1024 + l) : codeBlock (cols8 T.r_24) (expCol (cols8 T.r_24)) (ix2 r l) = (T.row r).ndc k := by
  rw [groupCodes_at, T.gmax8_at r, cols8_at, T.diff_at]
  have e : (⟨k / 128, by omega⟩ : Fin 12) = 8 := Fin.ext (by show (k : ℕ) / 128 = 8; omega)
  have e' : (⟨128 * 8 + l, by omega⟩ : Fin 1536) = k := Fin.ext (by show 128 * 8 + (l : ℕ) = k; omega)
  unfold Row.ndc
  rw [e, e']

theorem nds8_at : scaleRow (expCol (cols8 T.r_24)) (ix3 0 0 r) = (T.row r).nds 8 := by
  rw [groupScales_at, T.gmax8_at r]
  rfl

theorem gmax9_at : (amax fun l : Fin 128 => cols9 T.r_24 (ix2 r l)) = (T.row r).gmax 9 :=
  congrArg amax (funext fun l => (cols9_at T.r_24 r l).trans (T.diff_at r _))

theorem ndc9_at (l : Fin 128) (k : Fin 1536) (h : (k : ℕ) = 1152 + l) : codeBlock (cols9 T.r_24) (expCol (cols9 T.r_24)) (ix2 r l) = (T.row r).ndc k := by
  rw [groupCodes_at, T.gmax9_at r, cols9_at, T.diff_at]
  have e : (⟨k / 128, by omega⟩ : Fin 12) = 9 := Fin.ext (by show (k : ℕ) / 128 = 9; omega)
  have e' : (⟨128 * 9 + l, by omega⟩ : Fin 1536) = k := Fin.ext (by show 128 * 9 + (l : ℕ) = k; omega)
  unfold Row.ndc
  rw [e, e']

theorem nds9_at : scaleRow (expCol (cols9 T.r_24)) (ix3 0 0 r) = (T.row r).nds 9 := by
  rw [groupScales_at, T.gmax9_at r]
  rfl

theorem gmax10_at : (amax fun l : Fin 128 => cols10 T.r_24 (ix2 r l)) = (T.row r).gmax 10 :=
  congrArg amax (funext fun l => (cols10_at T.r_24 r l).trans (T.diff_at r _))

theorem ndc10_at (l : Fin 128) (k : Fin 1536) (h : (k : ℕ) = 1280 + l) : codeBlock (cols10 T.r_24) (expCol (cols10 T.r_24)) (ix2 r l) = (T.row r).ndc k := by
  rw [groupCodes_at, T.gmax10_at r, cols10_at, T.diff_at]
  have e : (⟨k / 128, by omega⟩ : Fin 12) = 10 := Fin.ext (by show (k : ℕ) / 128 = 10; omega)
  have e' : (⟨128 * 10 + l, by omega⟩ : Fin 1536) = k := Fin.ext (by show 128 * 10 + (l : ℕ) = k; omega)
  unfold Row.ndc
  rw [e, e']

theorem nds10_at : scaleRow (expCol (cols10 T.r_24)) (ix3 0 0 r) = (T.row r).nds 10 := by
  rw [groupScales_at, T.gmax10_at r]
  rfl

theorem gmax11_at : (amax fun l : Fin 128 => cols11 T.r_24 (ix2 r l)) = (T.row r).gmax 11 :=
  congrArg amax (funext fun l => (cols11_at T.r_24 r l).trans (T.diff_at r _))

theorem ndc11_at (l : Fin 128) (k : Fin 1536) (h : (k : ℕ) = 1408 + l) : codeBlock (cols11 T.r_24) (expCol (cols11 T.r_24)) (ix2 r l) = (T.row r).ndc k := by
  rw [groupCodes_at, T.gmax11_at r, cols11_at, T.diff_at]
  have e : (⟨k / 128, by omega⟩ : Fin 12) = 11 := Fin.ext (by show (k : ℕ) / 128 = 11; omega)
  have e' : (⟨128 * 11 + l, by omega⟩ : Fin 1536) = k := Fin.ext (by show 128 * 11 + (l : ℕ) = k; omega)
  unfold Row.ndc
  rw [e, e']

theorem nds11_at : scaleRow (expCol (cols11 T.r_24)) (ix3 0 0 r) = (T.row r).nds 11 := by
  rw [groupScales_at, T.gmax11_at r]
  rfl

theorem L22_at (k : Fin 1536) : View.canon T.L22 (ix2 r k) = (T.row r).ndc k := by
  refine View.canon_eq_of_allAt _ _ _ (T.L22_cover _) ?_
  refine View.allAt_cons_unit _ _ _ _ _ (tile2 r k _ _ fun p q hp hq => ?_) ?_
  · rw [show p = r from Fin.ext (by omega)]; exact T.ndc11_at r q k hq
  refine View.allAt_cons_unit _ _ _ _ _ (tile2 r k _ _ fun p q hp hq => ?_) ?_
  · rw [show p = r from Fin.ext (by omega)]; exact T.ndc10_at r q k hq
  refine View.allAt_cons_unit _ _ _ _ _ (tile2 r k _ _ fun p q hp hq => ?_) ?_
  · rw [show p = r from Fin.ext (by omega)]; exact T.ndc9_at r q k hq
  refine View.allAt_cons_unit _ _ _ _ _ (tile2 r k _ _ fun p q hp hq => ?_) ?_
  · rw [show p = r from Fin.ext (by omega)]; exact T.ndc8_at r q k hq
  refine View.allAt_cons_unit _ _ _ _ _ (tile2 r k _ _ fun p q hp hq => ?_) ?_
  · rw [show p = r from Fin.ext (by omega)]; exact T.ndc7_at r q k hq
  refine View.allAt_cons_unit _ _ _ _ _ (tile2 r k _ _ fun p q hp hq => ?_) ?_
  · rw [show p = r from Fin.ext (by omega)]; exact T.ndc6_at r q k hq
  refine View.allAt_cons_unit _ _ _ _ _ (tile2 r k _ _ fun p q hp hq => ?_) ?_
  · rw [show p = r from Fin.ext (by omega)]; exact T.ndc5_at r q k hq
  refine View.allAt_cons_unit _ _ _ _ _ (tile2 r k _ _ fun p q hp hq => ?_) ?_
  · rw [show p = r from Fin.ext (by omega)]; exact T.ndc4_at r q k hq
  refine View.allAt_cons_unit _ _ _ _ _ (tile2 r k _ _ fun p q hp hq => ?_) ?_
  · rw [show p = r from Fin.ext (by omega)]; exact T.ndc3_at r q k hq
  refine View.allAt_cons_unit _ _ _ _ _ (tile2 r k _ _ fun p q hp hq => ?_) ?_
  · rw [show p = r from Fin.ext (by omega)]; exact T.ndc2_at r q k hq
  refine View.allAt_cons_unit _ _ _ _ _ (tile2 r k _ _ fun p q hp hq => ?_) ?_
  · rw [show p = r from Fin.ext (by omega)]; exact T.ndc1_at r q k hq
  refine View.allAt_cons_unit _ _ _ _ _ (tile2 r k _ _ fun p q hp hq => ?_) ?_
  · rw [show p = r from Fin.ext (by omega)]; exact T.ndc0_at r q k hq
  exact View.allAt_nil _ _

/-- An entry of the skipped rows. -/
def skip (n : Fin 1024) (k : Fin 1536) : EReal := T.x13 (ix2 n k) + T.x14 (ix2 n k) * T.x15 (ix3 ⟨k / 128, by omega⟩ (bat T.i) n)

theorem skip0_at (n : Fin 1024) (l : Fin 128) (k : Fin 1536) (h : (k : ℕ) = 0 + l) : k0_pay2 T.ldDs0 T.ldSk0 T.ldDc0 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off15_eq]; show (k : ℕ) / 128 = 0 + 0; omega
  · rw [k0_off15_eq]; rfl
  · rw [k0_off15_eq]; exact (Nat.zero_add _).symm

theorem skip1_at (n : Fin 1024) (l : Fin 128) (k : Fin 1536) (h : (k : ℕ) = 128 + l) : k0_pay2 T.ldDs1 T.ldSk1 T.ldDc1 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off16_eq]; show (k : ℕ) / 128 = 1 + 0; omega
  · rw [k0_off16_eq]; rfl
  · rw [k0_off16_eq]; exact (Nat.zero_add _).symm

theorem skip2_at (n : Fin 1024) (l : Fin 128) (k : Fin 1536) (h : (k : ℕ) = 256 + l) : k0_pay2 T.ldDs2 T.ldSk2 T.ldDc2 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off17_eq]; show (k : ℕ) / 128 = 2 + 0; omega
  · rw [k0_off17_eq]; rfl
  · rw [k0_off17_eq]; exact (Nat.zero_add _).symm

theorem skip3_at (n : Fin 1024) (l : Fin 128) (k : Fin 1536) (h : (k : ℕ) = 384 + l) : k0_pay2 T.ldDs3 T.ldSk3 T.ldDc3 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off18_eq]; show (k : ℕ) / 128 = 3 + 0; omega
  · rw [k0_off18_eq]; rfl
  · rw [k0_off18_eq]; exact (Nat.zero_add _).symm

theorem skip4_at (n : Fin 1024) (l : Fin 128) (k : Fin 1536) (h : (k : ℕ) = 512 + l) : k0_pay2 T.ldDs4 T.ldSk4 T.ldDc4 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off19_eq]; show (k : ℕ) / 128 = 4 + 0; omega
  · rw [k0_off19_eq]; rfl
  · rw [k0_off19_eq]; exact (Nat.zero_add _).symm

theorem skip5_at (n : Fin 1024) (l : Fin 128) (k : Fin 1536) (h : (k : ℕ) = 640 + l) : k0_pay2 T.ldDs5 T.ldSk5 T.ldDc5 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off20_eq]; show (k : ℕ) / 128 = 5 + 0; omega
  · rw [k0_off20_eq]; rfl
  · rw [k0_off20_eq]; exact (Nat.zero_add _).symm

theorem skip6_at (n : Fin 1024) (l : Fin 128) (k : Fin 1536) (h : (k : ℕ) = 768 + l) : k0_pay2 T.ldDs6 T.ldSk6 T.ldDc6 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off21_eq]; show (k : ℕ) / 128 = 6 + 0; omega
  · rw [k0_off21_eq]; rfl
  · rw [k0_off21_eq]; exact (Nat.zero_add _).symm

theorem skip7_at (n : Fin 1024) (l : Fin 128) (k : Fin 1536) (h : (k : ℕ) = 896 + l) : k0_pay2 T.ldDs7 T.ldSk7 T.ldDc7 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off22_eq]; show (k : ℕ) / 128 = 7 + 0; omega
  · rw [k0_off22_eq]; rfl
  · rw [k0_off22_eq]; exact (Nat.zero_add _).symm

theorem skip8_at (n : Fin 1024) (l : Fin 128) (k : Fin 1536) (h : (k : ℕ) = 1024 + l) : k0_pay2 T.ldDs8 T.ldSk8 T.ldDc8 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off23_eq]; show (k : ℕ) / 128 = 8 + 0; omega
  · rw [k0_off23_eq]; rfl
  · rw [k0_off23_eq]; exact (Nat.zero_add _).symm

theorem skip9_at (n : Fin 1024) (l : Fin 128) (k : Fin 1536) (h : (k : ℕ) = 1152 + l) : k0_pay2 T.ldDs9 T.ldSk9 T.ldDc9 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off24_eq]; show (k : ℕ) / 128 = 9 + 0; omega
  · rw [k0_off24_eq]; rfl
  · rw [k0_off24_eq]; exact (Nat.zero_add _).symm

theorem skip10_at (n : Fin 1024) (l : Fin 128) (k : Fin 1536) (h : (k : ℕ) = 1280 + l) : k0_pay2 T.ldDs10 T.ldSk10 T.ldDc10 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off25_eq]; show (k : ℕ) / 128 = 10 + 0; omega
  · rw [k0_off25_eq]; rfl
  · rw [k0_off25_eq]; exact (Nat.zero_add _).symm

theorem skip11_at (n : Fin 1024) (l : Fin 128) (k : Fin 1536) (h : (k : ℕ) = 1408 + l) : k0_pay2 T.ldDs11 T.ldSk11 T.ldDc11 (ix2 n l) = T.skip n k := by
  rw [rd_skip]
  refine congrArg₂ (· + ·) (load2 T.arg14 T.harg14 T.x13 _ n l n k (Nat.zero_add _).symm h) (congrArg₂ (· * ·) (load2 T.arg15 T.harg15 T.x14 _ n l n k (Nat.zero_add _).symm h)
    (load3 T.arg16 T.harg16 T.x15 _ 0 0 n _ _ n ?_ ?_ ?_))
  · rw [k0_off26_eq]; show (k : ℕ) / 128 = 11 + 0; omega
  · rw [k0_off26_eq]; rfl
  · rw [k0_off26_eq]; exact (Nat.zero_add _).symm

theorem L17_at (n : Fin 1024) (k : Fin 1536) : View.canon T.L17 (ix2 n k) = T.skip n k := by
  refine View.canon_eq_of_allAt _ _ _ (T.L17_cover _) ?_
  refine View.allAt_cons_unit _ _ _ _ _ (tile2 n k _ _ fun p q hp hq => ?_) ?_
  · rw [show p = n from Fin.ext (by omega)]; exact T.skip11_at n q k hq
  refine View.allAt_cons_unit _ _ _ _ _ (tile2 n k _ _ fun p q hp hq => ?_) ?_
  · rw [show p = n from Fin.ext (by omega)]; exact T.skip10_at n q k hq
  refine View.allAt_cons_unit _ _ _ _ _ (tile2 n k _ _ fun p q hp hq => ?_) ?_
  · rw [show p = n from Fin.ext (by omega)]; exact T.skip9_at n q k hq
  refine View.allAt_cons_unit _ _ _ _ _ (tile2 n k _ _ fun p q hp hq => ?_) ?_
  · rw [show p = n from Fin.ext (by omega)]; exact T.skip8_at n q k hq
  refine View.allAt_cons_unit _ _ _ _ _ (tile2 n k _ _ fun p q hp hq => ?_) ?_
  · rw [show p = n from Fin.ext (by omega)]; exact T.skip7_at n q k hq
  refine View.allAt_cons_unit _ _ _ _ _ (tile2 n k _ _ fun p q hp hq => ?_) ?_
  · rw [show p = n from Fin.ext (by omega)]; exact T.skip6_at n q k hq
  refine View.allAt_cons_unit _ _ _ _ _ (tile2 n k _ _ fun p q hp hq => ?_) ?_
  · rw [show p = n from Fin.ext (by omega)]; exact T.skip5_at n q k hq
  refine View.allAt_cons_unit _ _ _ _ _ (tile2 n k _ _ fun p q hp hq => ?_) ?_
  · rw [show p = n from Fin.ext (by omega)]; exact T.skip4_at n q k hq
  refine View.allAt_cons_unit _ _ _ _ _ (tile2 n k _ _ fun p q hp hq => ?_) ?_
  · rw [show p = n from Fin.ext (by omega)]; exact T.skip3_at n q k hq
  refine View.allAt_cons_unit _ _ _ _ _ (tile2 n k _ _ fun p q hp hq => ?_) ?_
  · rw [show p = n from Fin.ext (by omega)]; exact T.skip2_at n q k hq
  refine View.allAt_cons_unit _ _ _ _ _ (tile2 n k _ _ fun p q hp hq => ?_) ?_
  · rw [show p = n from Fin.ext (by omega)]; exact T.skip1_at n q k hq
  refine View.allAt_cons_unit _ _ _ _ _ (tile2 n k _ _ fun p q hp hq => ?_) ?_
  · rw [show p = n from Fin.ext (by omega)]; exact T.skip0_at n q k hq
  exact View.allAt_nil _ _

/-! ## The buffers of the scales, stored in part -/

/-- Whether a token's scales are among those that a grid point stores. -/
def Holds (i : grid0.Coords) (b : Fin 2) (s : Fin 512) : Prop := b = bat i ∧ 256 * ((i 0).val % 2) ≤ (s : ℕ) ∧ (s : ℕ) < 256 * ((i 0).val % 2) + 256

theorem holds_tok (i : grid0.Coords) : Holds i (bat i) (tok i r) :=
  ⟨rfl, Nat.le_add_right _ _, Nat.add_lt_add_left r.isLt _⟩

theorem scale_hit (v : FVec Ideal S256x1 .f32) (w : EReal) (h : v (ix2 r 0) = w) (m : Memref sig .tc .vmem S2x512 .f32) (f : m.view.ty.Contents (Elt Ideal)) :
    m.view.read (Elt Ideal) (m.view.writes (Elt Ideal) f [⟨Rect.unit (s := S2x512) (k0_off1 T.i) S1x256.size (k0_off1_inb T.i), k0_pay11 v⟩]) (ix2 (bat T.i) (tok T.i r)) = w := by
  refine (View.read_writes_cons_unit_of_mem m.view f _ _ [] (ix2 (bat T.i) (tok T.i r)) (ix2 0 r) (k0_off1_eq T.i) fun a => ?_).trans ((rd_row v r).trans h)
  match a with
  | ⟨0, _⟩ => rfl
  | ⟨1, _⟩ => rfl

theorem scale_miss (b : Fin 2) (s : Fin 512) (hbs : ¬ Holds T.i b s) (v : FVec Ideal S256x1 .f32) (m : Memref sig .tc .vmem S2x512 .f32) (f : m.view.ty.Contents (Elt Ideal)) :
    m.view.read (Elt Ideal) (m.view.writes (Elt Ideal) f [⟨Rect.unit (s := S2x512) (k0_off1 T.i) S1x256.size (k0_off1_inb T.i), k0_pay11 v⟩]) (ix2 b s) = m.view.read (Elt Ideal) f (ix2 b s) := by
  refine View.read_writes_apply_of_forall_not_mem m.view f (ix2 b s) _ fun p hp hy => hbs ?_
  rw [List.mem_singleton.mp hp] at hy
  have hy := Rect.mem_set_unit (inb := k0_off1_inb T.i) |>.mp hy
  rw [k0_off1_eq] at hy
  have h0 := hy 0
  have h1 := hy 1
  refine ⟨Fin.ext ?_, h1.1, h1.2⟩
  have h00 : (T.i 0).val / 2 ≤ (b : ℕ) ∧ (b : ℕ) < (T.i 0).val / 2 + 1 := h0
  show (b : ℕ) = (T.i 0).val / 2
  omega

theorem L19_hit (f : T.arg20.view.ty.Contents (Elt Ideal)) : T.arg20.view.read (Elt Ideal) (T.arg20.view.writes (Elt Ideal) f T.L19) (ix2 (bat T.i) (tok T.i r)) = (T.row r).hs :=
  T.scale_hit r _ _ (T.hs_at r) T.arg20 f

theorem L19_miss (b : Fin 2) (s : Fin 512) (hbs : ¬ Holds T.i b s) (f : T.arg20.view.ty.Contents (Elt Ideal)) :
    T.arg20.view.read (Elt Ideal) (T.arg20.view.writes (Elt Ideal) f T.L19) (ix2 b s) = T.arg20.view.read (Elt Ideal) f (ix2 b s) :=
  T.scale_miss b s hbs _ T.arg20 f

theorem L21_hit (f : T.arg22.view.ty.Contents (Elt Ideal)) : T.arg22.view.read (Elt Ideal) (T.arg22.view.writes (Elt Ideal) f T.L21) (ix2 (bat T.i) (tok T.i r)) = (T.row r).asc :=
  T.scale_hit r _ _ (T.asc_at r) T.arg22 f

theorem L21_miss (b : Fin 2) (s : Fin 512) (hbs : ¬ Holds T.i b s) (f : T.arg22.view.ty.Contents (Elt Ideal)) :
    T.arg22.view.read (Elt Ideal) (T.arg22.view.writes (Elt Ideal) f T.L21) (ix2 b s) = T.arg22.view.read (Elt Ideal) f (ix2 b s) :=
  T.scale_miss b s hbs _ T.arg22 f

/-- A row's piece of the gains' scales: whatever it holds lies among the grid point's tokens. -/
theorem holds_of_mem {off : Fin 3 → ℕ} {g : ℕ} (e : off = ![g, (T.i 0).val / 2, 256 * ((T.i 0).val % 2)]) (inb : ∀ a, off a + S1x1x256.size a ≤ S12x2x512.size a)
    (j : Fin 12) (b : Fin 2) (s : Fin 512) (hy : ix3 j b s ∈ (Rect.unit (s := S12x2x512) off S1x1x256.size inb).set) : Holds T.i b s := by
  subst e
  have hy := Rect.mem_set_unit.mp hy
  have h1 : (T.i 0).val / 2 ≤ (b : ℕ) ∧ (b : ℕ) < (T.i 0).val / 2 + 1 := hy 1
  have h2 := hy 2
  exact ⟨Fin.ext (by show (b : ℕ) = (T.i 0).val / 2; omega), h2.1, h2.2⟩

theorem L23_miss (j : Fin 12) (b : Fin 2) (s : Fin 512) (hbs : ¬ Holds T.i b s) (f : T.arg24.view.ty.Contents (Elt Ideal)) :
    T.arg24.view.read (Elt Ideal) (T.arg24.view.writes (Elt Ideal) f T.L23) (ix3 j b s) = T.arg24.view.read (Elt Ideal) f (ix3 j b s) := by
  refine View.read_writes_apply_of_forall_not_mem T.arg24.view f (ix3 j b s) _ fun p hp hy => hbs ?_
  unfold L23 at hp
  simp only [List.mem_cons, List.not_mem_nil, or_false] at hp
  rcases hp with rfl | rfl | rfl | rfl | rfl | rfl | rfl | rfl | rfl | rfl | rfl | rfl
  · exact T.holds_of_mem (k0_off14_eq T.i) (k0_off14_inb T.i) j b s hy
  · exact T.holds_of_mem (k0_off13_eq T.i) (k0_off13_inb T.i) j b s hy
  · exact T.holds_of_mem (k0_off12_eq T.i) (k0_off12_inb T.i) j b s hy
  · exact T.holds_of_mem (k0_off11_eq T.i) (k0_off11_inb T.i) j b s hy
  · exact T.holds_of_mem (k0_off10_eq T.i) (k0_off10_inb T.i) j b s hy
  · exact T.holds_of_mem (k0_off9_eq T.i) (k0_off9_inb T.i) j b s hy
  · exact T.holds_of_mem (k0_off8_eq T.i) (k0_off8_inb T.i) j b s hy
  · exact T.holds_of_mem (k0_off7_eq T.i) (k0_off7_inb T.i) j b s hy
  · exact T.holds_of_mem (k0_off6_eq T.i) (k0_off6_inb T.i) j b s hy
  · exact T.holds_of_mem (k0_off5_eq T.i) (k0_off5_inb T.i) j b s hy
  · exact T.holds_of_mem (k0_off4_eq T.i) (k0_off4_inb T.i) j b s hy
  · exact T.holds_of_mem (k0_off3_eq T.i) (k0_off3_inb T.i) j b s hy

/-- A row's piece of the gains' scales holds the row's entry. -/
theorem mem_of_group {off : Fin 3 → ℕ} {g : ℕ} (e : off = ![g, (T.i 0).val / 2, 256 * ((T.i 0).val % 2)]) (inb : ∀ a, off a + S1x1x256.size a ≤ S12x2x512.size a)
    (j : Fin 12) (hj : (j : ℕ) = g) : ix3 j (bat T.i) (tok T.i r) ∈ (Rect.unit (s := S12x2x512) off S1x1x256.size inb).set := by
  subst e
  refine Rect.mem_set_unit.mpr fun a => ?_
  match a with
  | ⟨0, _⟩ => exact ⟨hj.ge, by show (j : ℕ) < g + 1; omega⟩
  | ⟨1, _⟩ => exact ⟨Nat.le_refl _, Nat.lt_succ_self _⟩
  | ⟨2, _⟩ => exact ⟨Nat.le_add_right _ _, Nat.add_lt_add_left r.isLt _⟩

theorem L23_mem (j : Fin 12) : ∃ p ∈ T.L23, ix3 j (bat T.i) (tok T.i r) ∈ p.1.set := by
  have hlt := j.isLt
  unfold L23
  by_cases c0 : (j : ℕ) = 0
  · exact ⟨_, .tail _ (.tail _ (.tail _ (.tail _ (.tail _ (.tail _ (.tail _ (.tail _ (.tail _ (.tail _ (.tail _ (.head _))))))))))), T.mem_of_group r (k0_off3_eq T.i) (k0_off3_inb T.i) j c0⟩
  by_cases c1 : (j : ℕ) = 1
  · exact ⟨_, .tail _ (.tail _ (.tail _ (.tail _ (.tail _ (.tail _ (.tail _ (.tail _ (.tail _ (.tail _ (.head _)))))))))), T.mem_of_group r (k0_off4_eq T.i) (k0_off4_inb T.i) j c1⟩
  by_cases c2 : (j : ℕ) = 2
  · exact ⟨_, .tail _ (.tail _ (.tail _ (.tail _ (.tail _ (.tail _ (.tail _ (.tail _ (.tail _ (.head _))))))))), T.mem_of_group r (k0_off5_eq T.i) (k0_off5_inb T.i) j c2⟩
  by_cases c3 : (j : ℕ) = 3
  · exact ⟨_, .tail _ (.tail _ (.tail _ (.tail _ (.tail _ (.tail _ (.tail _ (.tail _ (.head _)))))))), T.mem_of_group r (k0_off6_eq T.i) (k0_off6_inb T.i) j c3⟩
  by_cases c4 : (j : ℕ) = 4
  · exact ⟨_, .tail _ (.tail _ (.tail _ (.tail _ (.tail _ (.tail _ (.tail _ (.head _))))))), T.mem_of_group r (k0_off7_eq T.i) (k0_off7_inb T.i) j c4⟩
  by_cases c5 : (j : ℕ) = 5
  · exact ⟨_, .tail _ (.tail _ (.tail _ (.tail _ (.tail _ (.tail _ (.head _)))))), T.mem_of_group r (k0_off8_eq T.i) (k0_off8_inb T.i) j c5⟩
  by_cases c6 : (j : ℕ) = 6
  · exact ⟨_, .tail _ (.tail _ (.tail _ (.tail _ (.tail _ (.head _))))), T.mem_of_group r (k0_off9_eq T.i) (k0_off9_inb T.i) j c6⟩
  by_cases c7 : (j : ℕ) = 7
  · exact ⟨_, .tail _ (.tail _ (.tail _ (.tail _ (.head _)))), T.mem_of_group r (k0_off10_eq T.i) (k0_off10_inb T.i) j c7⟩
  by_cases c8 : (j : ℕ) = 8
  · exact ⟨_, .tail _ (.tail _ (.tail _ (.head _))), T.mem_of_group r (k0_off11_eq T.i) (k0_off11_inb T.i) j c8⟩
  by_cases c9 : (j : ℕ) = 9
  · exact ⟨_, .tail _ (.tail _ (.head _)), T.mem_of_group r (k0_off12_eq T.i) (k0_off12_inb T.i) j c9⟩
  by_cases c10 : (j : ℕ) = 10
  · exact ⟨_, .tail _ (.head _), T.mem_of_group r (k0_off13_eq T.i) (k0_off13_inb T.i) j c10⟩
  exact ⟨_, .head _, T.mem_of_group r (k0_off14_eq T.i) (k0_off14_inb T.i) j (by omega)⟩

theorem L23_hit (j : Fin 12) (f : T.arg24.view.ty.Contents (Elt Ideal)) :
    T.arg24.view.read (Elt Ideal) (T.arg24.view.writes (Elt Ideal) f T.L23) (ix3 j (bat T.i) (tok T.i r)) = (T.row r).nds j := by
  rw [View.read_writes_apply_eq_canon _ f _ T.L23 (T.L23_mem r j)]
  refine View.canon_eq_of_allAt _ _ _ (T.L23_mem r j) ?_
  refine View.allAt_cons_unit _ _ _ _ _ ?_ ?_
  · rw [k0_off14_eq]
    refine tile3 j _ _ _ _ fun p q s hp hq hs => ?_
    rw [show p = 0 from Fin.ext (by omega), show q = 0 from Fin.ext (by omega), show s = r from Fin.ext (Nat.add_left_cancel hs).symm, show j = 11 from Fin.ext (by show (j : ℕ) = 11; omega)]
    exact T.nds11_at r
  refine View.allAt_cons_unit _ _ _ _ _ ?_ ?_
  · rw [k0_off13_eq]
    refine tile3 j _ _ _ _ fun p q s hp hq hs => ?_
    rw [show p = 0 from Fin.ext (by omega), show q = 0 from Fin.ext (by omega), show s = r from Fin.ext (Nat.add_left_cancel hs).symm, show j = 10 from Fin.ext (by show (j : ℕ) = 10; omega)]
    exact T.nds10_at r
  refine View.allAt_cons_unit _ _ _ _ _ ?_ ?_
  · rw [k0_off12_eq]
    refine tile3 j _ _ _ _ fun p q s hp hq hs => ?_
    rw [show p = 0 from Fin.ext (by omega), show q = 0 from Fin.ext (by omega), show s = r from Fin.ext (Nat.add_left_cancel hs).symm, show j = 9 from Fin.ext (by show (j : ℕ) = 9; omega)]
    exact T.nds9_at r
  refine View.allAt_cons_unit _ _ _ _ _ ?_ ?_
  · rw [k0_off11_eq]
    refine tile3 j _ _ _ _ fun p q s hp hq hs => ?_
    rw [show p = 0 from Fin.ext (by omega), show q = 0 from Fin.ext (by omega), show s = r from Fin.ext (Nat.add_left_cancel hs).symm, show j = 8 from Fin.ext (by show (j : ℕ) = 8; omega)]
    exact T.nds8_at r
  refine View.allAt_cons_unit _ _ _ _ _ ?_ ?_
  · rw [k0_off10_eq]
    refine tile3 j _ _ _ _ fun p q s hp hq hs => ?_
    rw [show p = 0 from Fin.ext (by omega), show q = 0 from Fin.ext (by omega), show s = r from Fin.ext (Nat.add_left_cancel hs).symm, show j = 7 from Fin.ext (by show (j : ℕ) = 7; omega)]
    exact T.nds7_at r
  refine View.allAt_cons_unit _ _ _ _ _ ?_ ?_
  · rw [k0_off9_eq]
    refine tile3 j _ _ _ _ fun p q s hp hq hs => ?_
    rw [show p = 0 from Fin.ext (by omega), show q = 0 from Fin.ext (by omega), show s = r from Fin.ext (Nat.add_left_cancel hs).symm, show j = 6 from Fin.ext (by show (j : ℕ) = 6; omega)]
    exact T.nds6_at r
  refine View.allAt_cons_unit _ _ _ _ _ ?_ ?_
  · rw [k0_off8_eq]
    refine tile3 j _ _ _ _ fun p q s hp hq hs => ?_
    rw [show p = 0 from Fin.ext (by omega), show q = 0 from Fin.ext (by omega), show s = r from Fin.ext (Nat.add_left_cancel hs).symm, show j = 5 from Fin.ext (by show (j : ℕ) = 5; omega)]
    exact T.nds5_at r
  refine View.allAt_cons_unit _ _ _ _ _ ?_ ?_
  · rw [k0_off7_eq]
    refine tile3 j _ _ _ _ fun p q s hp hq hs => ?_
    rw [show p = 0 from Fin.ext (by omega), show q = 0 from Fin.ext (by omega), show s = r from Fin.ext (Nat.add_left_cancel hs).symm, show j = 4 from Fin.ext (by show (j : ℕ) = 4; omega)]
    exact T.nds4_at r
  refine View.allAt_cons_unit _ _ _ _ _ ?_ ?_
  · rw [k0_off6_eq]
    refine tile3 j _ _ _ _ fun p q s hp hq hs => ?_
    rw [show p = 0 from Fin.ext (by omega), show q = 0 from Fin.ext (by omega), show s = r from Fin.ext (Nat.add_left_cancel hs).symm, show j = 3 from Fin.ext (by show (j : ℕ) = 3; omega)]
    exact T.nds3_at r
  refine View.allAt_cons_unit _ _ _ _ _ ?_ ?_
  · rw [k0_off5_eq]
    refine tile3 j _ _ _ _ fun p q s hp hq hs => ?_
    rw [show p = 0 from Fin.ext (by omega), show q = 0 from Fin.ext (by omega), show s = r from Fin.ext (Nat.add_left_cancel hs).symm, show j = 2 from Fin.ext (by show (j : ℕ) = 2; omega)]
    exact T.nds2_at r
  refine View.allAt_cons_unit _ _ _ _ _ ?_ ?_
  · rw [k0_off4_eq]
    refine tile3 j _ _ _ _ fun p q s hp hq hs => ?_
    rw [show p = 0 from Fin.ext (by omega), show q = 0 from Fin.ext (by omega), show s = r from Fin.ext (Nat.add_left_cancel hs).symm, show j = 1 from Fin.ext (by show (j : ℕ) = 1; omega)]
    exact T.nds1_at r
  refine View.allAt_cons_unit _ _ _ _ _ ?_ ?_
  · rw [k0_off3_eq]
    refine tile3 j _ _ _ _ fun p q s hp hq hs => ?_
    rw [show p = 0 from Fin.ext (by omega), show q = 0 from Fin.ext (by omega), show s = r from Fin.ext (Nat.add_left_cancel hs).symm, show j = 0 from Fin.ext (by show (j : ℕ) = 0; omega)]
    exact T.nds0_at r
  exact View.allAt_nil _ _

end Reads

end Bufs

end Cert.KernelIdeal.Value
-- ==== Proof.KernelIdealFrame.lean ====
/- The run of `KernelIdeal`: what each grid point leaves in the outputs' buffers, the body's obligation for it, the run from any
   memory, and the frame. -/
module

public import proofs.«01_k».proof.Proof.KernelStores
public import Idealize.ShloMosaic.Lib.Claim
public import Idealize.ShloMosaic.Lib.Pipeline.DatRel
public import Idealize.ShloMosaic.Lib.Pipeline.ArrRel

@[expose] public section

-- membership in a rectangle of production extents (`View.cover_of_tiled`): the elaborator's structural look
-- recurses once per coordinate of the long axes
set_option maxRecDepth 16384

noncomputable section

namespace Cert.KernelIdeal.Gen

open Cert.KernelIdeal.Value Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## What the outputs' buffers hold after a grid point -/

/-- The buffers of a grid point, and what its inputs hold. -/
def bufs (c : Dev nD) (t : Fin cfg0.N) : Bufs :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, scM0_0, Memref.isWhole_whole _,
    iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

def Left16 (c : Dev nD) (t : Fin cfg0.N) (X : Vec Ideal S256x1536 .bf16) : Prop := ∀ r k, X (ix2 r k) = ((bufs m c t).row r).x2 k
def Left17 (c : Dev nD) (t : Fin cfg0.N) (X : Vec Ideal S1024x1536 .bf16) : Prop := ∀ n k, X (ix2 n k) = (bufs m c t).skip n k
def Left18 (c : Dev nD) (t : Fin cfg0.N) (X : Vec Ideal S256x1536 .fp8e4m3) : Prop := ∀ r k, X (ix2 r k) = ((bufs m c t).row r).hc k
def Left20 (c : Dev nD) (t : Fin cfg0.N) (X : Vec Ideal S256x4096 .fp8e4m3) : Prop := ∀ r j, X (ix2 r j) = ((bufs m c t).row r).ac j
def Left22 (c : Dev nD) (t : Fin cfg0.N) (X : Vec Ideal S256x1536 .fp8e4m3) : Prop := ∀ r k, X (ix2 r k) = ((bufs m c t).row r).ndc k

/-- The buffers of the scales hold those of every row so far. -/
def Left19 (c : Dev nD) (t : Fin cfg0.N) (X : Vec Ideal S2x512 .f32) : Prop :=
  ∀ u : Fin cfg0.N, u.val ≤ t.val → ∀ r, X (ix2 (bat (grid0.coords u)) (tok (grid0.coords u) r)) = ((bufs m c u).row r).hs
def Left21 (c : Dev nD) (t : Fin cfg0.N) (X : Vec Ideal S2x512 .f32) : Prop :=
  ∀ u : Fin cfg0.N, u.val ≤ t.val → ∀ r, X (ix2 (bat (grid0.coords u)) (tok (grid0.coords u) r)) = ((bufs m c u).row r).asc
def Left23 (c : Dev nD) (t : Fin cfg0.N) (X : Vec Ideal S12x2x512 .f32) : Prop :=
  ∀ u : Fin cfg0.N, u.val ≤ t.val → ∀ r j, X (ix3 j (bat (grid0.coords u)) (tok (grid0.coords u) r)) = ((bufs m c u).row r).nds j

/-- What each output's buffer meets after a grid point. -/
def Left (c : Dev nD) (w : Fin cfg0.W) (t : Fin cfg0.N) : ((cfg0.win w).block.Idx → Elt Ideal (cfg0.win w).elt) → Prop := match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun _ => True
    | ⟨7, _⟩ => fun _ => True
    | ⟨8, _⟩ => fun _ => True
    | ⟨9, _⟩ => fun _ => True
    | ⟨10, _⟩ => fun _ => True
    | ⟨11, _⟩ => fun _ => True
    | ⟨12, _⟩ => fun _ => True
    | ⟨13, _⟩ => fun _ => True
    | ⟨14, _⟩ => fun _ => True
    | ⟨15, _⟩ => fun _ => True
    | ⟨16, _⟩ => Left16 m c t
    | ⟨17, _⟩ => Left17 m c t
    | ⟨18, _⟩ => Left18 m c t
    | ⟨19, _⟩ => Left19 m c t
    | ⟨20, _⟩ => Left20 m c t
    | ⟨21, _⟩ => Left21 m c t
    | ⟨22, _⟩ => Left22 m c t
    | ⟨23, _⟩ => Left23 m c t
    | ⟨_ + 24, h⟩ => absurd h (Nat.not_lt.2 (Nat.le_add_left _ _))

/-- A grid point's one coordinate is its place. -/
theorem coord0 : ∀ t : Fin cfg0.N, (grid0.coords t 0).val = t.val := by decide +kernel

/-- A row's scales are stored at its own grid point alone. -/
theorem eq_of_holds {t u : Fin cfg0.N} {r : Fin 256} (h : Bufs.Holds (grid0.coords t) (bat (grid0.coords u)) (tok (grid0.coords u) r)) : u = t := by
  obtain ⟨h0, h1, h2⟩ := h
  have h0 : (grid0.coords u 0).val / 2 = (grid0.coords t 0).val / 2 := congrArg Fin.val h0
  have h1 : 256 * ((grid0.coords t 0).val % 2) ≤ 256 * ((grid0.coords u 0).val % 2) + r := h1
  have h2 : 256 * ((grid0.coords u 0).val % 2) + r < 256 * ((grid0.coords t 0).val % 2) + 256 := h2
  rw [coord0, coord0] at h0 h1 h2
  have := r.isLt
  exact Fin.ext (by omega)

theorem left16 (c : Dev nD) (t : Fin cfg0.N) (f) : Left16 m c t ((ms0_16 t).view.read (Elt Ideal) ((ms0_16 t).view.writes (Elt Ideal) f (bufs m c t).L16)) := fun r k => by
  rw [View.read_writes_apply_eq_canon _ f _ _ ((bufs m c t).L16_cover _)]; exact (bufs m c t).L16_at r k
theorem left17 (c : Dev nD) (t : Fin cfg0.N) (f) : Left17 m c t ((ms0_17 t).view.read (Elt Ideal) ((ms0_17 t).view.writes (Elt Ideal) f (bufs m c t).L17)) := fun r k => by
  rw [View.read_writes_apply_eq_canon _ f _ _ ((bufs m c t).L17_cover _)]; exact (bufs m c t).L17_at r k
theorem left18 (c : Dev nD) (t : Fin cfg0.N) (f) : Left18 m c t ((ms0_18 t).view.read (Elt Ideal) ((ms0_18 t).view.writes (Elt Ideal) f (bufs m c t).L18)) := fun r k => by
  rw [View.read_writes_apply_eq_canon _ f _ _ ((bufs m c t).L18_cover _)]; exact (bufs m c t).L18_at r k
theorem left20 (c : Dev nD) (t : Fin cfg0.N) (f) : Left20 m c t ((ms0_20 t).view.read (Elt Ideal) ((ms0_20 t).view.writes (Elt Ideal) f (bufs m c t).L20)) := fun r k => by
  rw [View.read_writes_apply_eq_canon _ f _ _ ((bufs m c t).L20_cover _)]; exact (bufs m c t).L20_at r k
theorem left22 (c : Dev nD) (t : Fin cfg0.N) (f) : Left22 m c t ((ms0_22 t).view.read (Elt Ideal) ((ms0_22 t).view.writes (Elt Ideal) f (bufs m c t).L22)) := fun r k => by
  rw [View.read_writes_apply_eq_canon _ f _ _ ((bufs m c t).L22_cover _)]; exact (bufs m c t).L22_at r k

theorem left19 (c : Dev nD) (t : Fin cfg0.N) (Y : Vec Ideal S2x512 .f32) (hY : ∀ u : Fin cfg0.N, u.val < t.val → ∀ r, Y (ix2 (bat (grid0.coords u)) (tok (grid0.coords u) r)) = ((bufs m c u).row r).hs) :
    Left19 m c t ((ms0_19 t).view.read (Elt Ideal) ((ms0_19 t).view.writes (Elt Ideal) ((hs0_19 t).unread Y) (bufs m c t).L19)) := fun u hu r => by
  by_cases e : u = t
  · subst e; exact (bufs m c u).L19_hit r _
  · refine ((bufs m c t).L19_miss _ _ (fun h => e (eq_of_holds h)) _).trans ?_
    exact (congrFun ((hs0_19 t).read_unread Y) _).trans (hY u (lt_of_le_of_ne hu fun h => e (Fin.ext h)) r)

theorem left21 (c : Dev nD) (t : Fin cfg0.N) (Y : Vec Ideal S2x512 .f32) (hY : ∀ u : Fin cfg0.N, u.val < t.val → ∀ r, Y (ix2 (bat (grid0.coords u)) (tok (grid0.coords u) r)) = ((bufs m c u).row r).asc) :
    Left21 m c t ((ms0_21 t).view.read (Elt Ideal) ((ms0_21 t).view.writes (Elt Ideal) ((hs0_21 t).unread Y) (bufs m c t).L21)) := fun u hu r => by
  by_cases e : u = t
  · subst e; exact (bufs m c u).L21_hit r _
  · refine ((bufs m c t).L21_miss _ _ (fun h => e (eq_of_holds h)) _).trans ?_
    exact (congrFun ((hs0_21 t).read_unread Y) _).trans (hY u (lt_of_le_of_ne hu fun h => e (Fin.ext h)) r)

theorem left23 (c : Dev nD) (t : Fin cfg0.N) (Y : Vec Ideal S12x2x512 .f32) (hY : ∀ u : Fin cfg0.N, u.val < t.val → ∀ r j, Y (ix3 j (bat (grid0.coords u)) (tok (grid0.coords u) r)) = ((bufs m c u).row r).nds j) :
    Left23 m c t ((ms0_23 t).view.read (Elt Ideal) ((ms0_23 t).view.writes (Elt Ideal) ((hs0_23 t).unread Y) (bufs m c t).L23)) := fun u hu r j => by
  by_cases e : u = t
  · subst e; exact (bufs m c u).L23_hit r j _
  · refine ((bufs m c t).L23_miss j _ _ (fun h => e (eq_of_holds h)) _).trans ?_
    exact (congrFun ((hs0_23 t).read_unread Y) _).trans (hY u (lt_of_le_of_ne hu fun h => e (Fin.ext h)) r j)

/-! ## The pipeline's proof data -/

/-- The output windows: what the body leaves in them is said by `Left`, not named. -/
def forgets0 : Fin 24 → Bool := fun w => w.val == 16 || w.val == 17 || w.val == 18 || w.val == 19 || w.val == 20 || w.val == 21 || w.val == 22 || w.val == 23

/-- The proof data of the one pipeline on core `c`: the arrays as the region finds them (`V`); after the body at
    point `t` each input's buffer at its block and the outputs unnamed (`Dat.unnamed`: `Left` says what they meet); the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- The same data with the outputs held to `Left`. -/
def rdat (c : Dev nD) : Pipeline.RDat τ (Elt Ideal) Unit ℕ (UR sig nD τ) ℕ cfg0 c := (dats m 0 c).toRRel forgets0 (Left m c)

/-- What the body finds there was left at the point before. -/
theorem found19 (c : Dev nD) (t : Fin cfg0.N) (Y : Vec Ideal S2x512 .f32) (h : (rdat m c).Finds 19 t Y) (u : Fin cfg0.N) (hu : u.val < t.val) : ∀ r, Y (ix2 (bat (grid0.coords u)) (tok (grid0.coords u) r)) = ((bufs m c u).row r).hs := by
  have hN : t.val < 4 := t.isLt
  have hL := ((rdat m c).finds_of_pos (w := 19) (t := t) rfl (by omega) Y).mp h
  have hL : Left19 m c ⟨t.val - 1, Nat.lt_of_le_of_lt (Nat.sub_le _ _) t.isLt⟩ Y := by
    refine hL.elim (fun hf => ?_) fun hl => (dats m 0 c).toRRel_leaves (w := 19) rfl hl
    have := (flush0_19 _).mp hf
    have : (t.val - 1) % 4 = 3 := this
    omega
  exact hL u (by show u.val ≤ t.val - 1; omega)

/-- What the body finds there was left at the point before. -/
theorem found21 (c : Dev nD) (t : Fin cfg0.N) (Y : Vec Ideal S2x512 .f32) (h : (rdat m c).Finds 21 t Y) (u : Fin cfg0.N) (hu : u.val < t.val) : ∀ r, Y (ix2 (bat (grid0.coords u)) (tok (grid0.coords u) r)) = ((bufs m c u).row r).asc := by
  have hN : t.val < 4 := t.isLt
  have hL := ((rdat m c).finds_of_pos (w := 21) (t := t) rfl (by omega) Y).mp h
  have hL : Left21 m c ⟨t.val - 1, Nat.lt_of_le_of_lt (Nat.sub_le _ _) t.isLt⟩ Y := by
    refine hL.elim (fun hf => ?_) fun hl => (dats m 0 c).toRRel_leaves (w := 21) rfl hl
    have := (flush0_21 _).mp hf
    have : (t.val - 1) % 4 = 3 := this
    omega
  exact hL u (by show u.val ≤ t.val - 1; omega)

/-- What the body finds there was left at the point before. -/
theorem found23 (c : Dev nD) (t : Fin cfg0.N) (Y : Vec Ideal S12x2x512 .f32) (h : (rdat m c).Finds 23 t Y) (u : Fin cfg0.N) (hu : u.val < t.val) : ∀ r j, Y (ix3 j (bat (grid0.coords u)) (tok (grid0.coords u) r)) = ((bufs m c u).row r).nds j := by
  have hN : t.val < 4 := t.isLt
  have hL := ((rdat m c).finds_of_pos (w := 23) (t := t) rfl (by omega) Y).mp h
  have hL : Left23 m c ⟨t.val - 1, Nat.lt_of_le_of_lt (Nat.sub_le _ _) t.isLt⟩ Y := by
    refine hL.elim (fun hf => ?_) fun hl => (dats m 0 c).toRRel_leaves (w := 23) rfl hl
    have := (flush0_23 _).mp hf
    have : (t.val - 1) % 4 = 3 := this
    omega
  exact hL u (by show u.val ≤ t.val - 1; omega)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, ⌜(rdat m c).Finds 16 t d⌝ ∗ owns (c : Thread nD τ) (ms0_16 t) fullShare d)
    ∗ (∃ d, ⌜(rdat m c).Finds 17 t d⌝ ∗ owns (c : Thread nD τ) (ms0_17 t) fullShare d)
    ∗ (∃ d, ⌜(rdat m c).Finds 18 t d⌝ ∗ owns (c : Thread nD τ) (ms0_18 t) fullShare d)
    ∗ (∃ d, ⌜(rdat m c).Finds 19 t d⌝ ∗ owns (c : Thread nD τ) (ms0_19 t) fullShare d)
    ∗ (∃ d, ⌜(rdat m c).Finds 20 t d⌝ ∗ owns (c : Thread nD τ) (ms0_20 t) fullShare d)
    ∗ (∃ d, ⌜(rdat m c).Finds 21 t d⌝ ∗ owns (c : Thread nD τ) (ms0_21 t) fullShare d)
    ∗ (∃ d, ⌜(rdat m c).Finds 22 t d⌝ ∗ owns (c : Thread nD τ) (ms0_22 t) fullShare d)
    ∗ (∃ d, ⌜(rdat m c).Finds 23 t d⌝ ∗ owns (c : Thread nD τ) (ms0_23 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, ⌜Left m c 16 t d⌝ ∗ owns (c : Thread nD τ) (ms0_16 t) fullShare d)
    ∗ (∃ d, ⌜Left m c 17 t d⌝ ∗ owns (c : Thread nD τ) (ms0_17 t) fullShare d)
    ∗ (∃ d, ⌜Left m c 18 t d⌝ ∗ owns (c : Thread nD τ) (ms0_18 t) fullShare d)
    ∗ (∃ d, ⌜Left m c 19 t d⌝ ∗ owns (c : Thread nD τ) (ms0_19 t) fullShare d)
    ∗ (∃ d, ⌜Left m c 20 t d⌝ ∗ owns (c : Thread nD τ) (ms0_20 t) fullShare d)
    ∗ (∃ d, ⌜Left m c 21 t d⌝ ∗ owns (c : Thread nD τ) (ms0_21 t) fullShare d)
    ∗ (∃ d, ⌜Left m c 22 t d⌝ ∗ owns (c : Thread nD τ) (ms0_22 t) fullShare d)
    ∗ (∃ d, ⌜Left m c 23 t d⌝ ∗ owns (c : Thread nD τ) (ms0_23 t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, %h16, H16⟩, ⟨%d17, %h17, H17⟩, ⟨%d18, %h18, H18⟩, ⟨%d19, %h19, H19⟩, ⟨%d20, %h20, H20⟩, ⟨%d21, %h21, H21⟩, ⟨%d22, %h22, H22⟩, ⟨%d23, %h23, H23⟩⟩
  iapply (((bufs m c t).run d19 d21 d23).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexists _; iexact H20
  isplitl [H21]; · iexact H21
  isplitl [H22]; · iexists _; iexact H22
  isplitl [H23]; · iexact H23
  isplitl [HS0]; · iexact HS0
  iintro ⟨H0, H1, H2, H3, H4, H5, H6, H7, H8, H9, H10, H11, H12, H13, H14, H15, ⟨%f16, H16⟩, ⟨%f17, H17⟩, ⟨%f18, H18⟩, H19, ⟨%f20, H20⟩, H21, ⟨%f22, H22⟩, H23, ⟨%fS, HS0⟩⟩
  isplitl [HS0 Hg]
  · isplitl [HS0]
    · iexists _; unfold owns; iexists _; isplitr; swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; · ipureintro; exact left16 m c t f16
    unfold owns; iexists _; isplitr; swap; · iexact H16
    ipureintro; rfl
  isplitl [H17]
  · iexists _; isplitr; · ipureintro; exact left17 m c t f17
    unfold owns; iexists _; isplitr; swap; · iexact H17
    ipureintro; rfl
  isplitl [H18]
  · iexists _; isplitr; · ipureintro; exact left18 m c t f18
    unfold owns; iexists _; isplitr; swap; · iexact H18
    ipureintro; rfl
  isplitl [H19]
  · iexists _; isplitr; · ipureintro; exact left19 m c t d19 (found19 m c t d19 h19)
    unfold owns; iexists _; isplitr; swap; · iexact H19
    ipureintro; rfl
  isplitl [H20]
  · iexists _; isplitr; · ipureintro; exact left20 m c t f20
    unfold owns; iexists _; isplitr; swap; · iexact H20
    ipureintro; rfl
  isplitl [H21]
  · iexists _; isplitr; · ipureintro; exact left21 m c t d21 (found21 m c t d21 h21)
    unfold owns; iexists _; isplitr; swap; · iexact H21
    ipureintro; rfl
  isplitl [H22]
  · iexists _; isplitr; · ipureintro; exact left22 m c t f22
    unfold owns; iexists _; isplitr; swap; · iexact H22
    ipureintro; rfl
  iexists _; isplitr; · ipureintro; exact left23 m c t d23 (found23 m c t d23 h23)
  unfold owns; iexists _; isplitr; swap; · iexact H23
  ipureintro; rfl

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats m 0 c) (defs₀ (F := Ideal)) Variants.none () Set.univ forgets0 (Left m c) := fun t => by
  rw [bigSep_W0, bigSep_W0, defs₀_row]
  exact triple_restated (sound_body m c t) rfl .rfl fun _ => .rfl

/-! ## The run and the frame -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean). -/
theorem frame_of_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c),
      (Pipeline.RDat.FramePost.arr_in h c 11 rfl).trans ((hA c 11).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

-- the implicit arguments are found by unifying the conclusion with this one, which takes unfolding plain definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The run: every array as the data say, every other buffer as the pipeline found it. -/
theorem run_main : θ_run defs (onTc (τ := τ) (main (F := Ideal))) (s₀ m ρ) (Pipeline.RDat.FramePost (cfgs 0) (rdat m) (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of_rel m ρ (rdat m) (A_eq m) (run_main m ρ)

/-- THE FRAME: `Cert.quiescent_KernelIdeal`'s statement (Defs.lean). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.ArraySpec.lean ====
/- The results as arrays over the arguments: both programs are read to these. -/
module

public import proofs.«01_k».proof.Proof.RowSpec

@[expose] public section

set_option maxRecDepth 16384

noncomputable section

namespace Cert.Ffn

open Idealize Idealize.ShloMosaic

/-- The arguments. -/
@[ext] structure Args where
  xa : Vec Ideal ⟨2, ![1024, 1536]⟩ .bf16
  oc : Vec Ideal ⟨3, ![2, 1536, 512]⟩ .fp8e4m3
  os : Vec Ideal ⟨2, ![2, 512]⟩ .f32
  ga : Vec Ideal ⟨2, ![2, 1536]⟩ .f32
  sm : Vec Ideal ⟨2, ![2, 1536]⟩ .f32
  gm : Vec Ideal ⟨2, ![2, 1536]⟩ .f32
  g : Vec Ideal ⟨1, ![1536]⟩ .f32
  wo : Vec Ideal ⟨3, ![24, 64, 1536]⟩ .fp8e4m3
  so : Vec Ideal ⟨1, ![1536]⟩ .f32
  wgu : Vec Ideal ⟨2, ![1536, 8192]⟩ .fp8e4m3
  sgu : Vec Ideal ⟨1, ![8192]⟩ .f32
  wd : Vec Ideal ⟨2, ![4096, 1536]⟩ .fp8e4m3
  sd : Vec Ideal ⟨1, ![1536]⟩ .f32
  x : Vec Ideal ⟨3, ![2, 2048, 1536]⟩ .bf16
  dc : Vec Ideal ⟨3, ![2, 2048, 1536]⟩ .fp8e4m3
  ds : Vec Ideal ⟨3, ![2, 2048, 12]⟩ .f32

namespace Args
variable (A : Args)

/-- One active token. -/
def row (b : Fin 2) (s : Fin 512) : Row where
  xa k := A.xa (ix2 ⟨b * 512 + s, by omega⟩ k)
  o x := A.oc (ix3 b x s)
  os := A.os (ix2 b s)
  ga k := A.ga (ix2 b k)
  sm k := A.sm (ix2 b k)
  gm k := A.gm (ix2 b k)
  g k := A.g (ix1 k)
  wo x k := A.wo (ix3 ⟨x / 64, by omega⟩ ⟨x % 64, by omega⟩ k)
  so k := A.so (ix1 k)
  wgu k j := A.wgu (ix2 k j)
  sgu j := A.sgu (ix1 j)
  wd j k := A.wd (ix2 j k)
  sd k := A.sd (ix1 k)

/-- The active token that a row of the flattened arrays holds. -/
def flat (t : Fin 1024) : Row := A.row ⟨t / 512, by omega⟩ ⟨t % 512, by omega⟩

/-- An entry of the skipped tokens, their codes read with their scales. -/
def skipAt (n : Fin 4096) (k : Fin 1536) : EReal :=
  A.x (ix3 ⟨n / 2048, by omega⟩ ⟨n % 2048, by omega⟩ k)
    + A.dc (ix3 ⟨n / 2048, by omega⟩ ⟨n % 2048, by omega⟩ k) * A.ds (ix3 ⟨n / 2048, by omega⟩ ⟨n % 2048, by omega⟩ ⟨k / 128, by omega⟩)

def y : Vec Ideal ⟨2, ![1024, 1536]⟩ .bf16 := fun i => (A.flat (i 0)).x2 (i 1)
def skip : Vec Ideal ⟨2, ![4096, 1536]⟩ .bf16 := fun i => A.skipAt (i 0) (i 1)
def h2Codes : Vec Ideal ⟨2, ![1024, 1536]⟩ .fp8e4m3 := fun i => (A.flat (i 0)).hc (i 1)
def h2Scales : Vec Ideal ⟨2, ![2, 512]⟩ .f32 := fun i => (A.row (i 0) (i 1)).hs
def aCodes : Vec Ideal ⟨2, ![1024, 4096]⟩ .fp8e4m3 := fun i => (A.flat (i 0)).ac (i 1)
def aScales : Vec Ideal ⟨2, ![2, 512]⟩ .f32 := fun i => (A.row (i 0) (i 1)).asc
def deltaCodes : Vec Ideal ⟨2, ![1024, 1536]⟩ .fp8e4m3 := fun i => (A.flat (i 0)).ndc (i 1)
def deltaScales : Vec Ideal ⟨3, ![12, 2, 512]⟩ .f32 := fun i => (A.row (i 1) (i 2)).nds (i 0)

end Args

end Cert.Ffn
-- ==== Proof.KernelArrays.lean ====
/- What the arrays of `KernelIdeal` hold after the run. -/
module

public import proofs.«01_k».proof.Proof.KernelIdealFrame
public import proofs.«01_k».proof.Proof.ArraySpec
public import Idealize.ShloMosaic.Lib.Pipeline.ValueKit

@[expose] public section

set_option maxRecDepth 16384

noncomputable section

namespace Cert.KernelIdeal.Value

open Idealize Idealize.ShloMosaic Idealize.ShloMosaic.TcCoe Idealize.SL.Sem
open Cert.KernelIdeal Cert.KernelIdeal.Gen Cert.Ffn
open Idealize.ShloMosaic.Pipeline (Dat)

variable (m : (ℓ : Loc nD τ sig) → Buf (Elt Ideal) ℓ) (c : Dev nD)

/-- The arguments, as the run finds them. -/
def args : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14), m ((c : Thread nD τ).loc main_arg15)⟩

/-- Where the windows' blocks lie. -/
theorem idx : ∀ t : Fin cfg0.N,
    win0_0.index t = ![t.val, 0] ∧ win0_1.index t = ![t.val / 2, 0, t.val % 2] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0] ∧ win0_14.index t = ![t.val, 0]
    ∧ win0_15.index t = ![0, 0, t.val % 2] ∧ win0_16.index t = ![t.val, 0] ∧ win0_17.index t = ![t.val, 0] ∧ win0_18.index t = ![t.val, 0]
    ∧ win0_19.index t = ![0, 0] ∧ win0_20.index t = ![t.val, 0] ∧ win0_21.index t = ![0, 0] ∧ win0_22.index t = ![t.val, 0] ∧ win0_23.index t = ![0, 0, 0] :=
  (by decide +kernel : ∀ t : Fin grid0.N, _)

theorem bat_eq (t : Fin cfg0.N) (h) : bat (grid0.coords t) = ⟨t.val / 2, h⟩ := Fin.ext (congrArg (· / 2) (coord0 t))
theorem tok_eq (t : Fin cfg0.N) (r : Fin 256) (h) : tok (grid0.coords t) r = ⟨256 * (t.val % 2) + r, h⟩ := Fin.ext (congrArg (fun n => 256 * (n % 2) + r.val) (coord0 t))

theorem row_eq (t : Fin cfg0.N) (r : Fin 256) (hb : t.val / 2 < 2) (hs : 256 * (t.val % 2) + r.val < 512) :
    (bufs m c t).row r = (args m c).row ⟨t.val / 2, hb⟩ ⟨256 * (t.val % 2) + r, hs⟩ := by
  unfold Bufs.row Args.row
  dsimp only [bufs, args]
  rw [bat_eq t hb, tok_eq t r hs]
  congr 1
  · funext k; blk_point [iblk, V, idx t]
  · funext k; blk_point [iblk, V, idx t]
  · blk_point [iblk, V, idx t]
  · funext k; blk_point [iblk, V, idx t]
  · funext k; blk_point [iblk, V, idx t]
  · funext k; blk_point [iblk, V, idx t]
  · funext k; blk_point [iblk, V, idx t]
  · funext k k'; blk_point [iblk, V, idx t]
  · funext k; blk_point [iblk, V, idx t]
  · funext k k'; blk_point [iblk, V, idx t]
  · funext k; blk_point [iblk, V, idx t]
  · funext k k'; blk_point [iblk, V, idx t]
  · funext k; blk_point [iblk, V, idx t]

theorem skip_eq (t : Fin cfg0.N) (n : Fin 1024) (k : Fin 1536) (h : t.val * 1024 + n.val < 4096) : (bufs m c t).skip n k = (args m c).skipAt ⟨t.val * 1024 + n, h⟩ k := by
  have hN : t.val < 4 := t.isLt
  unfold Bufs.skip Args.skipAt
  dsimp only [bufs, args]
  rw [bat_eq t (by omega)]
  blk_point [iblk, V, idx t]

/-- The rows of a grid point's tile, in the flattened arrays. -/
theorem row_flat (t : Fin cfg0.N) (r : Fin 256) (q : Fin 1024) (hq : q.val = t.val * 256 + r.val) : (bufs m c t).row r = (args m c).flat q := by
  have hN : t.val < 4 := t.isLt
  rw [row_eq m c t r (by omega) (by omega)]
  unfold Args.flat
  exact congrArg₂ _ (Fin.ext (by show t.val / 2 = q.val / 512; omega)) (Fin.ext (by show 256 * (t.val % 2) + r.val = q.val % 512; omega))

section Final
variable {after : (w : Fin cfg0.W) → Fin cfg0.N → (cfg0.win w).block.Idx → Elt Ideal (cfg0.win w).elt}
  (hL : ∀ (w : Fin cfg0.W) (u : Fin cfg0.N), (cfg0.win w).flush u = true → (rdat m c).Leaves w u (after w u))
include hL

theorem final16 : ((rdat m c).withAfter after).arrAt 16 cfg0.N = (args m c).y := by
  refine Dat.arrAt_eq_of_covers _ 16 _ (by decide +kernel) fun t hf y => ?_
  have h : Left16 m c t (after 16 t) := (dats m 0 c).toRRel_leaves (w := 16) rfl (hL 16 t hf)
  blk_simp
  rw [Pipeline.RDat.withAfter_after]
  obtain ⟨r, k, rfl⟩ : ∃ (r : Fin 256) (k : Fin 1536), y = ix2 r k := ⟨y 0, y 1, eq_ix2 y⟩
  refine (h r k).trans ?_
  unfold Args.y
  refine (congrArg (fun R : Row => R.x2 k) (row_flat m c t r _ ?_)).trans (congrArg (Row.x2 _) (Fin.ext ?_))
  · blk_simp [idx t]
  · blk_simp [idx t]

theorem final18 : ((rdat m c).withAfter after).arrAt 18 cfg0.N = (args m c).h2Codes := by
  refine Dat.arrAt_eq_of_covers _ 18 _ (by decide +kernel) fun t hf y => ?_
  have h : Left18 m c t (after 18 t) := (dats m 0 c).toRRel_leaves (w := 18) rfl (hL 18 t hf)
  blk_simp
  rw [Pipeline.RDat.withAfter_after]
  obtain ⟨r, k, rfl⟩ : ∃ (r : Fin 256) (k : Fin 1536), y = ix2 r k := ⟨y 0, y 1, eq_ix2 y⟩
  refine (h r k).trans ?_
  unfold Args.h2Codes
  refine (congrArg (fun R : Row => R.hc k) (row_flat m c t r _ ?_)).trans (congrArg (Row.hc _) (Fin.ext ?_))
  · blk_simp [idx t]
  · blk_simp [idx t]

theorem final20 : ((rdat m c).withAfter after).arrAt 20 cfg0.N = (args m c).aCodes := by
  refine Dat.arrAt_eq_of_covers _ 20 _ (by decide +kernel) fun t hf y => ?_
  have h : Left20 m c t (after 20 t) := (dats m 0 c).toRRel_leaves (w := 20) rfl (hL 20 t hf)
  blk_simp
  rw [Pipeline.RDat.withAfter_after]
  obtain ⟨r, k, rfl⟩ : ∃ (r : Fin 256) (k : Fin 4096), y = ix2 r k := ⟨y 0, y 1, eq_ix2 y⟩
  refine (h r k).trans ?_
  unfold Args.aCodes
  refine (congrArg (fun R : Row => R.ac k) (row_flat m c t r _ ?_)).trans (congrArg (Row.ac _) (Fin.ext ?_))
  · blk_simp [idx t]
  · blk_simp [idx t]

theorem final22 : ((rdat m c).withAfter after).arrAt 22 cfg0.N = (args m c).deltaCodes := by
  refine Dat.arrAt_eq_of_covers _ 22 _ (by decide +kernel) fun t hf y => ?_
  have h : Left22 m c t (after 22 t) := (dats m 0 c).toRRel_leaves (w := 22) rfl (hL 22 t hf)
  blk_simp
  rw [Pipeline.RDat.withAfter_after]
  obtain ⟨r, k, rfl⟩ : ∃ (r : Fin 256) (k : Fin 1536), y = ix2 r k := ⟨y 0, y 1, eq_ix2 y⟩
  refine (h r k).trans ?_
  unfold Args.deltaCodes
  refine (congrArg (fun R : Row => R.ndc k) (row_flat m c t r _ ?_)).trans (congrArg (Row.ndc _) (Fin.ext ?_))
  · blk_simp [idx t]
  · blk_simp [idx t]

end Final

end Cert.KernelIdeal.Value
-- ==== Proof.KernelResults.lean ====
/- What `KernelIdeal` computes: every result array, over the arguments. -/
module

public import proofs.«01_k».proof.Proof.KernelArrays

@[expose] public section

set_option maxRecDepth 16384

noncomputable section

namespace Cert.KernelIdeal.Value

open Idealize Idealize.ShloMosaic Idealize.ShloMosaic.TcCoe Idealize.SL.Sem
open Cert.KernelIdeal Cert.KernelIdeal.Gen Cert.Ffn
open Idealize.ShloMosaic.Pipeline (Dat)

variable (m : (ℓ : Loc nD τ sig) → Buf (Elt Ideal) ℓ) (ρ : Dev nD → PrngReg) (c : Dev nD)

/-- The grid point and the row of an active token. -/
theorem token_row (b : Fin 2) (s : Fin 512) : ∃ (u : Fin cfg0.N) (r : Fin 256), bat (grid0.coords u) = b ∧ tok (grid0.coords u) r = s ∧ u.val ≤ 3 ∧ (bufs m c u).row r = (args m c).row b s := by
  let u : Fin cfg0.N := ⟨2 * b + s / 256, by show 2 * b.val + s.val / 256 < 4; omega⟩
  have hu : u.val = 2 * b.val + s.val / 256 := rfl
  have hb : u.val / 2 < 2 := by omega
  have hs : 256 * (u.val % 2) + s.val % 256 < 512 := by omega
  have e0 : (⟨u.val / 2, hb⟩ : Fin 2) = b := Fin.ext (by show u.val / 2 = b.val; omega)
  have e1 : (⟨256 * (u.val % 2) + s.val % 256, hs⟩ : Fin 512) = s := Fin.ext (by show 256 * (u.val % 2) + s.val % 256 = s.val; omega)
  have er := row_eq m c u ⟨s % 256, by omega⟩ hb hs
  rw [e0, e1] at er
  exact ⟨u, ⟨s % 256, by omega⟩, (bat_eq u hb).trans e0, (tok_eq u _ hs).trans e1, by omega, er⟩

section Final
variable {after : (w : Fin cfg0.W) → Fin cfg0.N → (cfg0.win w).block.Idx → Elt Ideal (cfg0.win w).elt}
  (hL : ∀ (w : Fin cfg0.W) (u : Fin cfg0.N), (cfg0.win w).flush u = true → (rdat m c).Leaves w u (after w u))
include hL

theorem final17 : ((rdat m c).withAfter after).arrAt 17 cfg0.N = (args m c).skip := by
  refine Dat.arrAt_eq_of_covers _ 17 _ (by decide +kernel) fun t hf y => ?_
  have h : Left17 m c t (after 17 t) := (dats m 0 c).toRRel_leaves (w := 17) rfl (hL 17 t hf)
  have hN : t.val < 4 := t.isLt
  blk_simp
  rw [Pipeline.RDat.withAfter_after]
  obtain ⟨r, k, rfl⟩ : ∃ (r : Fin 1024) (k : Fin 1536), y = ix2 r k := ⟨y 0, y 1, eq_ix2 y⟩
  refine (h r k).trans ((skip_eq m c t r k (by omega)).trans ?_)
  unfold Args.skip
  refine congrArg₂ _ (Fin.ext ?_) (Fin.ext ?_)
  · blk_simp [idx t]
  · blk_simp [idx t]

theorem final19 : ((rdat m c).withAfter after).arrAt 19 cfg0.N = (args m c).h2Scales := by
  refine Dat.arrAt_eq_of_after_last _ 19 t0_3 (by decide +kernel) _ fun j => ?_
  have h : Left19 m c t0_3 (after 19 t0_3) := (dats m 0 c).toRRel_leaves (w := 19) rfl (hL 19 t0_3 (by decide +kernel))
  blk_simp
  rw [Pipeline.RDat.withAfter_after]
  obtain ⟨b, s, rfl⟩ : ∃ (b : Fin 2) (s : Fin 512), j = ix2 b s := ⟨j 0, j 1, eq_ix2 j⟩
  obtain ⟨u, r, eb, es, hu, er⟩ := token_row m c b s
  have h := h u hu r
  rw [eb, es, er] at h
  exact h

theorem final21 : ((rdat m c).withAfter after).arrAt 21 cfg0.N = (args m c).aScales := by
  refine Dat.arrAt_eq_of_after_last _ 21 t0_3 (by decide +kernel) _ fun j => ?_
  have h : Left21 m c t0_3 (after 21 t0_3) := (dats m 0 c).toRRel_leaves (w := 21) rfl (hL 21 t0_3 (by decide +kernel))
  blk_simp
  rw [Pipeline.RDat.withAfter_after]
  obtain ⟨b, s, rfl⟩ : ∃ (b : Fin 2) (s : Fin 512), j = ix2 b s := ⟨j 0, j 1, eq_ix2 j⟩
  obtain ⟨u, r, eb, es, hu, er⟩ := token_row m c b s
  have h := h u hu r
  rw [eb, es, er] at h
  exact h

theorem final23 : ((rdat m c).withAfter after).arrAt 23 cfg0.N = (args m c).deltaScales := by
  refine Dat.arrAt_eq_of_after_last _ 23 t0_3 (by decide +kernel) _ fun j => ?_
  have h : Left23 m c t0_3 (after 23 t0_3) := (dats m 0 c).toRRel_leaves (w := 23) rfl (hL 23 t0_3 (by decide +kernel))
  blk_simp
  rw [Pipeline.RDat.withAfter_after]
  obtain ⟨g, b, s, rfl⟩ : ∃ (g : Fin 12) (b : Fin 2) (s : Fin 512), j = ix3 g b s := ⟨j 0, j 1, j 2, eq_ix3 j⟩
  obtain ⟨u, r, eb, es, hu, er⟩ := token_row m c b s
  have h := h u hu r g
  rw [eb, es, er] at h
  exact h

end Final

/-- Every run ends with the result arrays over the arguments. -/
theorem results : θ_run defs (onTc (τ := τ) (main (F := Ideal))) (s₀ m ρ) (fun r => ∀ c : Dev nD,
      r.2.mem ((c.tc : Thread nD τ).loc main_v8_0) = (args m c).y
      ∧ r.2.mem ((c.tc : Thread nD τ).loc main_v8_1) = (args m c).skip
      ∧ r.2.mem ((c.tc : Thread nD τ).loc main_v8_2) = (args m c).h2Codes
      ∧ r.2.mem ((c.tc : Thread nD τ).loc main_v8_3) = (args m c).h2Scales
      ∧ r.2.mem ((c.tc : Thread nD τ).loc main_v8_4) = (args m c).aCodes
      ∧ r.2.mem ((c.tc : Thread nD τ).loc main_v8_5) = (args m c).aScales
      ∧ r.2.mem ((c.tc : Thread nD τ).loc main_v8_6) = (args m c).deltaCodes
      ∧ r.2.mem ((c.tc : Thread nD τ).loc main_v8_7) = (args m c).deltaScales) :=
  (θ_run defs _ _).mono (fun _ h c => by
    obtain ⟨after, hL, hA⟩ := h.exists_exact c
    exact ⟨(hA 16).trans (final16 m c hL), (hA 17).trans (final17 m c hL), (hA 18).trans (final18 m c hL), (hA 19).trans (final19 m c hL),
      (hA 20).trans (final20 m c hL), (hA 21).trans (final21 m c hL), (hA 22).trans (final22 m c hL), (hA 23).trans (final23 m c hL)⟩) (run_main m ρ)

end Cert.KernelIdeal.Value
-- ==== Proof.ReferenceValue.lean ====
/- What each entry of the reference's results is: the row of its token, put through the mathematics of `Cert.Ffn.Row`. -/
module

public import proofs.«01_k».proof.Proof.Gen.ReferenceIdeal.Frame
public import proofs.«01_k».proof.Proof.RowSpec

@[expose] public section

set_option maxRecDepth 16384

noncomputable section

namespace Cert.ReferenceIdeal.Value

open Idealize Idealize.ShloMosaic Idealize.ShloMosaic.TcCoe Idealize.SL.Sem
open Idealize.ShloMosaic.Pipeline (Dat)
open Cert.ReferenceIdeal Cert.ReferenceIdeal.Gen Cert.Ffn

/-! ## Readings of the reference's operations, at any arrays -/

section Readings
variable (X : FVec Ideal S2x512x1536 .f32) (Y : FVec Ideal S2x512x1 .f32) (A : FVec Ideal S2x512x4096 .f32)
  (H : FVec Ideal S2x512x1536 .fp8e4m3) (Q : FVec Ideal S2x512x4096 .fp8e4m3) (Z : FVec Ideal S2x512 .f32)
  (G : FVec Ideal S2x512x12 .f32) (E : IVec S2x512x12 32) (D : FVec Ideal S2x512x12x128 .f32)
  (b : Fin 2) (s : Fin 512) (k : Fin 1536) (j : Fin 4096) (gi : Fin 12) (l : Fin 128) (t : Fin 1024)

theorem rd_max1536 : multiReduction .maximumf [2] S2x512 (absf X) 0xFF800000#32 reduces_S2x512x1536_S2x512 (.inl rfl) rfl (ix2 b s) = amax fun k => X (ix3 b s k) := by
  pointwise []
  rfl

theorem rd_max4096 : multiReduction .maximumf [2] S2x512 (absf A) 0xFF800000#32 reduces_S2x512x4096_S2x512 (.inl rfl) rfl (ix2 b s) = amax fun k => A (ix3 b s k) := by
  pointwise []
  rfl

theorem rd_max128 : multiReduction .maximumf [3] S2x512x12 (absf D) 0xFF800000#32 reduces_S2x512x12x128_S2x512x12 (.inl rfl) rfl (ix3 b s gi) = amax fun l => D (ix4 b s gi l) := by
  pointwise []
  rfl

theorem rd_col : shapeCast S2x512x1 Z shapeCasts_S2x512_S2x512x1 (ix3 b s 0) = Z (ix2 b s) := by
  pointwise []

theorem rd_scale : select (cmpf .oeq Y (broadcast S2x512x1 (Scalar.ofBits .f32 0x00000000#32 : Ideal .f32))) (broadcast S2x512x1 (Scalar.ofBits .f32 0x3F800000#32 : Ideal .f32)) (divf Y (broadcast S2x512x1 (Scalar.ofBits .f32 0x43E00000#32 : Ideal .f32))) (ix3 b s 0) = scaleOf (Y (ix3 b s 0)) := by
  pointwise []
  unfold scaleOf
  rfl

theorem rd_clip1536 : truncf .fp8e4m3 (minimumf (broadcast S2x512x1536 (Scalar.ofBits .f32 0x43E00000#32)) (maximumf (broadcast S2x512x1536 (Scalar.ofBits .f32 0xC3E00000#32)) (divf X (broadcastTo S2x512x1536 Y broadcasts_S2x512x1_S2x512x1536)))) bitsLt_fp8e4m3_f32 (ix3 b s k) = clip (Ideal.div (X (ix3 b s k)) (Y (ix3 b s 0))) := by
  pointwise []
  rfl

theorem rd_clip4096 : k0_pay14 (F := Ideal) A (Scalar.ofBits .f32 0xC3E00000#32) (ix3 b s j) = clip (A (ix3 b s j)) := by
  pointwise [k0_pay14]
  rfl

theorem rd_div : divf A (broadcastTo S2x512x4096 Y broadcasts_S2x512x1_S2x512x4096) (ix3 b s j) = Ideal.div (A (ix3 b s j)) (Y (ix3 b s 0)) := by
  pointwise []

theorem rd_gu (W : Vec Ideal S1536x8192 .fp8e4m3) (U : Vec Ideal S8192 .f32) (i : Fin 8192) : mulf (mulf (shapeCast S2x512x8192 (matmul (φ₁ := .fp8e4m3) (φ₂ := .fp8e4m3) dot_S1024x1536_S1536x8192_S1024x8192_1_0_0_1_n_n none (shapeCast S1024x1536 H shapeCasts_S2x512x1536_S1024x1536) W (constant S1024x8192 .f32 0x00000000#32)) shapeCasts_S1024x8192_S2x512x8192) (broadcastTo S2x512x8192 Y broadcasts_S2x512x1_S2x512x8192)) (broadcastTo S2x512x8192 (shapeCast S1x1x8192 U shapeCasts_S8192_S1x1x8192) broadcasts_S1x1x8192_S2x512x8192) (ix3 b s i) = (∑ x, H (ix3 b s x) * W (ix2 x i)) * Y (ix3 b s 0) * U (ix1 i) := by
  pointwise []

theorem rd_glu (P : FVec Ideal S2x512x8192 .f32) : mulf (mulf (extractStridedSlice S2x512x4096 ![0, 0, 0] P slices_S2x512x8192_o0_0_0_S2x512x4096) (logistic (extractStridedSlice S2x512x4096 ![0, 0, 0] P slices_S2x512x8192_o0_0_0_S2x512x4096))) (extractStridedSlice S2x512x4096 ![0, 0, 4096] P slices_S2x512x8192_o0_0_4096_S2x512x4096) (ix3 b s j) = P (ix3 b s ⟨j, by omega⟩) * Ideal.logistic (P (ix3 b s ⟨j, by omega⟩)) * P (ix3 b s ⟨4096 + j, by omega⟩) := by
  pointwise []

theorem rd_x2 (g : Vec Ideal S2x1536 .f32) (V : Vec Ideal S4096x1536 .fp8e4m3) (sd : Vec Ideal S1536 .f32) : addf X (mulf (broadcastTo S2x512x1536 (shapeCast S2x1x1536 g shapeCasts_S2x1536_S2x1x1536) broadcasts_S2x1x1536_S2x512x1536) (mulf (mulf (shapeCast S2x512x1536 (matmul (φ₁ := .fp8e4m3) (φ₂ := .fp8e4m3) dot_S1024x4096_S4096x1536_S1024x1536_1_0_0_1_n_n none (shapeCast S1024x4096 Q shapeCasts_S2x512x4096_S1024x4096) V (constant S1024x1536 .f32 0x00000000#32)) shapeCasts_S1024x1536_S2x512x1536) (broadcastTo S2x512x1536 Y broadcasts_S2x512x1_S2x512x1536)) (broadcastTo S2x512x1536 (shapeCast S1x1x1536 sd shapeCasts_S1536_S1x1x1536) broadcasts_S1x1x1536_S2x512x1536))) (ix3 b s k) = X (ix3 b s k) + g (ix2 b k) * ((∑ x, Q (ix3 b s x) * V (ix2 x k)) * Y (ix3 b s 0) * sd (ix1 k)) := by
  pointwise []

theorem rd_diff (X' : FVec Ideal S2x512x1536 .f32) : shapeCast S2x512x12x128 (subf X X') shapeCasts_S2x512x1536_S2x512x12x128 (ix4 b s gi l) = X (ix3 b s ⟨gi * 128 + l, by omega⟩) - X' (ix3 b s ⟨gi * 128 + l, by omega⟩) := by
  pointwise []

theorem rd_count : multiReduction .add [3] S2x512x12 (select (cmpf .olt (broadcastTo S2x512x12x255 (shapeCast S2x512x12x1 G shapeCasts_S2x512x12_S2x512x12x1) broadcasts_S2x512x12x1_S2x512x12x255) (bitcastToFloat .f32 (shli (addi (iota .tc S2x512x12x255 32 [3] iota_S2x512x12x255_d3_w32) (broadcast S2x512x12x255 1#32)) (broadcast S2x512x12x255 23#32)))) (broadcast S2x512x12x255 (Scalar.ofBits .f32 0x00000000#32 : Ideal .f32)) (broadcast S2x512x12x255 (Scalar.ofBits .f32 0x3F800000#32 : Ideal .f32))) 0x00000000#32 reduces_S2x512x12x255_S2x512x12 (.inl rfl) rfl (ix3 b s gi)
    = ∑ k : Fin 255, if G (ix3 b s gi) < Ideal.ofBits .f32 ((BitVec.ofNat 32 k + 1#32) <<< (23 : ℕ)) then (0 : EReal) else 1 := by
  pointwise []
  rfl

theorem rd_exp (G' : FVec Ideal S2x512x12 .f32) : select (cmpf .oeq G (broadcast S2x512x12 (Scalar.ofBits .f32 0x00000000#32))) (broadcast S2x512x12 0#32) (subi (fptosi (F := Ideal) 32 G') (broadcast S2x512x12 126#32)) (ix3 b s gi)
    = if G (ix3 b s gi) = 0 then 0#32 else Ideal.fptosi 32 (G' (ix3 b s gi)) - 126#32 := by
  pointwise []
  rfl

theorem rd_scaled : mulf G (broadcast S2x512x12 (Scalar.ofBits .f32 0x3B124925#32)) (ix3 b s gi) = G (ix3 b s gi) * Ideal.ofBits .f32 0x3B124925#32 := by
  pointwise []

theorem rd_up : mulf D (broadcastTo S2x512x12x128 (shapeCast S2x512x12x1 (bitcastToFloat (F := Ideal) .f32 (shli (addi (subi (broadcast S2x512x12 0#32) E) (broadcast S2x512x12 127#32)) (broadcast S2x512x12 23#32))) shapeCasts_S2x512x12_S2x512x12x1) broadcasts_S2x512x12x1_S2x512x12x128) (ix4 b s gi l)
    = D (ix4 b s gi l) * Ideal.ofBits .f32 ((0#32 - E (ix3 b s gi) + 127#32) <<< (23 : ℕ)) := by
  pointwise []
  rfl

theorem rd_codes : shapeCast S1024x1536 (truncf .fp8e4m3 (minimumf (broadcast S2x512x12x128 (Scalar.ofBits .f32 0x43E00000#32)) (maximumf (broadcast S2x512x12x128 (Scalar.ofBits .f32 0xC3E00000#32)) D)) bitsLt_fp8e4m3_f32) shapeCasts_S2x512x12x128_S1024x1536 (ix2 t k)
    = clip (D (ix4 ⟨t / 512, by omega⟩ ⟨t % 512, by omega⟩ ⟨k / 128, by omega⟩ ⟨k % 128, by omega⟩)) := by
  pointwise []
  rfl

theorem rd_scales : k0_pay1 (F := Ideal) (bitcastToFloat (F := Ideal) .f32 (shli (addi E (broadcast S2x512x12 127#32)) (broadcast S2x512x12 23#32))) (ix3 gi b s) = pow2 (E (ix3 b s gi)) := by
  pointwise [k0_pay1]
  rfl

theorem rd_rows : shapeCast S1024x1536 X shapeCasts_S2x512x1536_S1024x1536 (ix2 t k) = X (ix3 ⟨t / 512, by omega⟩ ⟨t % 512, by omega⟩ k) := by
  pointwise []

theorem rd_codeRows : shapeCast S1024x1536 H shapeCasts_S2x512x1536_S1024x1536 (ix2 t k) = H (ix3 ⟨t / 512, by omega⟩ ⟨t % 512, by omega⟩ k) := by
  pointwise []

theorem rd_actRows : shapeCast S1024x4096 Q shapeCasts_S2x512x4096_S1024x4096 (ix2 t j) = Q (ix3 ⟨t / 512, by omega⟩ ⟨t % 512, by omega⟩ j) := by
  pointwise []

theorem rd_flat : shapeCast S2x512 Y shapeCasts_S2x512x1_S2x512 (ix2 b s) = Y (ix3 b s 0) := by
  pointwise []

end Readings

/-! ## The reference's values, row by row -/

/-- The row of token `s` of batch entry `b`, out of the reference's operands. -/
def row (x0 : Vec Ideal S1024x1536 .bf16) (x1 : Vec Ideal S2x512x1536 .fp8e4m3) (x2 : Vec Ideal S2x512 .f32) (x3 : Vec Ideal S2x1536 .f32) (x4 : Vec Ideal S2x1536 .f32) (x5 : Vec Ideal S2x1536 .f32) (x6 : Vec Ideal S1536 .f32) (x7 : Vec Ideal S1536x1536 .fp8e4m3) (x8 : Vec Ideal S1536 .f32) (x9 : Vec Ideal S1536x8192 .fp8e4m3) (x10 : Vec Ideal S8192 .f32) (x11 : Vec Ideal S4096x1536 .fp8e4m3) (x12 : Vec Ideal S1536 .f32) (b : Fin 2) (s : Fin 512) : Row where
  xa k := x0 (ix2 ⟨b * 512 + s, by omega⟩ k)
  o x := x1 (ix3 b s x)
  os := x2 (ix2 b s)
  ga k := x3 (ix2 b k)
  sm k := x4 (ix2 b k)
  gm k := x5 (ix2 b k)
  g k := x6 (ix1 k)
  wo x k := x7 (ix2 x k)
  so k := x8 (ix1 k)
  wgu x j := x9 (ix2 x j)
  sgu j := x10 (ix1 j)
  wd x k := x11 (ix2 x k)
  sd k := x12 (ix1 k)

variable (x0 : Vec Ideal S1024x1536 .bf16) (x1 : Vec Ideal S2x512x1536 .fp8e4m3) (x2 : Vec Ideal S2x512 .f32) (x3 : Vec Ideal S2x1536 .f32) (x4 : Vec Ideal S2x1536 .f32) (x5 : Vec Ideal S2x1536 .f32) (x6 : Vec Ideal S1536 .f32) (x7 : Vec Ideal S1536x1536 .fp8e4m3) (x8 : Vec Ideal S1536 .f32) (x9 : Vec Ideal S1536x8192 .fp8e4m3) (x10 : Vec Ideal S8192 .f32) (x11 : Vec Ideal S4096x1536 .fp8e4m3) (x12 : Vec Ideal S1536 .f32) (x13 : Vec Ideal S4096x1536 .bf16) (x14 : Vec Ideal S4096x1536 .fp8e4m3) (x15 : Vec Ideal S2x2048x12 .f32) (b : Fin 2) (s : Fin 512)

theorem xa_at (k : Fin 1536) : k0_pay27 (F := Ideal) x0 x1 x2 x3 x4 x5 x6 x7 x8 x9 x10 x11 x12 x13 x14 x15 (ix3 b s k) = (row x0 x1 x2 x3 x4 x5 x6 x7 x8 x9 x10 x11 x12 b s).xa k := by
  pointwise [k0_pay27, k0_pay3]
  rfl

theorem x1_at (k : Fin 1536) : k0_pay28 (F := Ideal) x0 x1 x2 x3 x4 x5 x6 x7 x8 x9 x10 x11 x12 x13 x14 x15 (ix3 b s k) = (row x0 x1 x2 x3 x4 x5 x6 x7 x8 x9 x10 x11 x12 b s).x1 k := by
  pointwise [k0_pay28, k0_pay4, k0_pay3]
  rfl

/-- The normalised and modulated rows. -/
abbrev h2 := k0_pay8 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15)

theorem h2_at (k : Fin 1536) : h2 x0 x1 x2 x3 x4 x5 x6 x7 x8 x9 x10 x11 x12 x13 x14 x15 (ix3 b s k) = (row x0 x1 x2 x3 x4 x5 x6 x7 x8 x9 x10 x11 x12 b s).h2 k := by
  have e : k0_pay4 (F := Ideal) (View.ld x0 r0_0) (View.ld x1 r0_1) (View.ld x2 r0_2) (View.ld x7 r0_3) (View.ld x8 r0_4) (View.ld x3 r0_5)
      = k0_pay28 x0 x1 x2 x3 x4 x5 x6 x7 x8 x9 x10 x11 x12 x13 x14 x15 := rfl
  have h := x1_at x0 x1 x2 x3 x4 x5 x6 x7 x8 x9 x10 x11 x12 x13 x14 x15 b s
  unfold h2 k0_pay8 k0_pay29 k0_pay5
  rw [e]
  revert h
  generalize k0_pay28 (F := Ideal) x0 x1 x2 x3 x4 x5 x6 x7 x8 x9 x10 x11 x12 x13 x14 x15 = X
  intro h
  pointwise [k0_pay30, k0_pay31, k0_pay6, k0_pay7]
  simp only [h]
  rfl

theorem ld5 : View.ld x5 r0_5 = x5 := by
  funext i
  idx_vars i
  pointwise []

theorem ld9 : View.ld x9 r0_6 = x9 := by
  funext i
  idx_vars i
  pointwise []

theorem ld10 : View.ld x10 r0_7 = x10 := by
  funext i
  idx_vars i
  pointwise []

theorem ld11 : View.ld x11 r0_8 = x11 := by
  funext i
  idx_vars i
  pointwise []

theorem ld12 : View.ld x12 r0_4 = x12 := by
  funext i
  idx_vars i
  pointwise []

/-- The scales of the normalised rows. -/
theorem hs_at : k0_pay9 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15) (ix3 b s 0) = (row x0 x1 x2 x3 x4 x5 x6 x7 x8 x9 x10 x11 x12 b s).hs := by
  unfold k0_pay9
  exact (rd_scale _ b s).trans (congrArg scaleOf ((rd_col _ b s).trans ((rd_max1536 _ b s).trans (congrArg amax (funext fun k => h2_at x0 x1 x2 x3 x4 x5 x6 x7 x8 x9 x10 x11 x12 x13 x14 x15 b s k)))))

/-- Their codes. -/
theorem hc_at (k : Fin 1536) : k0_pay10 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15) (ix3 b s k) = (row x0 x1 x2 x3 x4 x5 x6 x7 x8 x9 x10 x11 x12 b s).hc k := by
  unfold k0_pay10
  exact (rd_clip1536 _ _ b s k).trans (congrArg clip (congrArg₂ Ideal.div (h2_at x0 x1 x2 x3 x4 x5 x6 x7 x8 x9 x10 x11 x12 x13 x14 x15 b s k) (hs_at x0 x1 x2 x3 x4 x5 x6 x7 x8 x9 x10 x11 x12 x13 x14 x15 b s)))

/-- The gated activations. -/
abbrev act := k0_pay11 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15) (View.ld x9 r0_6) (View.ld x10 r0_7)

theorem act_at (j : Fin 4096) : act x0 x1 x2 x3 x4 x5 x6 x7 x8 x9 x10 x11 x12 x13 x14 x15 (ix3 b s j) = (row x0 x1 x2 x3 x4 x5 x6 x7 x8 x9 x10 x11 x12 b s).act j := by
  have h (i : Fin 8192) := rd_gu (k0_pay9 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15)) (k0_pay10 (F := Ideal) (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15)) b s x9 x10 i
  simp only [hc_at, hs_at] at h
  unfold act k0_pay11
  rw [ld9, ld10]
  refine (rd_glu b s j _).trans ?_
  exact congrArg₂ (· * ·) (congrArg₂ (· * ·) (h _) (congrArg Ideal.logistic (h _))) (h _)

theorem as_at : k0_pay32 (F := Ideal) x0 x1 x2 x3 x4 x5 x6 x7 x8 x9 x10 x11 x12 x13 x14 x15 (ix3 b s 0) = (row x0 x1 x2 x3 x4 x5 x6 x7 x8 x9 x10 x11 x12 b s).asc := by
  unfold k0_pay32 k0_pay12
  exact (rd_scale _ b s).trans (congrArg scaleOf ((rd_col _ b s).trans ((rd_max4096 _ b s).trans (congrArg amax (funext fun k => act_at x0 x1 x2 x3 x4 x5 x6 x7 x8 x9 x10 x11 x12 x13 x14 x15 b s k)))))

theorem quot_at (j : Fin 4096) : k0_pay33 (F := Ideal) x0 x1 x2 x3 x4 x5 x6 x7 x8 x9 x10 x11 x12 x13 x14 x15 (ix3 b s j) = Ideal.div ((row x0 x1 x2 x3 x4 x5 x6 x7 x8 x9 x10 x11 x12 b s).act j) (row x0 x1 x2 x3 x4 x5 x6 x7 x8 x9 x10 x11 x12 b s).asc := by
  unfold k0_pay33 k0_pay13
  exact (rd_div _ _ b s j).trans (congrArg₂ Ideal.div (act_at x0 x1 x2 x3 x4 x5 x6 x7 x8 x9 x10 x11 x12 x13 x14 x15 b s j) (as_at x0 x1 x2 x3 x4 x5 x6 x7 x8 x9 x10 x11 x12 x13 x14 x15 b s))

theorem ac_at (j : Fin 4096) : k0_pay14 (F := Ideal) (k0_pay33 x0 x1 x2 x3 x4 x5 x6 x7 x8 x9 x10 x11 x12 x13 x14 x15) (Scalar.ofBits .f32 0xC3E00000#32) (ix3 b s j) = (row x0 x1 x2 x3 x4 x5 x6 x7 x8 x9 x10 x11 x12 b s).ac j :=
  (rd_clip4096 _ b s j).trans (congrArg clip (quot_at x0 x1 x2 x3 x4 x5 x6 x7 x8 x9 x10 x11 x12 x13 x14 x15 b s j))

/-- The block's output. -/
abbrev out := k0_pay15 (F := Ideal) (k0_pay28 x0 x1 x2 x3 x4 x5 x6 x7 x8 x9 x10 x11 x12 x13 x14 x15) (k0_pay32 x0 x1 x2 x3 x4 x5 x6 x7 x8 x9 x10 x11 x12 x13 x14 x15) (k0_pay33 x0 x1 x2 x3 x4 x5 x6 x7 x8 x9 x10 x11 x12 x13 x14 x15) (Scalar.ofBits .f32 0xC3E00000#32) (View.ld x11 r0_8) (View.ld x12 r0_4) (View.ld x5 r0_5)

theorem x2_at (k : Fin 1536) : out x0 x1 x2 x3 x4 x5 x6 x7 x8 x9 x10 x11 x12 x13 x14 x15 (ix3 b s k) = (row x0 x1 x2 x3 x4 x5 x6 x7 x8 x9 x10 x11 x12 b s).x2 k := by
  have h := rd_x2 (k0_pay28 (F := Ideal) x0 x1 x2 x3 x4 x5 x6 x7 x8 x9 x10 x11 x12 x13 x14 x15) (k0_pay32 x0 x1 x2 x3 x4 x5 x6 x7 x8 x9 x10 x11 x12 x13 x14 x15) (k0_pay14 (k0_pay33 x0 x1 x2 x3 x4 x5 x6 x7 x8 x9 x10 x11 x12 x13 x14 x15) (Scalar.ofBits .f32 0xC3E00000#32)) b s k x5 x11 x12
  simp only [x1_at, as_at, ac_at] at h
  unfold out k0_pay15
  rw [ld5, ld11, ld12]
  exact h

/-- The gain over the residual, group by group. -/
abbrev diff := k0_pay21 (F := Ideal) (k0_pay27 x0 x1 x2 x3 x4 x5 x6 x7 x8 x9 x10 x11 x12 x13 x14 x15) (k0_pay28 x0 x1 x2 x3 x4 x5 x6 x7 x8 x9 x10 x11 x12 x13 x14 x15) (k0_pay32 x0 x1 x2 x3 x4 x5 x6 x7 x8 x9 x10 x11 x12 x13 x14 x15) (k0_pay33 x0 x1 x2 x3 x4 x5 x6 x7 x8 x9 x10 x11 x12 x13 x14 x15) (Scalar.ofBits .f32 0xC3E00000#32) (View.ld x11 r0_8) (View.ld x12 r0_4) (View.ld x5 r0_5)

theorem diff_at (g : Fin 12) (l : Fin 128) : diff x0 x1 x2 x3 x4 x5 x6 x7 x8 x9 x10 x11 x12 x13 x14 x15 (ix4 b s g l) = (row x0 x1 x2 x3 x4 x5 x6 x7 x8 x9 x10 x11 x12 b s).diff ⟨128 * g + l, by omega⟩ := by
  unfold diff k0_pay21
  refine (rd_diff _ b s g l _).trans ((congrArg₂ (· - ·) (x2_at x0 x1 x2 x3 x4 x5 x6 x7 x8 x9 x10 x11 x12 x13 x14 x15 b s _) (xa_at x0 x1 x2 x3 x4 x5 x6 x7 x8 x9 x10 x11 x12 x13 x14 x15 b s _)).trans ?_)
  have e : (⟨g * 128 + l, by omega⟩ : Fin 1536) = ⟨128 * g + l, by omega⟩ := Fin.ext (by show (g : ℕ) * 128 + l = 128 * g + l; omega)
  rw [e]
  rfl

theorem gmax_at (g : Fin 12) : k0_pay34 (F := Ideal) x0 x1 x2 x3 x4 x5 x6 x7 x8 x9 x10 x11 x12 x13 x14 x15 (ix3 b s g) = (row x0 x1 x2 x3 x4 x5 x6 x7 x8 x9 x10 x11 x12 b s).gmax g := by
  unfold k0_pay34 k0_pay22
  exact (rd_max128 _ b s g).trans (congrArg amax (funext fun l => diff_at x0 x1 x2 x3 x4 x5 x6 x7 x8 x9 x10 x11 x12 x13 x14 x15 b s g l))

theorem gexp_at (g : Fin 12) : k0_pay24 (F := Ideal) (k0_pay34 x0 x1 x2 x3 x4 x5 x6 x7 x8 x9 x10 x11 x12 x13 x14 x15) (k0_pay35 x0 x1 x2 x3 x4 x5 x6 x7 x8 x9 x10 x11 x12 x13 x14 x15) (ix3 b s g) = groupExp ((row x0 x1 x2 x3 x4 x5 x6 x7 x8 x9 x10 x11 x12 b s).gmax g) := by
  unfold k0_pay24
  refine (rd_exp _ b s g _).trans ?_
  rw [gmax_at]
  unfold groupExp
  have h := rd_scaled (k0_pay34 (F := Ideal) x0 x1 x2 x3 x4 x5 x6 x7 x8 x9 x10 x11 x12 x13 x14 x15) b s g
  rw [gmax_at] at h
  refine if_congr Iff.rfl rfl (congrArg (fun v : BitVec 32 => v - 126#32) ?_)
  rw [rd_count (mulf (k0_pay34 (F := Ideal) x0 x1 x2 x3 x4 x5 x6 x7 x8 x9 x10 x11 x12 x13 x14 x15) (k0_pay35 (F := Ideal) x0 x1 x2 x3 x4 x5 x6 x7 x8 x9 x10 x11 x12 x13 x14 x15)) b s g, ← h]
  exact count_eq _

/-! ## The eight results -/

theorem y_at (t : Fin 1024) (k : Fin 1536) : k0_pay16 (F := Ideal) (k0_pay28 x0 x1 x2 x3 x4 x5 x6 x7 x8 x9 x10 x11 x12 x13 x14 x15) (k0_pay32 x0 x1 x2 x3 x4 x5 x6 x7 x8 x9 x10 x11 x12 x13 x14 x15) (k0_pay33 x0 x1 x2 x3 x4 x5 x6 x7 x8 x9 x10 x11 x12 x13 x14 x15) (Scalar.ofBits .f32 0xC3E00000#32) (View.ld x11 r0_8) (View.ld x12 r0_4) (View.ld x5 r0_5) (ix2 t k)
    = (row x0 x1 x2 x3 x4 x5 x6 x7 x8 x9 x10 x11 x12 ⟨t / 512, by omega⟩ ⟨t % 512, by omega⟩).x2 k := by
  unfold k0_pay16
  exact (rd_rows _ k t).trans (x2_at x0 x1 x2 x3 x4 x5 x6 x7 x8 x9 x10 x11 x12 x13 x14 x15 _ _ k)

theorem h2_codes_at (t : Fin 1024) (k : Fin 1536) : k0_pay17 (F := Ideal) (k0_pay10 (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15)) (ix2 t k) = (row x0 x1 x2 x3 x4 x5 x6 x7 x8 x9 x10 x11 x12 ⟨t / 512, by omega⟩ ⟨t % 512, by omega⟩).hc k := by
  unfold k0_pay17
  exact (rd_codeRows _ k t).trans (hc_at x0 x1 x2 x3 x4 x5 x6 x7 x8 x9 x10 x11 x12 x13 x14 x15 _ _ k)

theorem h2_scales_at : k0_pay18 (F := Ideal) (k0_pay9 (k0_pay29 x0 x1 x2 x3 x4 x5 x6 x7 x8 x9 x10 x11 x12 x13 x14 x15) (k0_pay30 x0 x1 x2 x3 x4 x5 x6 x7 x8 x9 x10 x11 x12 x13 x14 x15) (k0_pay31 x0 x1 x2 x3 x4 x5 x6 x7 x8 x9 x10 x11 x12 x13 x14 x15)) (ix2 b s) = (row x0 x1 x2 x3 x4 x5 x6 x7 x8 x9 x10 x11 x12 b s).hs := by
  unfold k0_pay18
  exact (rd_flat _ b s).trans (hs_at x0 x1 x2 x3 x4 x5 x6 x7 x8 x9 x10 x11 x12 x13 x14 x15 b s)

theorem a_codes_at (t : Fin 1024) (j : Fin 4096) : k0_pay19 (F := Ideal) (k0_pay33 x0 x1 x2 x3 x4 x5 x6 x7 x8 x9 x10 x11 x12 x13 x14 x15) (Scalar.ofBits .f32 0xC3E00000#32) (ix2 t j) = (row x0 x1 x2 x3 x4 x5 x6 x7 x8 x9 x10 x11 x12 ⟨t / 512, by omega⟩ ⟨t % 512, by omega⟩).ac j := by
  unfold k0_pay19
  exact (rd_actRows _ j t).trans (ac_at x0 x1 x2 x3 x4 x5 x6 x7 x8 x9 x10 x11 x12 x13 x14 x15 _ _ j)

theorem a_scales_at : k0_pay20 (F := Ideal) (k0_pay32 x0 x1 x2 x3 x4 x5 x6 x7 x8 x9 x10 x11 x12 x13 x14 x15) (ix2 b s) = (row x0 x1 x2 x3 x4 x5 x6 x7 x8 x9 x10 x11 x12 b s).asc := by
  unfold k0_pay20
  exact (rd_flat _ b s).trans (as_at x0 x1 x2 x3 x4 x5 x6 x7 x8 x9 x10 x11 x12 x13 x14 x15 b s)

theorem delta_codes_at (t : Fin 1024) (k : Fin 1536) : k0_pay25 (F := Ideal) (diff x0 x1 x2 x3 x4 x5 x6 x7 x8 x9 x10 x11 x12 x13 x14 x15) (k0_pay34 x0 x1 x2 x3 x4 x5 x6 x7 x8 x9 x10 x11 x12 x13 x14 x15) (k0_pay35 x0 x1 x2 x3 x4 x5 x6 x7 x8 x9 x10 x11 x12 x13 x14 x15) (ix2 t k)
    = (row x0 x1 x2 x3 x4 x5 x6 x7 x8 x9 x10 x11 x12 ⟨t / 512, by omega⟩ ⟨t % 512, by omega⟩).ndc k := by
  unfold k0_pay25
  refine (rd_codes _ k t).trans (congrArg clip ((rd_up _ _ _ _ _ _).trans ?_))
  rw [diff_at, gexp_at]
  have e : (⟨128 * (⟨k / 128, by omega⟩ : Fin 12) + (⟨k % 128, by omega⟩ : Fin 128), by simp only; omega⟩ : Fin 1536) = k :=
    Fin.ext (by show 128 * ((k : ℕ) / 128) + k % 128 = k; omega)
  have e' (v : BitVec 32) : 0#32 - v + 127#32 = 127#32 - v := by rw [BitVec.zero_sub, BitVec.add_comm, ← BitVec.sub_eq_add_neg]
  rw [e, e']

theorem delta_scales_at (g : Fin 12) : k0_pay1 (F := Ideal) (k0_pay26 (k0_pay34 x0 x1 x2 x3 x4 x5 x6 x7 x8 x9 x10 x11 x12 x13 x14 x15) (k0_pay35 x0 x1 x2 x3 x4 x5 x6 x7 x8 x9 x10 x11 x12 x13 x14 x15)) (ix3 g b s) = (row x0 x1 x2 x3 x4 x5 x6 x7 x8 x9 x10 x11 x12 b s).nds g := by
  unfold k0_pay26
  exact (rd_scales _ b s g).trans (congrArg pow2 (gexp_at x0 x1 x2 x3 x4 x5 x6 x7 x8 x9 x10 x11 x12 x13 x14 x15 b s g))

theorem skip_at (n : Fin 4096) (k : Fin 1536) : k0_pay2 (F := Ideal) x14 x15 x13 (ix2 n k) = x13 (ix2 n k) + x14 (ix2 n k) * x15 (ix3 ⟨n / 2048, by omega⟩ ⟨n % 2048, by omega⟩ ⟨k / 128, by omega⟩) := by
  pointwise [k0_pay2]

end Cert.ReferenceIdeal.Value
-- ==== Proof.ReferenceResults.lean ====
/- What `ReferenceIdeal` computes: every result array, over the arguments. -/
module

public import proofs.«01_k».proof.Proof.ReferenceValue
public import proofs.«01_k».proof.Proof.ArraySpec
public import Idealize.ShloMosaic.Lib.Claim

@[expose] public section

set_option maxRecDepth 16384

noncomputable section

namespace Cert.ReferenceIdeal.Value

open Idealize Idealize.ShloMosaic Idealize.ShloMosaic.TcCoe Idealize.SL.Sem
open Idealize.ShloMosaic.Pipeline (Dat)
open Cert.ReferenceIdeal Cert.ReferenceIdeal.Gen Cert.Ffn

variable (m : (ℓ : Loc nD τ sig) → Buf (Elt Ideal) ℓ) (ρ : Dev nD → PrngReg) (c : Dev nD)

/-- The arguments, as the run finds them. -/
def args : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

/-- Where the windows' blocks lie. -/
theorem idx : ∀ t : Fin cfg0.N,
    win0_0.index t = ![0, 0] ∧ win0_1.index t = ![0, 0, 0] ∧ win0_2.index t = ![0, 0] ∧ win0_3.index t = ![0, 0] ∧ win0_4.index t = ![0, 0] ∧ win0_5.index t = ![0, 0] ∧ win0_6.index t = ![0] ∧ win0_7.index t = ![0, 0] ∧ win0_8.index t = ![0] ∧ win0_9.index t = ![0, 0] ∧ win0_10.index t = ![0] ∧ win0_11.index t = ![0, 0] ∧ win0_12.index t = ![0] ∧ win0_13.index t = ![0, 0] ∧ win0_14.index t = ![0, 0] ∧ win0_15.index t = ![0, 0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0, 0] :=
  (by decide +kernel : ∀ t : Fin grid0.N, _)

theorem row_eq (b : Fin 2) (s : Fin 512) : row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) b s = (args m c).row b s := by
  unfold row Args.row
  dsimp only [args]
  congr 1
  · funext k; blk_point [iblk, V, idx t0_0]
  · funext k; blk_point [iblk, V, idx t0_0]
  · blk_point [iblk, V, idx t0_0]
  · funext k; blk_point [iblk, V, idx t0_0]
  · funext k; blk_point [iblk, V, idx t0_0]
  · funext k; blk_point [iblk, V, idx t0_0]
  · funext k; blk_point [iblk, V, idx t0_0]
  · funext k k'; blk_point [iblk, V, idx t0_0]
  · funext k; blk_point [iblk, V, idx t0_0]
  · funext k k'; blk_point [iblk, V, idx t0_0]
  · funext k; blk_point [iblk, V, idx t0_0]
  · funext k k'; blk_point [iblk, V, idx t0_0]
  · funext k; blk_point [iblk, V, idx t0_0]

theorem final16 : (dats m 0 c).arrAt 16 (cfgs 0).N = (args m c).y := by
  refine Dat.arrAt_eq_of_after_last _ 16 t0_0 (by decide +kernel) _ fun j => ?_
  blk_simp
  rw [after0_16]
  frame_out
  obtain ⟨t, k, rfl⟩ : ∃ (t : Fin 1024) (k : Fin 1536), j = ix2 t k := ⟨j 0, j 1, eq_ix2 j⟩
  have h := y_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) t k
  simp only [ld5, ld11, ld12, row_eq] at h
  exact h

theorem final17 : (dats m 0 c).arrAt 17 (cfgs 0).N = (args m c).skip := by
  refine Dat.arrAt_eq_of_after_last _ 17 t0_0 (by decide +kernel) _ fun j => ?_
  blk_simp
  rw [after0_17]
  frame_out
  obtain ⟨n, k, rfl⟩ : ∃ (n : Fin 4096) (k : Fin 1536), j = ix2 n k := ⟨j 0, j 1, eq_ix2 j⟩
  refine (skip_at (iblk m c 13 t0_0) (iblk m c 14 t0_0) (iblk m c 15 t0_0) n k).trans ?_
  unfold Args.skip Args.skipAt
  dsimp only [args]
  blk_point [iblk, V, idx t0_0]

theorem final18 : (dats m 0 c).arrAt 18 (cfgs 0).N = (args m c).h2Codes := by
  refine Dat.arrAt_eq_of_after_last _ 18 t0_0 (by decide +kernel) _ fun j => ?_
  blk_simp
  rw [after0_18]
  frame_out
  obtain ⟨t, k, rfl⟩ : ∃ (t : Fin 1024) (k : Fin 1536), j = ix2 t k := ⟨j 0, j 1, eq_ix2 j⟩
  have h := h2_codes_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) t k
  simp only [ld5, ld11, ld12, row_eq] at h
  exact h

theorem final19 : (dats m 0 c).arrAt 19 (cfgs 0).N = (args m c).h2Scales := by
  refine Dat.arrAt_eq_of_after_last _ 19 t0_0 (by decide +kernel) _ fun j => ?_
  blk_simp
  rw [after0_19]
  frame_out
  obtain ⟨b, s, rfl⟩ : ∃ (b : Fin 2) (s : Fin 512), j = ix2 b s := ⟨j 0, j 1, eq_ix2 j⟩
  have h := h2_scales_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) b s
  rw [row_eq] at h
  exact h

theorem final20 : (dats m 0 c).arrAt 20 (cfgs 0).N = (args m c).aCodes := by
  refine Dat.arrAt_eq_of_after_last _ 20 t0_0 (by decide +kernel) _ fun j => ?_
  blk_simp
  rw [after0_20]
  frame_out
  obtain ⟨t, k, rfl⟩ : ∃ (t : Fin 1024) (k : Fin 4096), j = ix2 t k := ⟨j 0, j 1, eq_ix2 j⟩
  have h := a_codes_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) t k
  simp only [ld5, ld11, ld12, row_eq] at h
  exact h

theorem final21 : (dats m 0 c).arrAt 21 (cfgs 0).N = (args m c).aScales := by
  refine Dat.arrAt_eq_of_after_last _ 21 t0_0 (by decide +kernel) _ fun j => ?_
  blk_simp
  rw [after0_21]
  frame_out
  obtain ⟨b, s, rfl⟩ : ∃ (b : Fin 2) (s : Fin 512), j = ix2 b s := ⟨j 0, j 1, eq_ix2 j⟩
  have h := a_scales_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) b s
  rw [row_eq] at h
  exact h

theorem final22 : (dats m 0 c).arrAt 22 (cfgs 0).N = (args m c).deltaCodes := by
  refine Dat.arrAt_eq_of_after_last _ 22 t0_0 (by decide +kernel) _ fun j => ?_
  blk_simp
  rw [after0_22]
  frame_out
  obtain ⟨t, k, rfl⟩ : ∃ (t : Fin 1024) (k : Fin 1536), j = ix2 t k := ⟨j 0, j 1, eq_ix2 j⟩
  have h := delta_codes_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) t k
  simp only [diff, ld5, ld11, ld12, row_eq] at h
  exact h

theorem final23 : (dats m 0 c).arrAt 23 (cfgs 0).N = (args m c).deltaScales := by
  refine Dat.arrAt_eq_of_after_last _ 23 t0_0 (by decide +kernel) _ fun j => ?_
  blk_simp
  rw [after0_23]
  frame_out
  obtain ⟨g, b, s, rfl⟩ : ∃ (g : Fin 12) (b : Fin 2) (s : Fin 512), j = ix3 g b s := ⟨j 0, j 1, j 2, eq_ix3 j⟩
  have h := delta_scales_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) b s g
  rw [row_eq] at h
  exact h

/-- Every run ends with the result arrays over the arguments. -/
theorem results : θ_run defs (onTc (τ := τ) (main (F := Ideal))) (s₀ m ρ) (fun r => ∀ c : Dev nD,
      r.2.mem ((c.tc : Thread nD τ).loc main_v4_0) = (args m c).y
      ∧ r.2.mem ((c.tc : Thread nD τ).loc main_v4_1) = (args m c).skip
      ∧ r.2.mem ((c.tc : Thread nD τ).loc main_v4_2) = (args m c).h2Codes
      ∧ r.2.mem ((c.tc : Thread nD τ).loc main_v4_3) = (args m c).h2Scales
      ∧ r.2.mem ((c.tc : Thread nD τ).loc main_v4_4) = (args m c).aCodes
      ∧ r.2.mem ((c.tc : Thread nD τ).loc main_v4_5) = (args m c).aScales
      ∧ r.2.mem ((c.tc : Thread nD τ).loc main_v4_6) = (args m c).deltaCodes
      ∧ r.2.mem ((c.tc : Thread nD τ).loc main_v4_7) = (args m c).deltaScales) :=
  (θ_run defs _ _).mono (fun _ h c =>
    ⟨((h c).1 16).trans (final16 m c), ((h c).1 17).trans (final17 m c), ((h c).1 18).trans (final18 m c), ((h c).1 19).trans (final19 m c),
      ((h c).1 20).trans (final20 m c), ((h c).1 21).trans (final21 m c), ((h c).1 22).trans (final22 m c), ((h c).1 23).trans (final23 m c)⟩) (run_main m ρ)

end Cert.ReferenceIdeal.Value
-- ==== Proof.AttentionBody.lean ====
/- One run of the body of `Attention`: what one run of
   the body does to its buffers, in each of the three cases of its two conditionals. -/
module

public import proofs.«01_k».proof.Proof.Gen.Attention.Frame
public import proofs.«01_k».proof.Proof.Gen.Attention.Skeleton

@[expose] public section

-- membership in a rectangle of production extents: the elaborator's structural look recurses once per coordinate of the long axes
set_option maxRecDepth 16384

noncomputable section

namespace Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No point is the first head's and the last head's. -/
theorem not_both : ∀ i : grid0.Coords, k0_cond1 i = 1#1 → ¬ k0_cond2 i = 1#1 := by decide +kernel

/-! ## The staging buffers and the scratch -/

abbrev ms0_0 (t : Fin cfg0.N) : Memref sig .tc .vmem S2x512 .i32 := win0_0.stage (cfg0.slots t 0)
abbrev ms0_1 (t : Fin cfg0.N) : Memref sig .tc .vmem S2x2048 .i32 := win0_1.stage (cfg0.slots t 1)
abbrev ms0_2 (t : Fin cfg0.N) : Memref sig .tc .vmem S1x192x512 .bf16 := win0_2.stage (cfg0.slots t 2)
abbrev ms0_3 (t : Fin cfg0.N) : Memref sig .tc .vmem S1x512x512 .fp8e4m3 := win0_3.stage (cfg0.slots t 3)
abbrev ms0_4 (t : Fin cfg0.N) : Memref sig .tc .vmem S1x8x512 .f32 := win0_4.stage (cfg0.slots t 4)
abbrev ms0_5 (t : Fin cfg0.N) : Memref sig .tc .vmem S1x512x512 .fp8e4m3 := win0_5.stage (cfg0.slots t 5)
abbrev ms0_6 (t : Fin cfg0.N) : Memref sig .tc .vmem S1x8x512 .f32 := win0_6.stage (cfg0.slots t 6)
abbrev ms0_7 (t : Fin cfg0.N) : Memref sig .tc .vmem S1x512x2048 .fp8e4m3 := win0_7.stage (cfg0.slots t 7)
abbrev ms0_8 (t : Fin cfg0.N) : Memref sig .tc .vmem S1x8x2048 .f32 := win0_8.stage (cfg0.slots t 8)
abbrev ms0_9 (t : Fin cfg0.N) : Memref sig .tc .vmem S1x512x2048 .fp8e4m3 := win0_9.stage (cfg0.slots t 9)
abbrev ms0_10 (t : Fin cfg0.N) : Memref sig .tc .vmem S1x8x2048 .f32 := win0_10.stage (cfg0.slots t 10)
abbrev ms0_11 (t : Fin cfg0.N) : Memref sig .tc .vmem S1x1536x512 .fp8e4m3 := win0_11.stage (cfg0.slots t 11)
abbrev ms0_12 (t : Fin cfg0.N) : Memref sig .tc .vmem S2x512 .f32 := win0_12.stage (cfg0.slots t 12)
abbrev scM0_0 : Memref sig .tc .vmem S8x2048x64 .bf16 := Memref.whole cc0_scratch0
abbrev scM0_1 : Memref sig .tc .vmem S512x2048 .bf16 := Memref.whole cc0_scratch1
abbrev scM0_2 : Memref sig .tc .vmem S16x2048 .f32 := Memref.whole cc0_scratch2
abbrev scM0_3 : Memref sig .tc .vmem S2048x128 .f32 := Memref.whole cc0_scratch3
abbrev scM0_4 : Memref sig .tc .vmem S2048x128 .f32 := Memref.whole cc0_scratch4
abbrev scM0_5 : Memref sig .tc .vmem S2048x256 .f32 := Memref.whole cc0_scratch5
abbrev scM0_6 : Memref sig .tc .vmem S1536x512 .f32 := Memref.whole cc0_scratch6

/-- The invariant, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

-- the run's proof term is large: checking it walks past the default budget
set_option maxHeartbeats 8000000 in
/-- The body's triple at the points of the case `First`: the inputs' buffers come back as they were, the others at some contents. -/
theorem runFirst (c : Dev nD) (i : grid0.Coords) (h1 : k0_cond1 i = 1#1) (h2 : ¬ k0_cond2 i = 1#1) (arg2 : Memref sig .tc .vmem S2x512 .i32) (harg2 : arg2.IsWhole) (arg3 : Memref sig .tc .vmem S2x2048 .i32) (harg3 : arg3.IsWhole) (arg4 : Memref sig .tc .vmem S1x192x512 .bf16) (harg4 : arg4.IsWhole) (arg5 : Memref sig .tc .vmem S1x512x512 .fp8e4m3) (harg5 : arg5.IsWhole) (arg6 : Memref sig .tc .vmem S1x8x512 .f32) (harg6 : arg6.IsWhole) (arg7 : Memref sig .tc .vmem S1x512x512 .fp8e4m3) (harg7 : arg7.IsWhole) (arg8 : Memref sig .tc .vmem S1x8x512 .f32) (harg8 : arg8.IsWhole) (arg9 : Memref sig .tc .vmem S1x512x2048 .fp8e4m3) (harg9 : arg9.IsWhole) (arg10 : Memref sig .tc .vmem S1x8x2048 .f32) (harg10 : arg10.IsWhole) (arg11 : Memref sig .tc .vmem S1x512x2048 .fp8e4m3) (harg11 : arg11.IsWhole) (arg12 : Memref sig .tc .vmem S1x8x2048 .f32) (harg12 : arg12.IsWhole) (arg13 : Memref sig .tc .vmem S1x1536x512 .fp8e4m3) (harg13 : arg13.IsWhole) (arg14 : Memref sig .tc .vmem S2x512 .f32) (harg14 : arg14.IsWhole) (arg15 : Memref sig .tc .vmem S8x2048x64 .bf16) (harg15 : arg15.IsWhole) (arg16 : Memref sig .tc .vmem S512x2048 .bf16) (harg16 : arg16.IsWhole) (arg17 : Memref sig .tc .vmem S16x2048 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x256 .f32) (harg20 : arg20.IsWhole) (arg21 : Memref sig .tc .vmem S1536x512 .f32) (harg21 : arg21.IsWhole)
    (x0 : Vec F S2x512 .i32) (x1 : Vec F S2x2048 .i32) (x2 : Vec F S1x192x512 .bf16) (x3 : Vec F S1x512x512 .fp8e4m3) (x4 : Vec F S1x8x512 .f32) (x5 : Vec F S1x512x512 .fp8e4m3) (x6 : Vec F S1x8x512 .f32) (x7 : Vec F S1x512x2048 .fp8e4m3) (x8 : Vec F S1x8x2048 .f32) (x9 : Vec F S1x512x2048 .fp8e4m3) (x10 : Vec F S1x8x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

-- the run's proof term is large: checking it walks past the default budget
set_option maxHeartbeats 8000000 in
/-- The body's triple at the points of the case `Middle`: the inputs' buffers come back as they were, the others at some contents. -/
theorem runMiddle (c : Dev nD) (i : grid0.Coords) (h1 : ¬ k0_cond1 i = 1#1) (h2 : ¬ k0_cond2 i = 1#1) (arg2 : Memref sig .tc .vmem S2x512 .i32) (harg2 : arg2.IsWhole) (arg3 : Memref sig .tc .vmem S2x2048 .i32) (harg3 : arg3.IsWhole) (arg4 : Memref sig .tc .vmem S1x192x512 .bf16) (harg4 : arg4.IsWhole) (arg5 : Memref sig .tc .vmem S1x512x512 .fp8e4m3) (harg5 : arg5.IsWhole) (arg6 : Memref sig .tc .vmem S1x8x512 .f32) (harg6 : arg6.IsWhole) (arg7 : Memref sig .tc .vmem S1x512x512 .fp8e4m3) (harg7 : arg7.IsWhole) (arg8 : Memref sig .tc .vmem S1x8x512 .f32) (harg8 : arg8.IsWhole) (arg9 : Memref sig .tc .vmem S1x512x2048 .fp8e4m3) (harg9 : arg9.IsWhole) (arg10 : Memref sig .tc .vmem S1x8x2048 .f32) (harg10 : arg10.IsWhole) (arg11 : Memref sig .tc .vmem S1x512x2048 .fp8e4m3) (harg11 : arg11.IsWhole) (arg12 : Memref sig .tc .vmem S1x8x2048 .f32) (harg12 : arg12.IsWhole) (arg13 : Memref sig .tc .vmem S1x1536x512 .fp8e4m3) (harg13 : arg13.IsWhole) (arg14 : Memref sig .tc .vmem S2x512 .f32) (harg14 : arg14.IsWhole) (arg15 : Memref sig .tc .vmem S8x2048x64 .bf16) (harg15 : arg15.IsWhole) (arg16 : Memref sig .tc .vmem S512x2048 .bf16) (harg16 : arg16.IsWhole) (arg17 : Memref sig .tc .vmem S16x2048 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x256 .f32) (harg20 : arg20.IsWhole) (arg21 : Memref sig .tc .vmem S1536x512 .f32) (harg21 : arg21.IsWhole)
    (x0 : Vec F S2x512 .i32) (x1 : Vec F S2x2048 .i32) (x2 : Vec F S1x192x512 .bf16) (x3 : Vec F S1x512x512 .fp8e4m3) (x4 : Vec F S1x8x512 .f32) (x5 : Vec F S1x512x512 .fp8e4m3) (x6 : Vec F S1x8x512 .f32) (x7 : Vec F S1x512x2048 .fp8e4m3) (x8 : Vec F S1x8x2048 .f32) (x9 : Vec F S1x512x2048 .fp8e4m3) (x10 : Vec F S1x8x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

-- the run's proof term is large: checking it walks past the default budget
set_option maxHeartbeats 8000000 in
/-- The body's triple at the points of the case `Last`: the inputs' buffers come back as they were, the others at some contents. -/
theorem runLast (c : Dev nD) (i : grid0.Coords) (h1 : ¬ k0_cond1 i = 1#1) (h2 : k0_cond2 i = 1#1) (arg2 : Memref sig .tc .vmem S2x512 .i32) (harg2 : arg2.IsWhole) (arg3 : Memref sig .tc .vmem S2x2048 .i32) (harg3 : arg3.IsWhole) (arg4 : Memref sig .tc .vmem S1x192x512 .bf16) (harg4 : arg4.IsWhole) (arg5 : Memref sig .tc .vmem S1x512x512 .fp8e4m3) (harg5 : arg5.IsWhole) (arg6 : Memref sig .tc .vmem S1x8x512 .f32) (harg6 : arg6.IsWhole) (arg7 : Memref sig .tc .vmem S1x512x512 .fp8e4m3) (harg7 : arg7.IsWhole) (arg8 : Memref sig .tc .vmem S1x8x512 .f32) (harg8 : arg8.IsWhole) (arg9 : Memref sig .tc .vmem S1x512x2048 .fp8e4m3) (harg9 : arg9.IsWhole) (arg10 : Memref sig .tc .vmem S1x8x2048 .f32) (harg10 : arg10.IsWhole) (arg11 : Memref sig .tc .vmem S1x512x2048 .fp8e4m3) (harg11 : arg11.IsWhole) (arg12 : Memref sig .tc .vmem S1x8x2048 .f32) (harg12 : arg12.IsWhole) (arg13 : Memref sig .tc .vmem S1x1536x512 .fp8e4m3) (harg13 : arg13.IsWhole) (arg14 : Memref sig .tc .vmem S2x512 .f32) (harg14 : arg14.IsWhole) (arg15 : Memref sig .tc .vmem S8x2048x64 .bf16) (harg15 : arg15.IsWhole) (arg16 : Memref sig .tc .vmem S512x2048 .bf16) (harg16 : arg16.IsWhole) (arg17 : Memref sig .tc .vmem S16x2048 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x256 .f32) (harg20 : arg20.IsWhole) (arg21 : Memref sig .tc .vmem S1536x512 .f32) (harg21 : arg21.IsWhole)
    (x0 : Vec F S2x512 .i32) (x1 : Vec F S2x2048 .i32) (x2 : Vec F S1x192x512 .bf16) (x3 : Vec F S1x512x512 .fp8e4m3) (x4 : Vec F S1x8x512 .f32) (x5 : Vec F S1x512x512 .fp8e4m3) (x6 : Vec F S1x8x512 .f32) (x7 : Vec F S1x512x2048 .fp8e4m3) (x8 : Vec F S1x8x2048 .f32) (x9 : Vec F S1x512x2048 .fp8e4m3) (x10 : Vec F S1x8x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.Attention.Gen

end
-- ==== Proof.AttentionFrame.lean ====
/- The frame of `Attention`: from any memory it runs to the end, its argument arrays unchanged, every semaphore back at zero.
  Nothing is said here of what it leaves in its results. -/
module

public import proofs.«01_k».proof.Proof.AttentionBody
public import Idealize.ShloMosaic.Lib.Claim

@[expose] public section

-- membership in a rectangle of production extents: the elaborator's structural look recurses once per coordinate of the long axes
set_option maxRecDepth 16384

noncomputable section

namespace Cert.Attention.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows whose contents are not named here. -/
def forgets0 : Fin 13 → Bool := fun w => w.val == 11 || w.val == 12

/-- The proof data of the one pipeline on core `c`: the inputs' buffers hold their blocks throughout, the outputs' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨_ + 13, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d))

set_option maxHeartbeats 4000000 in
/-- The body at any point, by the case of its conditionals. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h1 : k0_cond1 (grid0.coords t) = 1#1
  · iapply ((runFirst c (grid0.coords t) h1 (not_both _ h1) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, H12, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h2 : k0_cond2 (grid0.coords t) = 1#1
    · iapply ((runLast c (grid0.coords t) h1 h2 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iapply ((runMiddle c (grid0.coords t) h1 h2 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The argument arrays are as launched, from a run that names what its staged inputs hold. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

-- `θ_run_frame_forget`'s implicit arguments are found by unifying its conclusion with this one, which takes unfolding plain
-- definitions in a metavariable's type
set_option backward.isDefEq.respectTransparency.types false in
/-- The launch, with every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of_rel m ρ (fun c => (dats m 0 c).toRForget forgets0) (A_eq m)
    ((θ_run defs _ _).mono (fun _ h => h.1) (run_main_quiescent m ρ))) ((θ_run defs _ _).mono (fun _ h => h.2) (run_main_quiescent m ρ))

end Cert.Attention.Gen

end
-- ==== Proof.AttentionIdealBody.lean ====
/- One run of the body of `AttentionIdeal`: what one run of
   the body does to its buffers, in each of the three cases of its two conditionals. -/
module

public import proofs.«01_k».proof.Proof.Gen.AttentionIdeal.Frame
public import proofs.«01_k».proof.Proof.Gen.AttentionIdeal.Skeleton

@[expose] public section

-- membership in a rectangle of production extents: the elaborator's structural look recurses once per coordinate of the long axes
set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No point is the first head's and the last head's. -/
theorem not_both : ∀ i : grid0.Coords, k0_cond1 i = 1#1 → ¬ k0_cond2 i = 1#1 := by decide +kernel

/-! ## The staging buffers and the scratch -/

abbrev ms0_0 (t : Fin cfg0.N) : Memref sig .tc .vmem S2x512 .i32 := win0_0.stage (cfg0.slots t 0)
abbrev ms0_1 (t : Fin cfg0.N) : Memref sig .tc .vmem S2x2048 .i32 := win0_1.stage (cfg0.slots t 1)
abbrev ms0_2 (t : Fin cfg0.N) : Memref sig .tc .vmem S1x192x512 .bf16 := win0_2.stage (cfg0.slots t 2)
abbrev ms0_3 (t : Fin cfg0.N) : Memref sig .tc .vmem S1x512x512 .fp8e4m3 := win0_3.stage (cfg0.slots t 3)
abbrev ms0_4 (t : Fin cfg0.N) : Memref sig .tc .vmem S1x8x512 .f32 := win0_4.stage (cfg0.slots t 4)
abbrev ms0_5 (t : Fin cfg0.N) : Memref sig .tc .vmem S1x512x512 .fp8e4m3 := win0_5.stage (cfg0.slots t 5)
abbrev ms0_6 (t : Fin cfg0.N) : Memref sig .tc .vmem S1x8x512 .f32 := win0_6.stage (cfg0.slots t 6)
abbrev ms0_7 (t : Fin cfg0.N) : Memref sig .tc .vmem S1x512x2048 .fp8e4m3 := win0_7.stage (cfg0.slots t 7)
abbrev ms0_8 (t : Fin cfg0.N) : Memref sig .tc .vmem S1x8x2048 .f32 := win0_8.stage (cfg0.slots t 8)
abbrev ms0_9 (t : Fin cfg0.N) : Memref sig .tc .vmem S1x512x2048 .fp8e4m3 := win0_9.stage (cfg0.slots t 9)
abbrev ms0_10 (t : Fin cfg0.N) : Memref sig .tc .vmem S1x8x2048 .f32 := win0_10.stage (cfg0.slots t 10)
abbrev ms0_11 (t : Fin cfg0.N) : Memref sig .tc .vmem S1x1536x512 .fp8e4m3 := win0_11.stage (cfg0.slots t 11)
abbrev ms0_12 (t : Fin cfg0.N) : Memref sig .tc .vmem S2x512 .f32 := win0_12.stage (cfg0.slots t 12)
abbrev scM0_0 : Memref sig .tc .vmem S8x2048x64 .bf16 := Memref.whole cc0_scratch0
abbrev scM0_1 : Memref sig .tc .vmem S512x2048 .bf16 := Memref.whole cc0_scratch1
abbrev scM0_2 : Memref sig .tc .vmem S16x2048 .f32 := Memref.whole cc0_scratch2
abbrev scM0_3 : Memref sig .tc .vmem S2048x128 .f32 := Memref.whole cc0_scratch3
abbrev scM0_4 : Memref sig .tc .vmem S2048x128 .f32 := Memref.whole cc0_scratch4
abbrev scM0_5 : Memref sig .tc .vmem S2048x256 .f32 := Memref.whole cc0_scratch5
abbrev scM0_6 : Memref sig .tc .vmem S1536x512 .f32 := Memref.whole cc0_scratch6

/-- The invariant, with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

-- the run's proof term is large: checking it walks past the default budget
set_option maxHeartbeats 8000000 in
/-- The body's triple at the points of the case `First`: the inputs' buffers come back as they were, the others at some contents. -/
theorem runFirst (c : Dev nD) (i : grid0.Coords) (h1 : k0_cond1 i = 1#1) (h2 : ¬ k0_cond2 i = 1#1) (arg2 : Memref sig .tc .vmem S2x512 .i32) (harg2 : arg2.IsWhole) (arg3 : Memref sig .tc .vmem S2x2048 .i32) (harg3 : arg3.IsWhole) (arg4 : Memref sig .tc .vmem S1x192x512 .bf16) (harg4 : arg4.IsWhole) (arg5 : Memref sig .tc .vmem S1x512x512 .fp8e4m3) (harg5 : arg5.IsWhole) (arg6 : Memref sig .tc .vmem S1x8x512 .f32) (harg6 : arg6.IsWhole) (arg7 : Memref sig .tc .vmem S1x512x512 .fp8e4m3) (harg7 : arg7.IsWhole) (arg8 : Memref sig .tc .vmem S1x8x512 .f32) (harg8 : arg8.IsWhole) (arg9 : Memref sig .tc .vmem S1x512x2048 .fp8e4m3) (harg9 : arg9.IsWhole) (arg10 : Memref sig .tc .vmem S1x8x2048 .f32) (harg10 : arg10.IsWhole) (arg11 : Memref sig .tc .vmem S1x512x2048 .fp8e4m3) (harg11 : arg11.IsWhole) (arg12 : Memref sig .tc .vmem S1x8x2048 .f32) (harg12 : arg12.IsWhole) (arg13 : Memref sig .tc .vmem S1x1536x512 .fp8e4m3) (harg13 : arg13.IsWhole) (arg14 : Memref sig .tc .vmem S2x512 .f32) (harg14 : arg14.IsWhole) (arg15 : Memref sig .tc .vmem S8x2048x64 .bf16) (harg15 : arg15.IsWhole) (arg16 : Memref sig .tc .vmem S512x2048 .bf16) (harg16 : arg16.IsWhole) (arg17 : Memref sig .tc .vmem S16x2048 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x256 .f32) (harg20 : arg20.IsWhole) (arg21 : Memref sig .tc .vmem S1536x512 .f32) (harg21 : arg21.IsWhole)
    (x0 : Vec F S2x512 .i32) (x1 : Vec F S2x2048 .i32) (x2 : Vec F S1x192x512 .bf16) (x3 : Vec F S1x512x512 .fp8e4m3) (x4 : Vec F S1x8x512 .f32) (x5 : Vec F S1x512x512 .fp8e4m3) (x6 : Vec F S1x8x512 .f32) (x7 : Vec F S1x512x2048 .fp8e4m3) (x8 : Vec F S1x8x2048 .f32) (x9 : Vec F S1x512x2048 .fp8e4m3) (x10 : Vec F S1x8x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

-- the run's proof term is large: checking it walks past the default budget
set_option maxHeartbeats 8000000 in
/-- The body's triple at the points of the case `Middle`: the inputs' buffers come back as they were, the others at some contents. -/
theorem runMiddle (c : Dev nD) (i : grid0.Coords) (h1 : ¬ k0_cond1 i = 1#1) (h2 : ¬ k0_cond2 i = 1#1) (arg2 : Memref sig .tc .vmem S2x512 .i32) (harg2 : arg2.IsWhole) (arg3 : Memref sig .tc .vmem S2x2048 .i32) (harg3 : arg3.IsWhole) (arg4 : Memref sig .tc .vmem S1x192x512 .bf16) (harg4 : arg4.IsWhole) (arg5 : Memref sig .tc .vmem S1x512x512 .fp8e4m3) (harg5 : arg5.IsWhole) (arg6 : Memref sig .tc .vmem S1x8x512 .f32) (harg6 : arg6.IsWhole) (arg7 : Memref sig .tc .vmem S1x512x512 .fp8e4m3) (harg7 : arg7.IsWhole) (arg8 : Memref sig .tc .vmem S1x8x512 .f32) (harg8 : arg8.IsWhole) (arg9 : Memref sig .tc .vmem S1x512x2048 .fp8e4m3) (harg9 : arg9.IsWhole) (arg10 : Memref sig .tc .vmem S1x8x2048 .f32) (harg10 : arg10.IsWhole) (arg11 : Memref sig .tc .vmem S1x512x2048 .fp8e4m3) (harg11 : arg11.IsWhole) (arg12 : Memref sig .tc .vmem S1x8x2048 .f32) (harg12 : arg12.IsWhole) (arg13 : Memref sig .tc .vmem S1x1536x512 .fp8e4m3) (harg13 : arg13.IsWhole) (arg14 : Memref sig .tc .vmem S2x512 .f32) (harg14 : arg14.IsWhole) (arg15 : Memref sig .tc .vmem S8x2048x64 .bf16) (harg15 : arg15.IsWhole) (arg16 : Memref sig .tc .vmem S512x2048 .bf16) (harg16 : arg16.IsWhole) (arg17 : Memref sig .tc .vmem S16x2048 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x256 .f32) (harg20 : arg20.IsWhole) (arg21 : Memref sig .tc .vmem S1536x512 .f32) (harg21 : arg21.IsWhole)
    (x0 : Vec F S2x512 .i32) (x1 : Vec F S2x2048 .i32) (x2 : Vec F S1x192x512 .bf16) (x3 : Vec F S1x512x512 .fp8e4m3) (x4 : Vec F S1x8x512 .f32) (x5 : Vec F S1x512x512 .fp8e4m3) (x6 : Vec F S1x8x512 .f32) (x7 : Vec F S1x512x2048 .fp8e4m3) (x8 : Vec F S1x8x2048 .f32) (x9 : Vec F S1x512x2048 .fp8e4m3) (x10 : Vec F S1x8x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

-- the run's proof term is large: checking it walks past the default budget
set_option maxHeartbeats 8000000 in
/-- The body's triple at the points of the case `Last`: the inputs' buffers come back as they were, the others at some contents. -/
theorem runLast (c : Dev nD) (i : grid0.Coords) (h1 : ¬ k0_cond1 i = 1#1) (h2 : k0_cond2 i = 1#1) (arg2 : Memref sig .tc .vmem S2x512 .i32) (harg2 : arg2.IsWhole) (arg3 : Memref sig .tc .vmem S2x2048 .i32) (harg3 : arg3.IsWhole) (arg4 : Memref sig .tc .vmem S1x192x512 .bf16) (harg4 : arg4.IsWhole) (arg5 : Memref sig .tc .vmem S1x512x512 .fp8e4m3) (harg5 : arg5.IsWhole) (arg6 : Memref sig .tc .vmem S1x8x512 .f32) (harg6 : arg6.IsWhole) (arg7 : Memref sig .tc .vmem S1x512x512 .fp8e4m3) (harg7 : arg7.IsWhole) (arg8 : Memref sig .tc .vmem S1x8x512 .f32) (harg8 : arg8.IsWhole) (arg9 : Memref sig .tc .vmem S1x512x2048 .fp8e4m3) (harg9 : arg9.IsWhole) (arg10 : Memref sig .tc .vmem S1x8x2048 .f32) (harg10 : arg10.IsWhole) (arg11 : Memref sig .tc .vmem S1x512x2048 .fp8e4m3) (harg11 : arg11.IsWhole) (arg12 : Memref sig .tc .vmem S1x8x2048 .f32) (harg12 : arg12.IsWhole) (arg13 : Memref sig .tc .vmem S1x1536x512 .fp8e4m3) (harg13 : arg13.IsWhole) (arg14 : Memref sig .tc .vmem S2x512 .f32) (harg14 : arg14.IsWhole) (arg15 : Memref sig .tc .vmem S8x2048x64 .bf16) (harg15 : arg15.IsWhole) (arg16 : Memref sig .tc .vmem S512x2048 .bf16) (harg16 : arg16.IsWhole) (arg17 : Memref sig .tc .vmem S16x2048 .f32) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x256 .f32) (harg20 : arg20.IsWhole) (arg21 : Memref sig .tc .vmem S1536x512 .f32) (harg21 : arg21.IsWhole)
    (x0 : Vec F S2x512 .i32) (x1 : Vec F S2x2048 .i32) (x2 : Vec F S1x192x512 .bf16) (x3 : Vec F S1x512x512 .fp8e4m3) (x4 : Vec F S1x8x512 .f32) (x5 : Vec F S1x512x512 .fp8e4m3) (x6 : Vec F S1x8x512 .f32) (x7 : Vec F S1x512x2048 .fp8e4m3) (x8 : Vec F S1x8x2048 .f32) (x9 : Vec F S1x512x2048 .fp8e4m3) (x10 : Vec F S1x8x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_eq_skeleton]; unfold cc0_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.AttentionIdeal.Gen

end
-- ==== Proof.AttentionIdealFrame.lean ====
/- The frame of `AttentionIdeal`: from any memory it runs to the end, its argument arrays unchanged, every semaphore back at zero.
  Nothing is said here of what it leaves in its results. -/
module

public import proofs.«01_k».proof.Proof.AttentionIdealBody
public import Idealize.ShloMosaic.Lib.Claim

@[expose] public section

-- membership in a rectangle of production extents: the elaborator's structural look recurses once per coordinate of the long axes
set_option maxRecDepth 16384

noncomputable section

namespace Cert.AttentionIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows whose contents are not named here. -/
def forgets0 : Fin 13 → Bool := fun w => w.val == 11 || w.val == 12

/-- The proof data of the one pipeline on core `c`: the inputs' buffers hold their blocks throughout, the outputs' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨_ + 13, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d))

set_option maxHeartbeats 4000000 in
/-- The body at any point, by the case of its conditionals. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases h1 : k0_cond1 (grid0.coords t) = 1#1
  · iapply ((runFirst c (grid0.coords t) h1 (not_both _ h1) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, H12, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h2 : k0_cond2 (grid0.coords t) = 1#1
    · iapply ((runLast c (grid0.coords t) h1 h2 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iapply ((runMiddle c (grid0.coords t) h1 h2 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The argument arrays are as launched, from a run that names what its staged inputs hold. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

-- `θ_run_frame_forget`'s implicit arguments are found by unifying its conclusion with this one, which takes unfolding plain
-- definitions in a metavariable's type
set_option backward.isDefEq.respectTransparency.types false in
/-- The launch, with every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of_rel m ρ (fun c => (dats m 0 c).toRForget forgets0) (A_eq m)
    ((θ_run defs _ _).mono (fun _ h => h.1) (run_main_quiescent m ρ))) ((θ_run defs _ _).mono (fun _ h => h.2) (run_main_quiescent m ρ))

end Cert.AttentionIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelResults
public import proofs.«01_k».proof.Proof.ReferenceResults
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.AttentionFrame
public import proofs.«01_k».proof.Proof.AttentionIdealFrame
public import Idealize.ShloMosaic.Adequacy
public import Idealize.ShloMosaic.Init

@[expose] public section

noncomputable section

namespace Cert.Proof

open Idealize.ShloMosaic Idealize.SL.Sem Cert.Kernel

/-- Arguments that agree are the same record. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.args m' c = Cert.KernelIdeal.Value.args m c := by
  obtain ⟨h0, h1, h2, h3, h4, h5, h6, h7, h8, h9, h10, h11, h12, h13, h14, h15⟩ := h
  unfold Cert.ReferenceIdeal.Value.args Cert.KernelIdeal.Value.args
  exact Cert.Ffn.Args.ext h0 h1 h2 h3 h4 h5 h6 h7 h8 h9 h10 h11 h12 h13 h14 h15

/-- Kernel and reference, over the extended reals, end with the same eight arrays: those of `Cert.Ffn.Args`. -/
theorem algebraic : Cert.algebraic_KernelIdeal_ReferenceIdeal := by
  intro m ρ m' ρ' _ hagree
  refine ⟨fun c => (Cert.KernelIdeal.Value.args m c).y, fun c => (Cert.KernelIdeal.Value.args m c).skip,
    fun c => (Cert.KernelIdeal.Value.args m c).h2Codes, fun c => (Cert.KernelIdeal.Value.args m c).h2Scales,
    fun c => (Cert.KernelIdeal.Value.args m c).aCodes, fun c => (Cert.KernelIdeal.Value.args m c).aScales,
    fun c => (Cert.KernelIdeal.Value.args m c).deltaCodes, fun c => (Cert.KernelIdeal.Value.args m c).deltaScales, ?_, ?_⟩
  · refine (θ_run Cert.KernelIdeal.defs _ _).mono (fun r h c => ?_)
      (θ_run_and (Cert.KernelIdeal.Value.results m ρ) (Cert.KernelIdeal.Gen.unchanged m ρ))
    obtain ⟨r0, r1, r2, r3, r4, r5, r6, r7⟩ := h.1 c
    exact ⟨r0, r1, r2, r3, r4, r5, r6, r7, h.2 c⟩
  · refine (θ_run Cert.ReferenceIdeal.defs _ _).mono (fun r h c => ?_)
      (θ_run_and (Cert.ReferenceIdeal.Value.results m' ρ') (Cert.ReferenceIdeal.Gen.unchanged m' ρ'))
    have e := args_eq m m' c (hagree c)
    obtain ⟨r0, r1, r2, r3, r4, r5, r6, r7⟩ := h.1 c
    rw [e] at r0 r1 r2 r3 r4 r5 r6 r7
    exact ⟨r0, r1, r2, r3, r4, r5, r6, r7, h.2 c⟩

theorem claim : Cert.Claim := ⟨Cert.Kernel.Gen.facts, Cert.KernelIdeal.Gen.facts, Cert.ReferenceIdeal.Gen.facts,
  Cert.Attention.Gen.facts, Cert.AttentionIdeal.Gen.facts,
  fun m ρ _ => Cert.Kernel.Gen.frame m ρ, fun m ρ _ => Cert.KernelIdeal.Gen.frame m ρ,
  fun m ρ _ => Cert.ReferenceIdeal.Gen.frame m ρ,
  fun m ρ _ => Cert.Attention.Gen.frame m ρ, fun m ρ _ => Cert.AttentionIdeal.Gen.frame m ρ,
  trivial, algebraic, trivial⟩

end Cert.Proof

end
